-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "scale2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_v45) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v13) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "scale2" .f32 0x3DD53B95#32 (((Real.sqrt 192)⁻¹ * (Real.log 2)⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)) (v3 : (c : Dev Cert.Kernel7Ideal.nD) → Buf (Elt Ideal) ((c.tc : Thread Cert.Kernel7Ideal.nD Cert.Kernel7Ideal.τ).loc Cert.Kernel7Ideal.main_v11_3)) (v4 : (c : Dev Cert.Kernel7Ideal.nD) → Buf (Elt Ideal) ((c.tc : Thread Cert.Kernel7Ideal.nD Cert.Kernel7Ideal.τ).loc Cert.Kernel7Ideal.main_v11_4)) (v5 : (c : Dev Cert.Kernel7Ideal.nD) → Buf (Elt Ideal) ((c.tc : Thread Cert.Kernel7Ideal.nD Cert.Kernel7Ideal.τ).loc Cert.Kernel7Ideal.main_v11_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_v11_3) = v3 c
          ∧ r.2.mem ((c.tc : Thread Cert.Kernel7Ideal.nD Cert.Kernel7Ideal.τ).loc Cert.Kernel7Ideal.main_v11_4) = v4 c
          ∧ r.2.mem ((c.tc : Thread Cert.Kernel7Ideal.nD Cert.Kernel7Ideal.τ).loc Cert.Kernel7Ideal.main_v11_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v9) = v3 c
          ∧ r.2.mem ((c.tc : Thread Cert.Reference7Ideal.nD Cert.Reference7Ideal.τ).loc Cert.Reference7Ideal.main_v10) = v4 c
          ∧ r.2.mem ((c.tc : Thread Cert.Reference7Ideal.nD Cert.Reference7Ideal.τ).loc Cert.Reference7Ideal.main_v12) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v19_0)) (v1 : (c : Dev Cert.Kernel8Ideal.nD) → Buf (Elt Ideal) ((c.tc : Thread Cert.Kernel8Ideal.nD Cert.Kernel8Ideal.τ).loc Cert.Kernel8Ideal.main_v19_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19_0) = v0 c
          ∧ r.2.mem ((c.tc : Thread Cert.Kernel8Ideal.nD Cert.Kernel8Ideal.τ).loc Cert.Kernel8Ideal.main_v19_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S1x4096x4x192 : Shape := ⟨4, ![1, 4096, 4, 192]⟩
abbrev S1x4096x4x128 : Shape := ⟨4, ![1, 4096, 4, 128]⟩
abbrev S1x4096x512 : Shape := ⟨3, ![1, 4096, 512]⟩
abbrev S_ : Shape := ⟨0, ![]⟩

class Facts : Prop where
  bcast_S_S1x4096x4x192 : S_.BroadcastsInDim S1x4096x4x192 (![] : Fin 0 → Fin S1x4096x4x192.rank)
  bcast_S_S1x4096x4x128 : S_.BroadcastsInDim S1x4096x4x128 (![] : Fin 0 → Fin S1x4096x4x128.rank)
  bcast_S_S1x4096x512 : S_.BroadcastsInDim S1x4096x512 (![] : Fin 0 → Fin S1x4096x512.rank)

variable [Facts]

def fn {F : FTy → Type} [FloatOps F] (main_arg0 : FVec F S1x4096x4x192 .f32) (main_arg1 : FVec F S1x4096x4x192 .f32) (main_arg2 : FVec F S1x4096x4x128 .f32) (main_arg3 : FVec F S1x4096x512 .f32) : IVec S1x4096x4x192 1 × IVec S1x4096x4x192 1 × IVec S1x4096x4x128 1 × IVec S1x4096x512 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_v3 : FVec F S1x4096x4x192 .f32 := Host.absf main_arg1
  let main_cst_0 : FVec F S_ .f32 := constant S_ .f32 0x7F800000#32
  let main_v4 : FVec F S1x4096x4x192 .f32 := broadcastInDim S1x4096x4x192 ![] bcast_S_S1x4096x4x192 main_cst_0
  let main_v5 : IVec S1x4096x4x192 1 := cmpf .olt main_v3 main_v4
  let main_v6 : FVec F S1x4096x4x128 .f32 := Host.absf main_arg2
  let main_cst_1 : FVec F S_ .f32 := constant S_ .f32 0x7F800000#32
  let main_v7 : FVec F S1x4096x4x128 .f32 := broadcastInDim S1x4096x4x128 ![] bcast_S_S1x4096x4x128 main_cst_1
  let main_v8 : IVec S1x4096x4x128 1 := cmpf .olt main_v6 main_v7
  let main_v9 : FVec F S1x4096x512 .f32 := Host.absf main_arg3
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  (main_v2, main_v5, main_v8, main_v11)
-- ==== Pre_finite3.lean ====
abbrev S1x4096x1024 : Shape := ⟨3, ![1, 4096, 1024]⟩
abbrev S1x4096x2816 : Shape := ⟨3, ![1, 4096, 2816]⟩
abbrev S2816x1024 : Shape := ⟨2, ![2816, 1024]⟩
abbrev S_ : Shape := ⟨0, ![]⟩

class Facts : Prop where
  bcast_S_S1x4096x1024 : S_.BroadcastsInDim S1x4096x1024 (![] : Fin 0 → Fin S1x4096x1024.rank)
  bcast_S_S1x4096x2816 : S_.BroadcastsInDim S1x4096x2816 (![] : Fin 0 → Fin S1x4096x2816.rank)
  bcast_S_S2816x1024 : S_.BroadcastsInDim S2816x1024 (![] : Fin 0 → Fin S2816x1024.rank)

variable [Facts]

def fn {F : FTy → Type} [FloatOps F] (main_arg0 : FVec F S1x4096x1024 .f32) (main_arg1 : FVec F S1x4096x2816 .f32) (main_arg2 : FVec F S1x4096x2816 .f32) (main_arg3 : FVec F S2816x1024 .f32) : IVec S1x4096x1024 1 × IVec S1x4096x2816 1 × IVec S1x4096x2816 1 × IVec S2816x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x2816 .f32 := Host.absf main_arg1
  let main_cst_0 : FVec F S_ .f32 := constant S_ .f32 0x7F800000#32
  let main_v4 : FVec F S1x4096x2816 .f32 := broadcastInDim S1x4096x2816 ![] bcast_S_S1x4096x2816 main_cst_0
  let main_v5 : IVec S1x4096x2816 1 := cmpf .olt main_v3 main_v4
  let main_v6 : FVec F S1x4096x2816 .f32 := Host.absf main_arg2
  let main_cst_1 : FVec F S_ .f32 := constant S_ .f32 0x7F800000#32
  let main_v7 : FVec F S1x4096x2816 .f32 := broadcastInDim S1x4096x2816 ![] bcast_S_S1x4096x2816 main_cst_1
  let main_v8 : IVec S1x4096x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_finite6.lean ====
abbrev S1x4096x4x192 : Shape := ⟨4, ![1, 4096, 4, 192]⟩
abbrev S1x4096x4x128 : Shape := ⟨4, ![1, 4096, 4, 128]⟩
abbrev S_ : Shape := ⟨0, ![]⟩

class Facts : Prop where
  bcast_S_S1x4096x4x192 : S_.BroadcastsInDim S1x4096x4x192 (![] : Fin 0 → Fin S1x4096x4x192.rank)

variable [Facts]

def fn {F : FTy → Type} [FloatOps F] (main_arg0 : FVec F S1x4096x4x192 .f32) (main_arg1 : FVec F S1x4096x4x192 .f32) (main_arg2 : FVec F S1x4096x4x128 .f32) : IVec S1x4096x4x192 1 × IVec S1x4096x4x192 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_v3 : FVec F S1x4096x4x192 .f32 := Host.absf main_arg1
  let main_cst_0 : FVec F S_ .f32 := constant S_ .f32 0x7F800000#32
  let main_v4 : FVec F S1x4096x4x192 .f32 := broadcastInDim S1x4096x4x192 ![] bcast_S_S1x4096x4x192 main_cst_0
  let main_v5 : IVec S1x4096x4x192 1 := cmpf .olt main_v3 main_v4
  (main_v2, main_v5)
-- ==== Kernel.lean ====
abbrev S1x4096x4x192 : Shape := ⟨4, ![1, 4096, 4, 192]⟩
abbrev S1x4096x4x128 : Shape := ⟨4, ![1, 4096, 4, 128]⟩
abbrev S1x4096x512 : Shape := ⟨3, ![1, 4096, 512]⟩
abbrev S_ : Shape := ⟨0, ![]⟩
abbrev S1x4x4096x4096 : Shape := ⟨4, ![1, 4, 4096, 4096]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4096x512 : Shape := ⟨2, ![4096, 512]⟩
abbrev S4096x4x192 : Shape := ⟨3, ![4096, 4, 192]⟩
abbrev S4x4096x192 : Shape := ⟨3, ![4, 4096, 192]⟩
abbrev S4x4096x256 : Shape := ⟨3, ![4, 4096, 256]⟩
abbrev S4096x4x128 : Shape := ⟨3, ![4096, 4, 128]⟩
abbrev S4x4096x128 : Shape := ⟨3, ![4, 4096, 128]⟩
abbrev S8x128 : Shape := ⟨2, ![8, 128]⟩
abbrev S1x1024x256 : Shape := ⟨3, ![1, 1024, 256]⟩
abbrev S1x4096x256 : Shape := ⟨3, ![1, 4096, 256]⟩
abbrev S1x4096x128 : Shape := ⟨3, ![1, 4096, 128]⟩
abbrev S1024x128 : Shape := ⟨2, ![1024, 128]⟩
abbrev S1024x4096 : Shape := ⟨2, ![1024, 4096]⟩
abbrev S256x4096 : Shape := ⟨2, ![256, 4096]⟩
abbrev S128x4096 : Shape := ⟨2, ![128, 4096]⟩
abbrev S4096x256 : Shape := ⟨2, ![4096, 256]⟩
abbrev S4096x128 : Shape := ⟨2, ![4096, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S1024x256 : Shape := ⟨2, ![1024, 256]⟩

abbrev nBuf : Space → Nat
  | .hbm => 54
  | .vmem => 21
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4x4096x4096, .f32⟩
  | .hbm, ⟨9, _⟩ => ⟨S1x4x4096x4096, .f32⟩
  | .hbm, ⟨10, _⟩ => ⟨S1x4x4096x4096, .f32⟩
  | .hbm, ⟨11, _⟩ => ⟨S_, .f32⟩
  | .hbm, ⟨12, _⟩ => ⟨S1x4x4096, .f32⟩
  | .hbm, ⟨13, _⟩ => ⟨S_, .f32⟩
  | .hbm, ⟨14, _⟩ => ⟨S1x4x4096, .f32⟩
  | .hbm, ⟨15, _⟩ => ⟨S1x4x4096, .f32⟩
  | .hbm, ⟨16, _⟩ => ⟨S1x4x4096x1, .f32⟩
  | .hbm, ⟨17, _⟩ => ⟨S1x4x4096x4096, .f32⟩
  | .hbm, ⟨18, _⟩ => ⟨S1x4x4096x4096, .f32⟩
  | .hbm, ⟨19, _⟩ => ⟨S1x4x4096x4096, .f32⟩
  | .hbm, ⟨20, _⟩ => ⟨S_, .f32⟩
  | .hbm, ⟨21, _⟩ => ⟨S1x4x4096, .f32⟩
  | .hbm, ⟨22, _⟩ => ⟨S1x4x4096x1, .f32⟩
  | .hbm, ⟨23, _⟩ => ⟨S1x4x4096x4096, .f32⟩
  | .hbm, ⟨24, _⟩ => ⟨S1x4x4096x4096, .f32⟩
  | .hbm, ⟨25, _⟩ => ⟨S1x4x128x4096, .f32⟩
  | .hbm, ⟨26, _⟩ => ⟨S1x4096x4x128, .f32⟩
  | .hbm, ⟨27, _⟩ => ⟨S1x4096x512, .f32⟩
  | .hbm, ⟨28, _⟩ => ⟨S4096x512, .f32⟩
  | .hbm, ⟨29, _⟩ => ⟨S4096x4x192, .f32⟩
  | .hbm, ⟨30, _⟩ => ⟨S4x4096x192, .f32⟩
  | .hbm, ⟨31, _⟩ => ⟨S_, .i32⟩
  | .hbm, ⟨32, _⟩ => ⟨S_, .f32⟩
  | .hbm, ⟨33, _⟩ => ⟨S4x4096x256, .f32⟩
  | .hbm, ⟨34, _⟩ => ⟨S4x4096x256, .bf16⟩
  | .hbm, ⟨35, _⟩ => ⟨S4096x4x192, .f32⟩
  | .hbm, ⟨36, _⟩ => ⟨S4x4096x192, .f32⟩
  | .hbm, ⟨37, _⟩ => ⟨S_, .i32⟩
  | .hbm, ⟨38, _⟩ => ⟨S_, .f32⟩
  | .hbm, ⟨39, _⟩ => ⟨S4x4096x256, .f32⟩
  | .hbm, ⟨40, _⟩ => ⟨S4x4096x256, .bf16⟩
  | .hbm, ⟨41, _⟩ => ⟨S4096x4x128, .f32⟩
  | .hbm, ⟨42, _⟩ => ⟨S4x4096x128, .f32⟩
  | .hbm, ⟨43, _⟩ => ⟨S_, .i32⟩
  | .hbm, ⟨44, _⟩ => ⟨S_, .f32⟩
  | .hbm, ⟨45, _⟩ => ⟨S4x4096x128, .f32⟩
  | .hbm, ⟨46, _⟩ => ⟨S4x4096x128, .bf16⟩
  | .hbm, ⟨47, _⟩ => ⟨S4096x512, .f32⟩
  | .hbm, ⟨48, _⟩ => ⟨S4096x512, .bf16⟩
  | .hbm, ⟨49, _⟩ => ⟨S_, .f32⟩
  | .hbm, ⟨50, _⟩ => ⟨S8x128, .f32⟩
  | .hbm, ⟨51, _⟩ => ⟨S4x4096x256, .f32⟩
  | .hbm, ⟨52, _⟩ => ⟨S4x4096x256, .f32⟩
  | .hbm, ⟨53, _⟩ => ⟨S4x4096x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1x1024x256, .f32⟩
  | .local _ .vmem, ⟨11, _⟩ => ⟨S1x1024x256, .f32⟩
  | .local _ .vmem, ⟨12, _⟩ => ⟨S1x4096x256, .f32⟩
  | .local _ .vmem, ⟨13, _⟩ => ⟨S1x4096x256, .f32⟩
  | .local _ .vmem, ⟨14, _⟩ => ⟨S1x4096x128, .f32⟩
  | .local _ .vmem, ⟨15, _⟩ => ⟨S1x4096x128, .f32⟩
  | .local _ .vmem, ⟨16, _⟩ => ⟨S1024x4096, .bf16⟩
  | .local _ .vmem, ⟨17, _⟩ => ⟨S1024x4096, .bf16⟩
  | .local _ .vmem, ⟨18, _⟩ => ⟨S1024x128, .bf16⟩
  | .local _ .vmem, ⟨19, _⟩ => ⟨S256x4096, .f32⟩
  | .local _ .vmem, ⟨20, _⟩ => ⟨S128x4096, .f32⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_call1_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_call2_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev main_v35_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v224 : BitVec 1 := Scalar.cmpi .eq arg1 c3_i32
  let v225 : BitVec 32 := Scalar.extui v224
  let c0_i32_137 : BitVec 32 := 0#32
  let v226 : BitVec 1 := Scalar.cmpi .ne v225 c0_i32_137
  v226

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "scale" => some (((Real.sqrt 192)⁻¹ : ℝ) : EReal)
  | "scale2" => some (((Real.sqrt 192)⁻¹ * (Real.log 2)⁻¹ : ℝ) : EReal)
  | _ => none
-- ==== ReferenceIdeal.lean ====
abbrev S1x4096x4x192 : Shape := ⟨4, ![1, 4096, 4, 192]⟩
abbrev S1x4096x4x128 : Shape := ⟨4, ![1, 4096, 4, 128]⟩
abbrev S1x4096x512 : Shape := ⟨3, ![1, 4096, 512]⟩
abbrev S_ : Shape := ⟨0, ![]⟩
abbrev S1x4x4096x4096 : Shape := ⟨4, ![1, 4, 4096, 4096]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4x4096 : Shape := ⟨2, ![4, 4096]⟩
abbrev S1x4x4096x192 : Shape := ⟨4, ![1, 4, 4096, 192]⟩
abbrev S4096x4x192 : Shape := ⟨3, ![4096, 4, 192]⟩
abbrev S4x4096x192 : Shape := ⟨3, ![4, 4096, 192]⟩
abbrev S4x4096x256 : Shape := ⟨3, ![4, 4096, 256]⟩
abbrev S4096x4x128 : Shape := ⟨3, ![4096, 4, 128]⟩
abbrev S4x4096x128 : Shape := ⟨3, ![4, 4096, 128]⟩

abbrev nBuf : Space → Nat
  | .hbm => 90
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4x4096x4096, .f32⟩
  | .hbm, ⟨9, _⟩ => ⟨S1x4x4096x4096, .f32⟩
  | .hbm, ⟨10, _⟩ => ⟨S1x4x4096x4096, .f32⟩
  | .hbm, ⟨11, _⟩ => ⟨S_, .f32⟩
  | .hbm, ⟨12, _⟩ => ⟨S1x4x4096, .f32⟩
  | .hbm, ⟨13, _⟩ => ⟨S1x4x4096x1, .f32⟩
  | .hbm, ⟨14, _⟩ => ⟨S1x4x4096x4096, .f32⟩
  | .hbm, ⟨15, _⟩ => ⟨S1x4x4096x4096, .i1⟩
  | .hbm, ⟨16, _⟩ => ⟨S1x4x4096x4096, .f32⟩
  | .hbm, ⟨17, _⟩ => ⟨S_, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .f32⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S1x4x4096, .i1⟩
  | .hbm, ⟨28, _⟩ => ⟨S_, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S1x4x4096, .f32⟩
  | .hbm, ⟨35, _⟩ => ⟨S1x4x4096, .f32⟩
  | .hbm, ⟨36, _⟩ => ⟨S1x4x4096x1, .f32⟩
  | .hbm, ⟨37, _⟩ => ⟨S1x4x4096x4096, .f32⟩
  | .hbm, ⟨38, _⟩ => ⟨S1x4x4096x4096, .f32⟩
  | .hbm, ⟨39, _⟩ => ⟨S1x4x4096x4096, .f32⟩
  | .hbm, ⟨40, _⟩ => ⟨S_, .f32⟩
  | .hbm, ⟨41, _⟩ => ⟨S1x4x4096, .f32⟩
  | .hbm, ⟨42, _⟩ => ⟨S1x4x4096x1, .f32⟩
  | .hbm, ⟨43, _⟩ => ⟨S1x4x4096x4096, .f32⟩
  | .hbm, ⟨44, _⟩ => ⟨S1x4x4096x4096, .f32⟩
  | .hbm, ⟨45, _⟩ => ⟨S1x4x4096x1, .f32⟩
  | .hbm, ⟨46, _⟩ => ⟨S_, .f32⟩
  | .hbm, ⟨47, _⟩ => ⟨S1x4x4096x1, .f32⟩
  | .hbm, ⟨48, _⟩ => ⟨S1x4x4096x1, .f32⟩
  | .hbm, ⟨49, _⟩ => ⟨S1x4x128x4096, .f32⟩
  | .hbm, ⟨50, _⟩ => ⟨S1x4096x4x128, .f32⟩
  | .hbm, ⟨51, _⟩ => ⟨S1x4096x512, .f32⟩
  | .hbm, ⟨52, _⟩ => ⟨S1x4096x4x128, .f32⟩
  | .hbm, ⟨53, _⟩ => ⟨S1x4x128x4096, .f32⟩
  | .hbm, ⟨54, _⟩ => ⟨S1x4x4096x4096, .f32⟩
  | .hbm, ⟨55, _⟩ => ⟨S1x4x128x4096, .f32⟩
  | .hbm, ⟨56, _⟩ => ⟨S1x4096x4x128, .f32⟩
  | .hbm, ⟨57, _⟩ => ⟨S1x4x4096x4096, .f32⟩
  | .hbm, ⟨58, _⟩ => ⟨S1x4x4096x4096, .f32⟩
  | .hbm, ⟨59, _⟩ => ⟨S1x4x4096x4096, .f32⟩
  | .hbm, ⟨60, _⟩ => ⟨S_, .f32⟩
  | .hbm, ⟨61, _⟩ => ⟨S1x4x4096, .f32⟩
  | .hbm, ⟨62, _⟩ => ⟨S1x4x4096x1, .f32⟩
  | .hbm, ⟨63, _⟩ => ⟨S1x4x4096x1, .f32⟩
  | .hbm, ⟨64, _⟩ => ⟨S1x4x4096x4096, .f32⟩
  | .hbm, ⟨65, _⟩ => ⟨S1x4x4096x4096, .f32⟩
  | .hbm, ⟨66, _⟩ => ⟨S_, .f32⟩
  | .hbm, ⟨67, _⟩ => ⟨S4x4096, .f32⟩
  | .hbm, ⟨68, _⟩ => ⟨S1x4x4096, .f32⟩
  | .hbm, ⟨69, _⟩ => ⟨S1x4x4096x4096, .f32⟩
  | .hbm, ⟨70, _⟩ => ⟨S1x4x4096x4096, .f32⟩
  | .hbm, ⟨71, _⟩ => ⟨S1x4x4096x4096, .f32⟩
  | .hbm, ⟨72, _⟩ => ⟨S1x4x4096x4096, .f32⟩
  | .hbm, ⟨73, _⟩ => ⟨S1x4x4096x4096, .f32⟩
  | .hbm, ⟨74, _⟩ => ⟨S1x4x4096x192, .f32⟩
  | .hbm, ⟨75, _⟩ => ⟨S1x4096x4x192, .f32⟩
  | .hbm, ⟨76, _⟩ => ⟨S1x4x4096x192, .f32⟩
  | .hbm, ⟨77, _⟩ => ⟨S1x4096x4x192, .f32⟩
  | .hbm, ⟨78, _⟩ => ⟨S4096x4x192, .f32⟩
  | .hbm, ⟨79, _⟩ => ⟨S4x4096x192, .f32⟩
  | .hbm, ⟨80, _⟩ => ⟨S_, .i32⟩
  | .hbm, ⟨81, _⟩ => ⟨S_, .f32⟩
  | .hbm, ⟨82, _⟩ => ⟨S4x4096x256, .f32⟩
  | .hbm, ⟨83, _⟩ => ⟨S4096x4x192, .f32⟩
  | .hbm, ⟨84, _⟩ => ⟨S4x4096x192, .f32⟩
  | .hbm, ⟨85, _⟩ => ⟨S_, .i32⟩
  | .hbm, ⟨86, _⟩ => ⟨S_, .f32⟩
  | .hbm, ⟨87, _⟩ => ⟨S4x4096x256, .f32⟩
  | .hbm, ⟨88, _⟩ => ⟨S4096x4x128, .f32⟩
  | .hbm, ⟨89, _⟩ => ⟨S4x4096x128, .f32⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c : Ref sig .tc := ⟨.hbm, 80, rfl⟩
abbrev main_call0_v0 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_13 : Ref sig .tc := ⟨.hbm, 85, rfl⟩
abbrev main_call1_v0 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel2.lean ====
abbrev S1x4096x512 : Shape := ⟨3, ![1, 4096, 512]⟩
abbrev S1x4096x4x128 : Shape := ⟨4, ![1, 4096, 4, 128]⟩
abbrev S128 : Shape := ⟨1, ![128]⟩
abbrev S1x4096x1024 : Shape := ⟨3, ![1, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4096x512 : Shape := ⟨2, ![4096, 512]⟩
abbrev S_ : Shape := ⟨0, ![]⟩
abbrev S4096x3200 : Shape := ⟨2, ![4096, 3200]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S4096x1024 : Shape := ⟨2, ![4096, 1024]⟩
abbrev S1x1024 : Shape := ⟨2, ![1, 1024]⟩
abbrev S4096x2816 : Shape := ⟨2, ![4096, 2816]⟩
abbrev S512x512 : Shape := ⟨2, ![512, 512]⟩
abbrev S512x1024 : Shape := ⟨2, ![512, 1024]⟩
abbrev S512x2816 : Shape := ⟨2, ![512, 2816]⟩
abbrev S512x128 : Shape := ⟨2, ![512, 128]⟩
abbrev S512x1 : Shape := ⟨2, ![512, 1]⟩

abbrev nBuf : Space → Nat
  | .hbm => 34
  | .vmem => 24
  | .smem => 0
  | _ => 0

abbrev bufTy : (tb : Table) → Fin (tcTables nBuf tb) → BufTy
  | .hbm, ⟨0, _⟩ => ⟨S1x4096x512, .f32⟩
  | .hbm, ⟨1, _⟩ => ⟨S1x4096x4x128, .f32⟩
  | .hbm, ⟨2, _⟩ => ⟨S1x4096x512, .f32⟩
  | .hbm, ⟨3, _⟩ => ⟨S128, .f32⟩
  | .hbm, ⟨4, _⟩ => ⟨S1x4096x1024, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S4096x512, .f32⟩
  | .hbm, ⟨11, _⟩ => ⟨S_, .i32⟩
  | .hbm, ⟨12, _⟩ => ⟨S_, .f32⟩
  | .hbm, ⟨13, _⟩ => ⟨S4096x3200, .f32⟩
  | .hbm, ⟨14, _⟩ => ⟨S4096x512, .f32⟩
  | .hbm, ⟨15, _⟩ => ⟨S4096x512, .bf16⟩
  | .hbm, ⟨16, _⟩ => ⟨S4096x512, .f32⟩
  | .hbm, ⟨17, _⟩ => ⟨S1x128, .f32⟩
  | .hbm, ⟨18, _⟩ => ⟨S4x128, .f32⟩
  | .hbm, ⟨19, _⟩ => ⟨S512, .f32⟩
  | .hbm, ⟨20, _⟩ => ⟨S1x512, .f32⟩
  | .hbm, ⟨21, _⟩ => ⟨S4096x1024, .f32⟩
  | .hbm, ⟨22, _⟩ => ⟨S1024x1024, .bf16⟩
  | .hbm, ⟨23, _⟩ => ⟨S1x1024, .f32⟩
  | .hbm, ⟨24, _⟩ => ⟨S2816x1024, .f32⟩
  | .hbm, ⟨25, _⟩ => ⟨S2816x1024, .bf16⟩
  | .hbm, ⟨26, _⟩ => ⟨S2816x1024, .f32⟩
  | .hbm, ⟨27, _⟩ => ⟨S2816x1024, .bf16⟩
  | .hbm, ⟨28, _⟩ => ⟨S2816x1024, .bf16⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S4096x2816, .bf16⟩
  | .hbm, ⟨33, _⟩ => ⟨S4096x2816, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1x1024, .f32⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S1x4096x512 : Shape := ⟨3, ![1, 4096, 512]⟩
abbrev S1x4096x4x128 : Shape := ⟨4, ![1, 4096, 4, 128]⟩
abbrev S128 : Shape := ⟨1, ![128]⟩
abbrev S1x4096x1024 : Shape := ⟨3, ![1, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x4096x4 : Shape := ⟨3, ![1, 4096, 4]⟩
abbrev S1x4096x4x1 : Shape := ⟨4, ![1, 4096, 4, 1]⟩
abbrev S1x1x1x128 : Shape := ⟨4, ![1, 1, 1, 128]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4096x1024 : Shape := ⟨2, ![4096, 1024]⟩
abbrev S4096x2816 : Shape := ⟨2, ![4096, 2816]⟩

abbrev nBuf : Space → Nat
  | .hbm => 78
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x4x128, .f32⟩
  | .hbm, ⟨2, _⟩ => ⟨S1x4096x512, .f32⟩
  | .hbm, ⟨3, _⟩ => ⟨S128, .f32⟩
  | .hbm, ⟨4, _⟩ => ⟨S1x4096x1024, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x4096x4x128, .f32⟩
  | .hbm, ⟨11, _⟩ => ⟨S_, .f32⟩
  | .hbm, ⟨12, _⟩ => ⟨S1x4096x4, .f32⟩
  | .hbm, ⟨13, _⟩ => ⟨S1x4096x4x1, .f32⟩
  | .hbm, ⟨14, _⟩ => ⟨S_, .f32⟩
  | .hbm, ⟨15, _⟩ => ⟨S1x4096x4x1, .f32⟩
  | .hbm, ⟨16, _⟩ => ⟨S1x4096x4x1, .f32⟩
  | .hbm, ⟨17, _⟩ => ⟨S_, .f32⟩
  | .hbm, ⟨18, _⟩ => ⟨S1x4096x4x1, .f32⟩
  | .hbm, ⟨19, _⟩ => ⟨S1x4096x4x1, .f32⟩
  | .hbm, ⟨20, _⟩ => ⟨S1x4096x4x1, .f32⟩
  | .hbm, ⟨21, _⟩ => ⟨S1x4096x4x128, .f32⟩
  | .hbm, ⟨22, _⟩ => ⟨S1x4096x4x128, .f32⟩
  | .hbm, ⟨23, _⟩ => ⟨S1x1x1x128, .f32⟩
  | .hbm, ⟨24, _⟩ => ⟨S1x4096x4x128, .f32⟩
  | .hbm, ⟨25, _⟩ => ⟨S1x4096x4x128, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S_, .f32⟩
  | .hbm, ⟨30, _⟩ => ⟨S1x4096x512, .f32⟩
  | .hbm, ⟨31, _⟩ => ⟨S1x4096x512, .f32⟩
  | .hbm, ⟨32, _⟩ => ⟨S_, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S_, .f32⟩
  | .hbm, ⟨45, _⟩ => ⟨S1x4096x1, .f32⟩
  | .hbm, ⟨46, _⟩ => ⟨S1x4096x1, .f32⟩
  | .hbm, ⟨47, _⟩ => ⟨S_, .f32⟩
  | .hbm, ⟨48, _⟩ => ⟨S1x4096x1, .f32⟩
  | .hbm, ⟨49, _⟩ => ⟨S1x4096x1, .f32⟩
  | .hbm, ⟨50, _⟩ => ⟨S1x4096x1, .f32⟩
  | .hbm, ⟨51, _⟩ => ⟨S1x4096x1024, .f32⟩
  | .hbm, ⟨52, _⟩ => ⟨S1x4096x1024, .f32⟩
  | .hbm, ⟨53, _⟩ => ⟨S1x1x1024, .f32⟩
  | .hbm, ⟨54, _⟩ => ⟨S1x4096x1024, .f32⟩
  | .hbm, ⟨55, _⟩ => ⟨S1x4096x1024, .f32⟩
  | .hbm, ⟨56, _⟩ => ⟨S1x4096x2816, .f32⟩
  | .hbm, ⟨57, _⟩ => ⟨S1x4096x2816, .f32⟩
  | .hbm, ⟨58, _⟩ => ⟨S1x4096x2816, .f32⟩
  | .hbm, ⟨59, _⟩ => ⟨S1x4096x2816, .f32⟩
  | .hbm, ⟨60, _⟩ => ⟨S_, .f32⟩
  | .hbm, ⟨61, _⟩ => ⟨S1x4096x2816, .f32⟩
  | .hbm, ⟨62, _⟩ => ⟨S1x4096x2816, .f32⟩
  | .hbm, ⟨63, _⟩ => ⟨S_, .f32⟩
  | .hbm, ⟨64, _⟩ => ⟨S1x4096x2816, .f32⟩
  | .hbm, ⟨65, _⟩ => ⟨S1x4096x2816, .f32⟩
  | .hbm, ⟨66, _⟩ => ⟨S1x4096x2816, .f32⟩
  | .hbm, ⟨67, _⟩ => ⟨S1x4096x2816, .f32⟩
  | .hbm, ⟨68, _⟩ => ⟨S1x4096x1024, .f32⟩
  | .hbm, ⟨69, _⟩ => ⟨S1x4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S4096x1024, .f32⟩
  | .hbm, ⟨74, _⟩ => ⟨S4096x2816, .f32⟩
  | .hbm, ⟨75, _⟩ => ⟨S4096x2816, .bf16⟩
  | .hbm, ⟨76, _⟩ => ⟨S4096x2816, .f32⟩
  | .hbm, ⟨77, _⟩ => ⟨S4096x2816, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x4096x2816 : Shape := ⟨3, ![1, 4096, 2816]⟩
abbrev S2816x1024 : Shape := ⟨2, ![2816, 1024]⟩
abbrev S4096x1024 : Shape := ⟨2, ![4096, 1024]⟩
abbrev S4096x2816 : Shape := ⟨2, ![4096, 2816]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 13
  | .vmem => 15
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x4096x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S2816x1024, .bf16⟩
  | .hbm, ⟨10, _⟩ => ⟨S4096x2816, .bf16⟩
  | .hbm, ⟨11, _⟩ => ⟨S4096x2816, .bf16⟩
  | .hbm, ⟨12, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S1x4096x1024 : Shape := ⟨3, ![1, 4096, 1024]⟩
abbrev S1x4096x2816 : Shape := ⟨3, ![1, 4096, 2816]⟩
abbrev S2816x1024 : Shape := ⟨2, ![2816, 1024]⟩
abbrev S_ : Shape := ⟨0, ![]⟩
abbrev S1024x2816 : Shape := ⟨2, ![1024, 2816]⟩
abbrev S4096x2816 : Shape := ⟨2, ![4096, 2816]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x4096x2816, .f32⟩
  | .hbm, ⟨3, _⟩ => ⟨S2816x1024, .f32⟩
  | .hbm, ⟨4, _⟩ => ⟨S1x4096x2816, .f32⟩
  | .hbm, ⟨5, _⟩ => ⟨S1x4096x2816, .f32⟩
  | .hbm, ⟨6, _⟩ => ⟨S_, .f32⟩
  | .hbm, ⟨7, _⟩ => ⟨S1x4096x2816, .f32⟩
  | .hbm, ⟨8, _⟩ => ⟨S1x4096x2816, .f32⟩
  | .hbm, ⟨9, _⟩ => ⟨S_, .f32⟩
  | .hbm, ⟨10, _⟩ => ⟨S1x4096x2816, .f32⟩
  | .hbm, ⟨11, _⟩ => ⟨S1x4096x2816, .f32⟩
  | .hbm, ⟨12, _⟩ => ⟨S_, .f32⟩
  | .hbm, ⟨13, _⟩ => ⟨S1x4096x2816, .f32⟩
  | .hbm, ⟨14, _⟩ => ⟨S1x4096x2816, .f32⟩
  | .hbm, ⟨15, _⟩ => ⟨S1x4096x2816, .f32⟩
  | .hbm, ⟨16, _⟩ => ⟨S1x4096x2816, .f32⟩
  | .hbm, ⟨17, _⟩ => ⟨S1x4096x2816, .f32⟩
  | .hbm, ⟨18, _⟩ => ⟨S1x4096x1024, .f32⟩
  | .hbm, ⟨19, _⟩ => ⟨S1024x2816, .f32⟩
  | .hbm, ⟨20, _⟩ => ⟨S2816x1024, .f32⟩
  | .hbm, ⟨21, _⟩ => ⟨S1x4096x2816, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S1x4096x2816, .f32⟩
  | .hbm, ⟨27, _⟩ => ⟨S1x4096x2816, .f32⟩
  | .hbm, ⟨28, _⟩ => ⟨S4096x2816, .f32⟩
  | .hbm, ⟨29, _⟩ => ⟨S4096x2816, .bf16⟩
  | .hbm, ⟨30, _⟩ => ⟨S4096x2816, .f32⟩
  | .hbm, ⟨31, _⟩ => ⟨S4096x2816, .bf16⟩
  | .hbm, ⟨32, _⟩ => ⟨S2816x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x4096x2816 : Shape := ⟨3, ![1, 4096, 2816]⟩
abbrev S1024 : Shape := ⟨1, ![1024]⟩
abbrev S1024x2816 : Shape := ⟨2, ![1024, 2816]⟩
abbrev S4096x1024 : Shape := ⟨2, ![4096, 1024]⟩
abbrev S4096x2816 : Shape := ⟨2, ![4096, 2816]⟩
abbrev S1x1024 : Shape := ⟨2, ![1, 1024]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x2816, .f32⟩
  | .hbm, ⟨3, _⟩ => ⟨S1x4096x2816, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .bf16⟩
  | .hbm, ⟨11, _⟩ => ⟨S4096x2816, .f32⟩
  | .hbm, ⟨12, _⟩ => ⟨S4096x2816, .bf16⟩
  | .hbm, ⟨13, _⟩ => ⟨S1x1024, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S4096x1024, .f32⟩
  | .hbm, ⟨19, _⟩ => ⟨S4096x1024, .bf16⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S1x4096x1024 : Shape := ⟨3, ![1, 4096, 1024]⟩
abbrev S1x4096x2816 : Shape := ⟨3, ![1, 4096, 2816]⟩
abbrev S1024 : Shape := ⟨1, ![1024]⟩
abbrev S1024x2816 : Shape := ⟨2, ![1024, 2816]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x2816, .f32⟩
  | .hbm, ⟨3, _⟩ => ⟨S1x4096x2816, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x2816, .f32⟩
  | .hbm, ⟨28, _⟩ => ⟨S1x4096x2816, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S4096x1024, .f32⟩
  | .hbm, ⟨60, _⟩ => ⟨S1x4096x1024, .f32⟩
  | .hbm, ⟨61, _⟩ => ⟨S_, .f32⟩
  | .hbm, ⟨62, _⟩ => ⟨S1x4096, .f32⟩
  | .hbm, ⟨63, _⟩ => ⟨S1x4096x1, .f32⟩
  | .hbm, ⟨64, _⟩ => ⟨S_, .f32⟩
  | .hbm, ⟨65, _⟩ => ⟨S1x4096x1, .f32⟩
  | .hbm, ⟨66, _⟩ => ⟨S1x4096x1, .f32⟩
  | .hbm, ⟨67, _⟩ => ⟨S_, .f32⟩
  | .hbm, ⟨68, _⟩ => ⟨S1x4096x1, .f32⟩
  | .hbm, ⟨69, _⟩ => ⟨S1x4096x1, .f32⟩
  | .hbm, ⟨70, _⟩ => ⟨S1x4096x1, .f32⟩
  | .hbm, ⟨71, _⟩ => ⟨S1x4096x1024, .f32⟩
  | .hbm, ⟨72, _⟩ => ⟨S1x4096x1024, .f32⟩
  | .hbm, ⟨73, _⟩ => ⟨S1x1x1024, .f32⟩
  | .hbm, ⟨74, _⟩ => ⟨S1x4096x1024, .f32⟩
  | .hbm, ⟨75, _⟩ => ⟨S1x4096x1024, .f32⟩
  | .hbm, ⟨76, _⟩ => ⟨S4096x1024, .f32⟩
  | .hbm, ⟨77, _⟩ => ⟨S4096x1024, .bf16⟩
  | .hbm, ⟨78, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x4096x2816 : Shape := ⟨3, ![1, 4096, 2816]⟩
abbrev S4096x1024 : Shape := ⟨2, ![4096, 1024]⟩
abbrev S4096x2816 : Shape := ⟨2, ![4096, 2816]⟩
abbrev S2816x1024 : Shape := ⟨2, ![2816, 1024]⟩
abbrev S1024x512 : Shape := ⟨2, ![1024, 512]⟩
abbrev S1024x2816 : Shape := ⟨2, ![1024, 2816]⟩
abbrev S2816x512 : Shape := ⟨2, ![2816, 512]⟩
abbrev S512x2816 : Shape := ⟨2, ![512, 2816]⟩

abbrev nBuf : Space → Nat
  | .hbm => 11
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x4096x2816, .f32⟩
  | .hbm, ⟨3, _⟩ => ⟨S4096x1024, .f32⟩
  | .hbm, ⟨4, _⟩ => ⟨S4096x1024, .bf16⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S2816x1024, .bf16⟩
  | .hbm, ⟨10, _⟩ => ⟨S2816x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S2816x512, .bf16⟩
  | .local _ .vmem, ⟨7, _⟩ => ⟨S2816x512, .bf16⟩
  | .local _ .vmem, ⟨8, _⟩ => ⟨S2816x512, .bf16⟩
  | .local _ .vmem, ⟨9, _⟩ => ⟨S2816x512, .bf16⟩
  | .local _ .vmem, ⟨10, _⟩ => ⟨S512x2816, .f32⟩
  | .local _ .vmem, ⟨11, _⟩ => ⟨S512x2816, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2816x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S1x4096x1024 : Shape := ⟨3, ![1, 4096, 1024]⟩
abbrev S1x4096x2816 : Shape := ⟨3, ![1, 4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x4096x2816, .f32⟩
  | .hbm, ⟨3, _⟩ => ⟨S_, .f32⟩
  | .hbm, ⟨4, _⟩ => ⟨S1024x2816, .f32⟩
  | .hbm, ⟨5, _⟩ => ⟨S1x4096x2816, .f32⟩
  | .hbm, ⟨6, _⟩ => ⟨S1x4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S1x4096x4x192 : Shape := ⟨4, ![1, 4096, 4, 192]⟩
abbrev S1x4096x4x128 : Shape := ⟨4, ![1, 4096, 4, 128]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x4x128 : Shape := ⟨3, ![4096, 4, 128]⟩
abbrev S4x4096x128 : Shape := ⟨3, ![4, 4096, 128]⟩
abbrev S8x128 : Shape := ⟨2, ![8, 128]⟩
abbrev S4096x512 : Shape := ⟨2, ![4096, 512]⟩
abbrev S1x2048x256 : Shape := ⟨3, ![1, 2048, 256]⟩
abbrev S1x4096x256 : Shape := ⟨3, ![1, 4096, 256]⟩
abbrev S1x4096x128 : Shape := ⟨3, ![1, 4096, 128]⟩
abbrev S2048x128 : Shape := ⟨2, ![2048, 128]⟩
abbrev S1x256x256 : Shape := ⟨3, ![1, 256, 256]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩
abbrev S4096x128 : Shape := ⟨2, ![4096, 128]⟩
abbrev S256x128 : Shape := ⟨2, ![256, 128]⟩

abbrev nBuf : Space → Nat
  | .hbm => 25
  | .vmem => 10
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S4096x4x192, .f32⟩
  | .hbm, ⟨4, _⟩ => ⟨S4x4096x192, .f32⟩
  | .hbm, ⟨5, _⟩ => ⟨S_, .i32⟩
  | .hbm, ⟨6, _⟩ => ⟨S_, .f32⟩
  | .hbm, ⟨7, _⟩ => ⟨S4x4096x256, .f32⟩
  | .hbm, ⟨8, _⟩ => ⟨S4x4096x256, .bf16⟩
  | .hbm, ⟨9, _⟩ => ⟨S4096x4x192, .f32⟩
  | .hbm, ⟨10, _⟩ => ⟨S4x4096x192, .f32⟩
  | .hbm, ⟨11, _⟩ => ⟨S_, .i32⟩
  | .hbm, ⟨12, _⟩ => ⟨S_, .f32⟩
  | .hbm, ⟨13, _⟩ => ⟨S4x4096x256, .f32⟩
  | .hbm, ⟨14, _⟩ => ⟨S4x4096x256, .bf16⟩
  | .hbm, ⟨15, _⟩ => ⟨S4096x4x128, .f32⟩
  | .hbm, ⟨16, _⟩ => ⟨S4x4096x128, .f32⟩
  | .hbm, ⟨17, _⟩ => ⟨S_, .i32⟩
  | .hbm, ⟨18, _⟩ => ⟨S_, .f32⟩
  | .hbm, ⟨19, _⟩ => ⟨S4x4096x128, .f32⟩
  | .hbm, ⟨20, _⟩ => ⟨S4x4096x128, .bf16⟩
  | .hbm, ⟨21, _⟩ => ⟨S_, .f32⟩
  | .hbm, ⟨22, _⟩ => ⟨S8x128, .f32⟩
  | .hbm, ⟨23, _⟩ => ⟨S4096x512, .bf16⟩
  | .hbm, ⟨24, _⟩ => ⟨S4096x512, .f32⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "scale2" => some (((Real.sqrt 192)⁻¹ * (Real.log 2)⁻¹ : ℝ) : EReal)
  | _ => none
-- ==== Reference6Ideal.lean ====
abbrev S1x4096x4x192 : Shape := ⟨4, ![1, 4096, 4, 192]⟩
abbrev S1x4096x4x128 : Shape := ⟨4, ![1, 4096, 4, 128]⟩
abbrev S_ : Shape := ⟨0, ![]⟩
abbrev S1x4x4096x4096 : Shape := ⟨4, ![1, 4, 4096, 4096]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x512 : Shape := ⟨3, ![1, 4096, 512]⟩
abbrev S4096x512 : Shape := ⟨2, ![4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x4x4096x4096, .f32⟩
  | .hbm, ⟨8, _⟩ => ⟨S1x4x4096x4096, .f32⟩
  | .hbm, ⟨9, _⟩ => ⟨S1x4x4096x4096, .f32⟩
  | .hbm, ⟨10, _⟩ => ⟨S_, .f32⟩
  | .hbm, ⟨11, _⟩ => ⟨S1x4x4096, .f32⟩
  | .hbm, ⟨12, _⟩ => ⟨S_, .f32⟩
  | .hbm, ⟨13, _⟩ => ⟨S1x4x4096, .f32⟩
  | .hbm, ⟨14, _⟩ => ⟨S1x4x4096, .f32⟩
  | .hbm, ⟨15, _⟩ => ⟨S1x4x4096x1, .f32⟩
  | .hbm, ⟨16, _⟩ => ⟨S1x4x4096x4096, .f32⟩
  | .hbm, ⟨17, _⟩ => ⟨S1x4x4096x4096, .f32⟩
  | .hbm, ⟨18, _⟩ => ⟨S1x4x4096x4096, .f32⟩
  | .hbm, ⟨19, _⟩ => ⟨S_, .f32⟩
  | .hbm, ⟨20, _⟩ => ⟨S1x4x4096, .f32⟩
  | .hbm, ⟨21, _⟩ => ⟨S1x4x4096x1, .f32⟩
  | .hbm, ⟨22, _⟩ => ⟨S1x4x4096x4096, .f32⟩
  | .hbm, ⟨23, _⟩ => ⟨S1x4x4096x4096, .f32⟩
  | .hbm, ⟨24, _⟩ => ⟨S1x4x128x4096, .f32⟩
  | .hbm, ⟨25, _⟩ => ⟨S1x4096x4x128, .f32⟩
  | .hbm, ⟨26, _⟩ => ⟨S1x4096x512, .f32⟩
  | .hbm, ⟨27, _⟩ => ⟨S4096x512, .f32⟩
  | .hbm, ⟨28, _⟩ => ⟨S4096x512, .bf16⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S1x4096x1024 : Shape := ⟨3, ![1, 4096, 1024]⟩
abbrev S1x4096x3136 : Shape := ⟨3, ![1, 4096, 3136]⟩
abbrev S4096x1024 : Shape := ⟨2, ![4096, 1024]⟩
abbrev S4096x3136 : Shape := ⟨2, ![4096, 3136]⟩
abbrev S4096x512 : Shape := ⟨2, ![4096, 512]⟩
abbrev S4096x576 : Shape := ⟨2, ![4096, 576]⟩
abbrev S_ : Shape := ⟨0, ![]⟩
abbrev S4096x640 : Shape := ⟨2, ![4096, 640]⟩
abbrev S512x1024 : Shape := ⟨2, ![512, 1024]⟩
abbrev S640x1024 : Shape := ⟨2, ![640, 1024]⟩
abbrev S1024x1024 : Shape := ⟨2, ![1024, 1024]⟩
abbrev S1024x512 : Shape := ⟨2, ![1024, 512]⟩
abbrev S1024x640 : Shape := ⟨2, ![1024, 640]⟩

abbrev nBuf : Space → Nat
  | .hbm => 21
  | .vmem => 26
  | .smem => 0
  | _ => 0

abbrev bufTy : (tb : Table) → Fin (tcTables nBuf tb) → BufTy
  | .hbm, ⟨0, _⟩ => ⟨S1x4096x1024, .f32⟩
  | .hbm, ⟨1, _⟩ => ⟨S1x4096x3136, .f32⟩
  | .hbm, ⟨2, _⟩ => ⟨S4096x1024, .f32⟩
  | .hbm, ⟨3, _⟩ => ⟨S4096x1024, .bf16⟩
  | .hbm, ⟨4, _⟩ => ⟨S4096x3136, .f32⟩
  | .hbm, ⟨5, _⟩ => ⟨S4096x3136, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x576, .bf16⟩
  | .hbm, ⟨12, _⟩ => ⟨S_, .i32⟩
  | .hbm, ⟨13, _⟩ => ⟨S_, .bf16⟩
  | .hbm, ⟨14, _⟩ => ⟨S4096x640, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S640x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x640, .bf16⟩
  | .local _ .vmem, ⟨13, _⟩ => ⟨S1024x640, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S640x1024, .bf16⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x640, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_43 : BitVec 32 := 0#32
  let v55 : BitVec 1 := Scalar.cmpi .ne v54 c0_i32_43
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S640x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference7Ideal.lean ====
abbrev S1x4096x1024 : Shape := ⟨3, ![1, 4096, 1024]⟩
abbrev S1x4096x3136 : Shape := ⟨3, ![1, 4096, 3136]⟩
abbrev S_ : Shape := ⟨0, ![]⟩
abbrev S1024x3136 : Shape := ⟨2, ![1024, 3136]⟩
abbrev S3136x1024 : Shape := ⟨2, ![3136, 1024]⟩
abbrev S512x1024 : Shape := ⟨2, ![512, 1024]⟩
abbrev S576x1024 : Shape := ⟨2, ![576, 1024]⟩
abbrev S640x1024 : Shape := ⟨2, ![640, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x3136, .f32⟩
  | .hbm, ⟨2, _⟩ => ⟨S_, .f32⟩
  | .hbm, ⟨3, _⟩ => ⟨S1024x3136, .f32⟩
  | .hbm, ⟨4, _⟩ => ⟨S1x4096x3136, .f32⟩
  | .hbm, ⟨5, _⟩ => ⟨S3136x1024, .f32⟩
  | .hbm, ⟨6, _⟩ => ⟨S1024x3136, .f32⟩
  | .hbm, ⟨7, _⟩ => ⟨S3136x1024, .f32⟩
  | .hbm, ⟨8, _⟩ => ⟨S3136x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S576x1024, .bf16⟩
  | .hbm, ⟨15, _⟩ => ⟨S_, .i32⟩
  | .hbm, ⟨16, _⟩ => ⟨S_, .bf16⟩
  | .hbm, ⟨17, _⟩ => ⟨S640x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S1x4096x3136 : Shape := ⟨3, ![1, 4096, 3136]⟩
abbrev S1024x3136 : Shape := ⟨2, ![1024, 3136]⟩
abbrev S1x4096x1024 : Shape := ⟨3, ![1, 4096, 1024]⟩
abbrev S1024 : Shape := ⟨1, ![1024]⟩
abbrev S4096x3136 : Shape := ⟨2, ![4096, 3136]⟩
abbrev S4096x512 : Shape := ⟨2, ![4096, 512]⟩
abbrev S4096x576 : Shape := ⟨2, ![4096, 576]⟩
abbrev S_ : Shape := ⟨0, ![]⟩
abbrev S4096x640 : Shape := ⟨2, ![4096, 640]⟩
abbrev S3136x1024 : Shape := ⟨2, ![3136, 1024]⟩
abbrev S2560x1024 : Shape := ⟨2, ![2560, 1024]⟩
abbrev S576x1024 : Shape := ⟨2, ![576, 1024]⟩
abbrev S3200x1024 : Shape := ⟨2, ![3200, 1024]⟩
abbrev S4096x1024 : Shape := ⟨2, ![4096, 1024]⟩
abbrev S1x1024 : Shape := ⟨2, ![1, 1024]⟩
abbrev S512x512 : Shape := ⟨2, ![512, 512]⟩
abbrev S512x640 : Shape := ⟨2, ![512, 640]⟩
abbrev S512x1024 : Shape := ⟨2, ![512, 1024]⟩
abbrev S640x1024 : Shape := ⟨2, ![640, 1024]⟩
abbrev S512 : Shape := ⟨1, ![512]⟩
abbrev S512x1 : Shape := ⟨2, ![512, 1]⟩

abbrev nBuf : Space → Nat
  | .hbm => 30
  | .vmem => 26
  | .smem => 0
  | _ => 0

abbrev bufTy : (tb : Table) → Fin (tcTables nBuf tb) → BufTy
  | .hbm, ⟨0, _⟩ => ⟨S1x4096x3136, .f32⟩
  | .hbm, ⟨1, _⟩ => ⟨S1024x3136, .f32⟩
  | .hbm, ⟨2, _⟩ => ⟨S1x4096x1024, .f32⟩
  | .hbm, ⟨3, _⟩ => ⟨S1024, .f32⟩
  | .hbm, ⟨4, _⟩ => ⟨S1x4096x1024, .f32⟩
  | .hbm, ⟨5, _⟩ => ⟨S4096x3136, .f32⟩
  | .hbm, ⟨6, _⟩ => ⟨S4096x3136, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x576, .bf16⟩
  | .hbm, ⟨13, _⟩ => ⟨S_, .i32⟩
  | .hbm, ⟨14, _⟩ => ⟨S_, .bf16⟩
  | .hbm, ⟨15, _⟩ => ⟨S4096x640, .bf16⟩
  | .hbm, ⟨16, _⟩ => ⟨S1024x3136, .bf16⟩
  | .hbm, ⟨17, _⟩ => ⟨S3136x1024, .bf16⟩
  | .hbm, ⟨18, _⟩ => ⟨S2560x1024, .bf16⟩
  | .hbm, ⟨19, _⟩ => ⟨S3136x1024, .bf16⟩
  | .hbm, ⟨20, _⟩ => ⟨S576x1024, .bf16⟩
  | .hbm, ⟨21, _⟩ => ⟨S3136x1024, .bf16⟩
  | .hbm, ⟨22, _⟩ => ⟨S_, .i32⟩
  | .hbm, ⟨23, _⟩ => ⟨S_, .bf16⟩
  | .hbm, ⟨24, _⟩ => ⟨S3200x1024, .bf16⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x640, .bf16⟩
  | .local _ .vmem, ⟨11, _⟩ => ⟨S512x640, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S640x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | _, _ => ⟨S1x4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_9 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_10 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_11 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S640x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference8Ideal.lean ====
abbrev S1x4096x3136 : Shape := ⟨3, ![1, 4096, 3136]⟩
abbrev S1024x3136 : Shape := ⟨2, ![1024, 3136]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x3136, .f32⟩
  | .hbm, ⟨1, _⟩ => ⟨S1024x3136, .f32⟩
  | .hbm, ⟨2, _⟩ => ⟨S1x4096x1024, .f32⟩
  | .hbm, ⟨3, _⟩ => ⟨S1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x3136, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel9.lean ====
abbrev S1x4096x1024 : Shape := ⟨3, ![1, 4096, 1024]⟩
abbrev S1024 : Shape := ⟨1, ![1024]⟩
abbrev S1024x3136 : Shape := ⟨2, ![1024, 3136]⟩
abbrev S4096x1024 : Shape := ⟨2, ![4096, 1024]⟩
abbrev S1x1024 : Shape := ⟨2, ![1, 1024]⟩
abbrev S3136x1024 : Shape := ⟨2, ![3136, 1024]⟩
abbrev S2560x1024 : Shape := ⟨2, ![2560, 1024]⟩
abbrev S576x1024 : Shape := ⟨2, ![576, 1024]⟩
abbrev S_ : Shape := ⟨0, ![]⟩
abbrev S3200x1024 : Shape := ⟨2, ![3200, 1024]⟩
abbrev S4096x3200 : Shape := ⟨2, ![4096, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x3136, .f32⟩
  | .hbm, ⟨3, _⟩ => ⟨S4096x1024, .f32⟩
  | .hbm, ⟨4, _⟩ => ⟨S1x1024, .f32⟩
  | .hbm, ⟨5, _⟩ => ⟨S1024x3136, .bf16⟩
  | .hbm, ⟨6, _⟩ => ⟨S3136x1024, .bf16⟩
  | .hbm, ⟨7, _⟩ => ⟨S2560x1024, .bf16⟩
  | .hbm, ⟨8, _⟩ => ⟨S3136x1024, .bf16⟩
  | .hbm, ⟨9, _⟩ => ⟨S576x1024, .bf16⟩
  | .hbm, ⟨10, _⟩ => ⟨S3136x1024, .bf16⟩
  | .hbm, ⟨11, _⟩ => ⟨S_, .i32⟩
  | .hbm, ⟨12, _⟩ => ⟨S_, .bf16⟩
  | .hbm, ⟨13, _⟩ => ⟨S3200x1024, .bf16⟩
  | .hbm, ⟨14, _⟩ => ⟨S4096x1024, .bf16⟩
  | .hbm, ⟨15, _⟩ => ⟨S4096x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3200x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3200, .f32⟩
  | .local _ .vmem, ⟨7, _⟩ => ⟨S512x3200, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S1x4096x1024 : Shape := ⟨3, ![1, 4096, 1024]⟩
abbrev S1024 : Shape := ⟨1, ![1024]⟩
abbrev S1024x3136 : Shape := ⟨2, ![1024, 3136]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x3136 : Shape := ⟨3, ![1, 4096, 3136]⟩
abbrev S4096x3136 : Shape := ⟨2, ![4096, 3136]⟩
abbrev S4096x1024 : Shape := ⟨2, ![4096, 1024]⟩
abbrev S4096x2560 : Shape := ⟨2, ![4096, 2560]⟩
abbrev S4096x576 : Shape := ⟨2, ![4096, 576]⟩
abbrev S4096x64 : Shape := ⟨2, ![4096, 64]⟩
abbrev S4096x3200 : Shape := ⟨2, ![4096, 3200]⟩

abbrev nBuf : Space → Nat
  | .hbm => 28
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x3136, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1x4096x3136, .f32⟩
  | .hbm, ⟨20, _⟩ => ⟨S4096x3136, .f32⟩
  | .hbm, ⟨21, _⟩ => ⟨S4096x1024, .f32⟩
  | .hbm, ⟨22, _⟩ => ⟨S4096x1024, .bf16⟩
  | .hbm, ⟨23, _⟩ => ⟨S4096x2560, .f32⟩
  | .hbm, ⟨24, _⟩ => ⟨S4096x576, .f32⟩
  | .hbm, ⟨25, _⟩ => ⟨S_, .f32⟩
  | .hbm, ⟨26, _⟩ => ⟨S4096x64, .f32⟩
  | .hbm, ⟨27, _⟩ => ⟨S4096x3200, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Math.lean ====
/-
  The gradient of softmax attention over the real numbers, and the few facts about extended reals that carry a
  computation on finite arrays back to real numbers. Nothing here mentions the printed programs.

  One row of scores `s` has its largest entry `top s`, its weights before division `wt s j = exp ((s j - top s) * c)`
  and their sum `den s`. A row of the gradient with respect to the scores (before the factor `c`) is `grow s g δ`, where
  `g` is the gradient with respect to the softmax weights and `δ` is the weighted mean of `g`.
-/
module

public import Mathlib.Analysis.SpecialFunctions.Log.Basic
public import Mathlib.Analysis.SpecialFunctions.Pow.Real
public import Mathlib.Data.EReal.Operations
public import Idealize.ShloMosaic.PureOps.Ideal

@[expose] public section

noncomputable section

namespace Cert.Proof.Math

open Idealize.ShloMosaic
open scoped BigOperators

/-! ## Finite extended reals -/

/-- The embedding of the reals takes a finite sum to the sum of the embedded terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are real numbers is the sum of those numbers. -/
theorem sum_eq_coe {ι : Type*} [Fintype ι] {F : ι → EReal} {f : ι → ℝ} (h : ∀ i, F i = (f i : EReal)) :
    ∑ i, F i = ((∑ i, f i : ℝ) : EReal) := by
  rw [coe_sum]; exact Finset.sum_congr rfl fun i _ => h i

/-- A sum of products of real numbers. -/
theorem sum_mul_eq_coe {ι : Type*} [Fintype ι] {F G : ι → EReal} {f g : ι → ℝ} (hF : ∀ i, F i = (f i : EReal))
    (hG : ∀ i, G i = (g i : EReal)) : ∑ i, F i * G i = ((∑ i, f i * g i : ℝ) : EReal) :=
  sum_eq_coe fun i => by rw [hF, hG, EReal.coe_mul]

/-- Division of a real number by one that is not zero. -/
theorem div_coe (x y : ℝ) (hy : y ≠ 0) : Ideal.div (x : EReal) (y : EReal) = ((x * y⁻¹ : ℝ) : EReal) := by
  unfold Ideal.div
  rw [if_neg (by simpa using hy), EReal.coe_mul, EReal.coe_inv]

/-! ## One row of a softmax -/

/-- The factor by which the scores are scaled, one over the square root of the head's 192 features. -/
def c : ℝ := (Real.sqrt 192)⁻¹

theorem c_nonneg : 0 ≤ c := inv_nonneg.2 (Real.sqrt_nonneg _)

/-- The largest of a row of scores. -/
def top (s : Fin 4096 → ℝ) : ℝ := Finset.univ.sup' ⟨0, Finset.mem_univ _⟩ s
/-- A softmax weight before its division by the row's sum. -/
def wt (s : Fin 4096 → ℝ) (j : Fin 4096) : ℝ := Real.exp ((s j - top s) * c)
/-- The sum by which a row's weights are divided. -/
def den (s : Fin 4096 → ℝ) : ℝ := ∑ j, wt s j
/-- The product of two rows of features. -/
def dot {n : ℕ} (x y : Fin n → ℝ) : ℝ := ∑ d, x d * y d
/-- A row of the gradient with respect to the scores, the factor `c` left out. -/
def grow (s g : Fin 4096 → ℝ) (δ : ℝ) (j : Fin 4096) : ℝ := wt s j * ((g j - δ) * (den s)⁻¹)

theorem den_pos (s : Fin 4096 → ℝ) : 0 < den s :=
  Finset.sum_pos (fun j _ => Real.exp_pos _) ⟨0, Finset.mem_univ _⟩

theorem den_ne_zero (s : Fin 4096 → ℝ) : den s ≠ 0 := (den_pos s).ne'

/-- The largest of a row of real numbers, found from minus infinity. -/
theorem fold_max_coe (s : Fin 4096 → ℝ) :
    (Finset.univ : Finset (Fin 4096)).fold max (⊥ : EReal) (fun j => (s j : EReal)) = (top s : EReal) := by
  apply le_antisymm
  · rw [Finset.fold_max_le]
    exact ⟨bot_le, fun j hj => EReal.coe_le_coe_iff.2 (Finset.le_sup' s hj)⟩
  · obtain ⟨j, hj, h⟩ := Finset.exists_mem_eq_sup' (⟨0, Finset.mem_univ _⟩ : (Finset.univ : Finset (Fin 4096)).Nonempty) s
    rw [top, h, Finset.le_fold_max]
    exact Or.inr ⟨j, hj, le_rfl⟩

/-- Scaling every score by `c` scales the largest. -/
theorem top_scaled (s : Fin 4096 → ℝ) : top (fun j => s j * c) = top s * c := by
  apply le_antisymm
  · exact Finset.sup'_le _ _ fun j hj => mul_le_mul_of_nonneg_right (Finset.le_sup' s hj) c_nonneg
  · obtain ⟨j, hj, h⟩ := Finset.exists_mem_eq_sup' (⟨0, Finset.mem_univ _⟩ : (Finset.univ : Finset (Fin 4096)).Nonempty) s
    rw [top, top, h]
    exact Finset.le_sup' (fun j => s j * c) hj

/-- The kernel's weight, a power of two with `c / log 2` in the exponent. -/
theorem exp2_eq_wt (s : Fin 4096 → ℝ) (j : Fin 4096) :
    Real.rpow 2 ((s j - top s) * ((Real.sqrt 192)⁻¹ * (Real.log 2)⁻¹)) = wt s j := by
  have h2 : Real.log 2 ≠ 0 := (Real.log_pos one_lt_two).ne'
  show (2 : ℝ) ^ ((s j - top s) * ((Real.sqrt 192)⁻¹ * (Real.log 2)⁻¹)) = _
  rw [Real.rpow_def_of_pos two_pos, wt, c]
  congr 1
  field_simp

/-- The reference's weight, the exponential of a scaled score less the largest scaled score. -/
theorem exp_scaled_eq_wt (s : Fin 4096 → ℝ) (j : Fin 4096) : Real.exp (s j * c - top (fun j => s j * c)) = wt s j := by
  rw [top_scaled, wt, sub_mul]

/-! ## The gradient of one head -/

section Head

variable {n : ℕ} (q k : Fin 4096 → Fin n → ℝ) (v a : Fin 4096 → Fin 128 → ℝ)

/-- Row `i`'s scores. -/
def sc (i j : Fin 4096) : ℝ := dot (q i) (k j)
/-- The forward output. -/
def out (i : Fin 4096) (d : Fin 128) : ℝ := ∑ j, v j d * (wt (sc q k i) j * (den (sc q k i))⁻¹)
/-- The gradient with respect to the softmax weights. -/
def gw (i j : Fin 4096) : ℝ := dot (a i) (v j)
/-- The sum over the features of the output's gradient times the output. -/
def delta (i : Fin 4096) : ℝ := dot (a i) (out q k v i)
/-- The gradient with respect to the scores, the factor `c` left out. -/
def gs (i j : Fin 4096) : ℝ := grow (sc q k i) (gw v a i) (delta q k v a i) j
/-- The gradient with respect to the queries. -/
def gq (i : Fin 4096) (d : Fin n) : ℝ := (∑ j, gs q k v a i j * k j d) * c
/-- The gradient with respect to the keys. -/
def gk (j : Fin 4096) (d : Fin n) : ℝ := (∑ i, q i d * gs q k v a i j) * c
/-- The gradient with respect to the values. -/
def gv (j : Fin 4096) (d : Fin 128) : ℝ := ∑ i, a i d * (den (sc q k i))⁻¹ * wt (sc q k i) j

/-- `delta` is the mean of `gw` under the softmax weights. -/
theorem delta_eq (i : Fin 4096) : delta q k v a i = ∑ j, gw v a i j * (den (sc q k i))⁻¹ * wt (sc q k i) j := by
  unfold delta dot out gw dot
  simp only [Finset.mul_sum, Finset.sum_mul]
  rw [Finset.sum_comm]
  exact Finset.sum_congr rfl fun j _ => Finset.sum_congr rfl fun d _ => by ring

/-- The gradient with respect to the scores as the derivative of a quotient gives it. -/
theorem gs_eq (i j : Fin 4096) :
    (gw v a i j * (den (sc q k i))⁻¹
        + -(∑ j', gw v a i j' * (den (sc q k i) * den (sc q k i))⁻¹ * wt (sc q k i) j')) * wt (sc q k i) j
      = gs q k v a i j := by
  have hL := den_ne_zero (sc q k i)
  unfold gs grow
  rw [delta_eq]
  have h : ∑ j', gw v a i j' * (den (sc q k i) * den (sc q k i))⁻¹ * wt (sc q k i) j'
      = (∑ j', gw v a i j' * (den (sc q k i))⁻¹ * wt (sc q k i) j') * (den (sc q k i))⁻¹ := by
    rw [Finset.sum_mul]
    refine Finset.sum_congr rfl fun j' _ => ?_
    rw [mul_inv]; ring
  rw [h]; ring

end Head

/-! ## Features filled up with zeros -/

/-- A row of 192 features in 256 places, zeros behind. -/
def fill (x : Fin 192 → ℝ) (d : Fin 256) : ℝ := if h : d.val < 192 then x ⟨d.val, h⟩ else 0

theorem sum_fill_mul (x : Fin 192 → ℝ) (y : Fin 256 → ℝ) :
    ∑ d : Fin 256, fill x d * y d = ∑ d : Fin 192, x d * y ⟨d.val, by omega⟩ := by
  have h := Fin.sum_univ_add (a := 192) (b := 64) (fun d : Fin (192 + 64) => fill x d * y d)
  refine h.trans ?_
  rw [Finset.sum_eq_zero (s := (Finset.univ : Finset (Fin 64))), add_zero]
  · refine Finset.sum_congr rfl fun d _ => ?_
    have hd : (Fin.castAdd 64 d : Fin 256).val < 192 := d.isLt
    rw [fill, dif_pos hd]; rfl
  · intro d _
    have hd : ¬ (Fin.natAdd 192 d : Fin 256).val < 192 := by simp
    rw [fill, dif_neg hd, zero_mul]

theorem dot_fill (x y : Fin 192 → ℝ) : dot (fill x) (fill y) = dot x y := by
  unfold dot
  rw [sum_fill_mul]
  refine Finset.sum_congr rfl fun d _ => ?_
  rw [fill, dif_pos d.isLt]

theorem sc_fill (q k : Fin 4096 → Fin 192 → ℝ) : sc (fun i => fill (q i)) (fun i => fill (k i)) = sc q k := by
  funext i j; exact dot_fill _ _

theorem gs_fill (q k : Fin 4096 → Fin 192 → ℝ) (v a : Fin 4096 → Fin 128 → ℝ) :
    gs (fun i => fill (q i)) (fun i => fill (k i)) v a = gs q k v a := by
  funext i j; unfold gs delta out; rw [sc_fill]

theorem gq_fill (q k : Fin 4096 → Fin 192 → ℝ) (v a : Fin 4096 → Fin 128 → ℝ) (i : Fin 4096) (d : Fin 256) :
    gq (fun i => fill (q i)) (fun i => fill (k i)) v a i d = fill (gq q k v a i) d := by
  unfold gq; rw [gs_fill]; by_cases h : d.val < 192 <;> simp [fill, h]

theorem gk_fill (q k : Fin 4096 → Fin 192 → ℝ) (v a : Fin 4096 → Fin 128 → ℝ) (i : Fin 4096) (d : Fin 256) :
    gk (fun i => fill (q i)) (fun i => fill (k i)) v a i d = fill (gk q k v a i) d := by
  unfold gk; rw [gs_fill]; by_cases h : d.val < 192 <;> simp [fill, h]

theorem gv_fill (q k : Fin 4096 → Fin 192 → ℝ) (a : Fin 4096 → Fin 128 → ℝ) :
    gv (fun i => fill (q i)) (fun i => fill (k i)) a = gv q k a := by
  funext j d; unfold gv; rw [sc_fill]

/-! ## Four blocks of rows -/

/-- Row `r` of block `b`, of four blocks of 1,024 rows. -/
def row (b : Fin 4) (r : Fin 1024) : Fin 4096 := ⟨1024 * b.val + r.val, by omega⟩

/-- A sum over the rows is the sum over the four blocks, one after the other. -/
theorem sum_rows (f : Fin 4096 → ℝ) :
    ∑ i, f i = ((∑ r, f (row 0 r) + ∑ r, f (row 1 r)) + ∑ r, f (row 2 r)) + ∑ r, f (row 3 r) := by
  have h := Equiv.sum_comp (finProdFinEquiv (m := 4) (n := 1024)) f
  rw [← h, Fintype.sum_prod_type, Fin.sum_univ_four]
  have e : ∀ (b : Fin 4) (r : Fin 1024), (finProdFinEquiv (b, r) : Fin (4 * 1024)) = row b r := fun b r =>
    Fin.ext (by simp [finProdFinEquiv, row]; omega)
  simp only [e]

end Cert.Proof.Math

end
-- ==== Proof.Ops.lean ====
/-
  What the values inside the kernel's body are when the blocks it works on hold real numbers: every named value of the
  body, read at an index, is a real expression of `Math`. The body treats its 1,024 query rows in four groups of 256;
  the four groups compute the same functions, so the lemmas are stated once.
-/
module

public import proofs.«01_k».proof.Proof.Math
public import proofs.«01_k».proof.Proof.Gen.KernelIdeal.Skeleton
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws
public import Idealize.ShloMosaic.PureOps.IdealRules

@[expose] public section

set_option maxRecDepth 16384

noncomputable section

namespace Cert.Proof.Ops

open Idealize.ShloMosaic Idealize.ShloMosaic.ValueIdx Cert.KernelIdeal Cert.KernelIdeal.Gen Cert.Proof.Math
open scoped BigOperators

/-! ## Constants -/

theorem zero_f32 : (FloatOps.ofBits (F := Ideal) .f32 0x00000000#32 : EReal) = 0 := Ideal.ofBits_zero_f32

theorem one_f32 : (FloatOps.ofBits (F := Ideal) .f32 0x3F800000#32 : EReal) = ((1 : ℝ) : EReal) := by
  show Ideal.ofBits .f32 0x3F800000#32 = _
  simp [Ideal.ofBits, Ideal.ieee]
  rw [← EReal.coe_mul]
  norm_num

theorem neg_inf_f32 : (FloatOps.ofBits (F := Ideal) .f32 0xFF800000#32 : EReal) = ⊥ := by
  show Ideal.ofBits .f32 0xFF800000#32 = _
  simp [Ideal.ofBits, Ideal.ieee]

theorem scale_value : (Named.named (F := Ideal) κ "scale" (φ := .f32) 0x3D93CD3A#32 : EReal) = (c : EReal) :=
  IdealRules.named_const.ideal_named_scalar _ _ _ _ rfl

theorem scale2_value : (Named.named (F := Ideal) κ "scale2" (φ := .f32) 0x3DD53B95#32 : EReal)
    = (((Real.sqrt 192)⁻¹ * (Real.log 2)⁻¹ : ℝ) : EReal) :=
  IdealRules.named_const.ideal_named_scalar _ _ _ _ rfl

/-! ## The five products -/

/-- Scores: the product of a query row with a key row. -/
theorem scores_apply (Q : FVec Ideal S256x256 .bf16) (K : FVec Ideal S4096x256 .bf16) (q : Fin 256 → Fin 256 → ℝ)
    (k : Fin 4096 → Fin 256 → ℝ) (hQ : ∀ r d, Q (ix2 r d) = (q r d : EReal)) (hK : ∀ j d, K (ix2 j d) = (k j d : EReal))
    (r : Fin 256) (j : Fin 4096) :
    matmul dot_S256x256_S4096x256_S256x4096_1_1_0_0_n_n none Q K (constant S256x4096 .f32 0x00000000#32) (ix2 r j)
      = (dot (q r) (k j) : EReal) := by
  show FloatOps.matmul (DotDims.transposedRhs 256 256 4096) none Q K _ (ix2 r j) = _
  rw [Ideal.matmul_transposedRhs_apply]
  show FloatOps.ofBits (F := Ideal) .f32 0x00000000#32 + _ = _
  rw [zero_f32, zero_add]
  exact sum_mul_eq_coe (hQ r) (hK j)

/-- The gradient with respect to the softmax weights: the product of a row of the output's gradient with a value row. -/
theorem grads_apply (A : FVec Ideal S256x128 .bf16) (V : FVec Ideal S4096x128 .bf16) (a : Fin 256 → Fin 128 → ℝ)
    (v : Fin 4096 → Fin 128 → ℝ) (hA : ∀ r d, A (ix2 r d) = (a r d : EReal)) (hV : ∀ j d, V (ix2 j d) = (v j d : EReal))
    (r : Fin 256) (j : Fin 4096) :
    matmul dot_S256x128_S4096x128_S256x4096_1_1_0_0_n_n none A V (constant S256x4096 .f32 0x00000000#32) (ix2 r j)
      = (dot (a r) (v j) : EReal) := by
  show FloatOps.matmul (DotDims.transposedRhs 256 128 4096) none A V _ (ix2 r j) = _
  rw [Ideal.matmul_transposedRhs_apply]
  show FloatOps.ofBits (F := Ideal) .f32 0x00000000#32 + _ = _
  rw [zero_f32, zero_add]
  exact sum_mul_eq_coe (hA r) (hV j)

/-- A sum over the rows of a block: a query feature times a row of the scores' gradient. -/
theorem keyProduct_apply (Q : FVec Ideal S1024x256 .bf16) (D : FVec Ideal S1024x4096 .bf16) (q : Fin 1024 → Fin 256 → ℝ)
    (g : Fin 1024 → Fin 4096 → ℝ) (hQ : ∀ r d, Q (ix2 r d) = (q r d : EReal)) (hD : ∀ r j, D (ix2 r j) = (g r j : EReal))
    (d : Fin 256) (j : Fin 4096) :
    matmul dot_S1024x256_S1024x4096_S256x4096_0_0_1_1_n_n none Q D (constant S256x4096 .f32 0x00000000#32) (ix2 d j)
      = ((∑ r, q r d * g r j : ℝ) : EReal) := by
  refine (Ideal.matmul_constant_zero_apply dot_S1024x256_S1024x4096_S256x4096_0_0_1_1_n_n none Q D (ix2 d j)).trans ?_
  rw [← Equiv.sum_comp (contrEquiv1 dot_S1024x256_S1024x4096_S256x4096_0_0_1_1_n_n 1024 rfl rfl).symm]
  refine sum_mul_eq_coe (fun r => ?_) (fun r => ?_)
  · rw [← hQ]
    refine congrArg Q (funext fun x => Fin.ext ?_)
    match x with
    | ⟨0, _⟩ => exact contrEquiv1_symm_val dot_S1024x256_S1024x4096_S256x4096_0_0_1_1_n_n 1024 rfl rfl r
    | ⟨1, _⟩ => rfl
  · rw [← hD]
    refine congrArg D (funext fun x => Fin.ext ?_)
    match x with
    | ⟨0, _⟩ => exact contrEquiv1_symm_val dot_S1024x256_S1024x4096_S256x4096_0_0_1_1_n_n 1024 rfl rfl r
    | ⟨1, _⟩ => rfl

/-- A sum over the rows of a block: a feature of the output's gradient times a weight. -/
theorem valueProduct_apply (A : FVec Ideal S1024x128 .bf16) (P : FVec Ideal S1024x4096 .bf16) (a : Fin 1024 → Fin 128 → ℝ)
    (p : Fin 1024 → Fin 4096 → ℝ) (hA : ∀ r d, A (ix2 r d) = (a r d : EReal)) (hP : ∀ r j, P (ix2 r j) = (p r j : EReal))
    (d : Fin 128) (j : Fin 4096) :
    matmul dot_S1024x128_S1024x4096_S128x4096_0_0_1_1_n_n none A P (constant S128x4096 .f32 0x00000000#32) (ix2 d j)
      = ((∑ r, a r d * p r j : ℝ) : EReal) := by
  refine (Ideal.matmul_constant_zero_apply dot_S1024x128_S1024x4096_S128x4096_0_0_1_1_n_n none A P (ix2 d j)).trans ?_
  rw [← Equiv.sum_comp (contrEquiv1 dot_S1024x128_S1024x4096_S128x4096_0_0_1_1_n_n 1024 rfl rfl).symm]
  refine sum_mul_eq_coe (fun r => ?_) (fun r => ?_)
  · rw [← hA]
    refine congrArg A (funext fun x => Fin.ext ?_)
    match x with
    | ⟨0, _⟩ => exact contrEquiv1_symm_val dot_S1024x128_S1024x4096_S128x4096_0_0_1_1_n_n 1024 rfl rfl r
    | ⟨1, _⟩ => rfl
  · rw [← hP]
    refine congrArg P (funext fun x => Fin.ext ?_)
    match x with
    | ⟨0, _⟩ => exact contrEquiv1_symm_val dot_S1024x128_S1024x4096_S128x4096_0_0_1_1_n_n 1024 rfl rfl r
    | ⟨1, _⟩ => rfl

/-! ## Reductions along a row, kept as a column -/

theorem lift_4096 (r : Fin 256) (j : Fin 4096) : (reduces_S256x4096_S256).lift (ix1 r) j = ix2 r j := by
  funext x; match x with | 0 => rfl | 1 => rfl

theorem lift_128 (r : Fin 256) (j : Fin 128) : (reduces_S256x128_S256).lift (ix1 r) j = ix2 r j := by
  funext x; match x with | 0 => rfl | 1 => rfl

/-- The largest entry of a row, as a column. -/
theorem rowMax_apply (x : FVec Ideal S256x4096 .f32) (s : Fin 256 → Fin 4096 → ℝ) (hx : ∀ r j, x (ix2 r j) = (s r j : EReal))
    (r : Fin 256) (u : Fin 1) :
    shapeCast S256x1 (multiReduction .maximumf [1] S256 x 0xFF800000#32 reduces_S256x4096_S256 (.inl rfl) rfl)
      shapeCasts_S256_S256x1 (ix2 r u) = (top (s r) : EReal) := by
  rw [shapeCast_a_a1_apply]
  refine (Ideal.multiReduction_maximumf_single _ _ _ _ _ _).trans ?_
  rw [neg_inf_f32, ← fold_max_coe]
  exact congrArg (Finset.fold max ⊥ · Finset.univ) (funext fun j => (congrArg x (lift_4096 r j)).trans (hx r j))

/-- The sum of a row, as a column. -/
theorem rowSum_apply (x : FVec Ideal S256x4096 .f32) (s : Fin 256 → Fin 4096 → ℝ) (hx : ∀ r j, x (ix2 r j) = (s r j : EReal))
    (r : Fin 256) (u : Fin 1) :
    shapeCast S256x1 (multiReduction .add [1] S256 x 0x00000000#32 reduces_S256x4096_S256 (.inl rfl) rfl)
      shapeCasts_S256_S256x1 (ix2 r u) = ((∑ j, s r j : ℝ) : EReal) := by
  rw [shapeCast_a_a1_apply]
  refine (Ideal.multiReduction_add_single _ _ _ _ _ _).trans ?_
  exact sum_eq_coe (ι := Fin 4096) fun j => (congrArg x (lift_4096 r j)).trans (hx r j)

/-- The same for a row of 128 features. -/
theorem rowSum128_apply (x : FVec Ideal S256x128 .f32) (s : Fin 256 → Fin 128 → ℝ) (hx : ∀ r j, x (ix2 r j) = (s r j : EReal))
    (r : Fin 256) (u : Fin 1) :
    shapeCast S256x1 (multiReduction .add [1] S256 x 0x00000000#32 reduces_S256x128_S256 (.inl rfl) rfl)
      shapeCasts_S256_S256x1 (ix2 r u) = ((∑ j, s r j : ℝ) : EReal) := by
  rw [shapeCast_a_a1_apply]
  refine (Ideal.multiReduction_add_single _ _ _ _ _ _).trans ?_
  exact sum_eq_coe (ι := Fin 128) fun j => (congrArg x (lift_128 r j)).trans (hx r j)

/-- A column spread over 4,096 lanes. -/
theorem spread4096_apply (x : FVec Ideal S256x1 .f32) (r : Fin 256) (j : Fin 4096) :
    broadcastTo S256x4096 x broadcasts_S256x1_S256x4096 (ix2 r j) = x (ix2 r 0) :=
  broadcastTo_apply x _ _ _ (by intro a; match a with | 0 => rfl | 1 => rfl)

/-- A column spread over 128 lanes. -/
theorem spread128_apply (x : FVec Ideal S256x1 .f32) (r : Fin 256) (j : Fin 128) :
    broadcastTo S256x128 x broadcasts_S256x1_S256x128 (ix2 r j) = x (ix2 r 0) :=
  broadcastTo_apply x _ _ _ (by intro a; match a with | 0 => rfl | 1 => rfl)

/-! ## One group of 256 query rows

The group's query rows are `q`, the rows of the output's gradient `a` and of the forward output `o`; all keys are `k`, all
values `v`. -/

section Group

variable (Q : Vec Ideal S1x256x256 .bf16) (K : FVec Ideal S4096x256 .bf16) (V : FVec Ideal S4096x128 .bf16)
  (A : Vec Ideal S256x128 .bf16) (O : Vec Ideal S256x128 .f32)
  (q : Fin 256 → Fin 256 → ℝ) (k : Fin 4096 → Fin 256 → ℝ) (v : Fin 4096 → Fin 128 → ℝ) (a o : Fin 256 → Fin 128 → ℝ)

/-- The scores of row `r` of a block of query rows. -/
def rowScores {m : ℕ} (q : Fin m → Fin 256 → ℝ) (k : Fin 4096 → Fin 256 → ℝ) (r : Fin m) : Fin 4096 → ℝ := fun j => dot (q r) (k j)

/-- The weights before division. -/
theorem weights_apply (hQ : ∀ r d, Q (ix3 0 r d) = (q r d : EReal)) (hK : ∀ j d, K (ix2 j d) = (k j d : EReal))
    (r : Fin 256) (j : Fin 4096) : k0_pay18 K Q (ix2 r j) = (wt (rowScores q k r) j : EReal) := by
  have hQ' : ∀ r d, shapeCast S256x256 Q shapeCasts_S1x256x256_S256x256 (ix2 r d) = (q r d : EReal) := fun r d => by
    rw [shapeCast_1ab_ab_apply]; exact hQ r d
  have hS := scores_apply _ K q k hQ' hK
  have hM := rowMax_apply _ (rowScores q k) hS r 0
  unfold k0_pay18
  show Ideal.exp2 ((_ - broadcastTo S256x4096 _ broadcasts_S256x1_S256x4096 (ix2 r j)) * Named.named (F := Ideal) κ "scale2" _) = _
  rw [spread4096_apply, hS, hM, scale2_value, ← EReal.coe_sub, ← EReal.coe_mul, Ideal.exp2_coe]
  exact congrArg _ (exp2_eq_wt (rowScores q k r) j)

/-- The sum of a row's weights. -/
theorem sums_apply (hQ : ∀ r d, Q (ix3 0 r d) = (q r d : EReal)) (hK : ∀ j d, K (ix2 j d) = (k j d : EReal))
    (r : Fin 256) (u : Fin 1) : k0_pay19 K Q (ix2 r u) = (den (rowScores q k r) : EReal) :=
  rowSum_apply _ (fun r => wt (rowScores q k r)) (weights_apply Q K q k hQ hK) r u

/-- One over that sum. -/
theorem inv_apply (hQ : ∀ r d, Q (ix3 0 r d) = (q r d : EReal)) (hK : ∀ j d, K (ix2 j d) = (k j d : EReal))
    (r : Fin 256) (u : Fin 1) : k0_pay20 (k0_pay19 K Q) (ix2 r u) = ((den (rowScores q k r))⁻¹ : EReal) := by
  show Ideal.div (FloatOps.ofBits (F := Ideal) .f32 0x3F800000#32) (k0_pay19 K Q (ix2 r u)) = _
  rw [sums_apply Q K q k hQ hK, one_f32, div_coe _ _ (den_ne_zero _), one_mul, EReal.coe_inv]

/-- The weights as they are kept. -/
theorem kept_apply (hQ : ∀ r d, Q (ix3 0 r d) = (q r d : EReal)) (hK : ∀ j d, K (ix2 j d) = (k j d : EReal))
    (r : Fin 256) (j : Fin 4096) : k0_pay21 (k0_pay18 K Q) (ix2 r j) = (wt (rowScores q k r) j : EReal) := by
  unfold k0_pay21
  rw [shapeCast_self]
  exact weights_apply Q K q k hQ hK r j

/-- A row of the gradient with respect to the scores, of a block of query rows. -/
def rowGrad {m : ℕ} (q : Fin m → Fin 256 → ℝ) (k : Fin 4096 → Fin 256 → ℝ) (v : Fin 4096 → Fin 128 → ℝ)
    (a o : Fin m → Fin 128 → ℝ) (r : Fin m) : Fin 4096 → ℝ := grow (rowScores q k r) (fun j => dot (a r) (v j)) (dot (a r) (o r))

/-- The gradient with respect to the scores, the factor `c` left out. -/
theorem scoreGrad_apply (hQ : ∀ r d, Q (ix3 0 r d) = (q r d : EReal)) (hK : ∀ j d, K (ix2 j d) = (k j d : EReal))
    (hV : ∀ j d, V (ix2 j d) = (v j d : EReal)) (hA : ∀ r d, A (ix2 r d) = (a r d : EReal))
    (hO : ∀ r d, O (ix2 r d) = (o r d : EReal)) (P : Vec Ideal S256x4096 .bf16)
    (hP : ∀ r j, P (ix2 r j) = (wt (rowScores q k r) j : EReal)) (r : Fin 256) (j : Fin 4096) :
    k0_pay24 V (k0_pay19 K Q) A O P (ix2 r j) = (rowGrad q k v a o r j : EReal) := by
  have hA' : ∀ r d, k0_pay22 A (ix2 r d) = (a r d : EReal) := fun r d => by
    unfold k0_pay22; rw [shapeCast_self]; exact hA r d
  have hD := rowSum128_apply (mulf (k0_pay23 A) (shapeCast S256x128 O shapeCasts_S256x128_S256x128))
    (fun r d => a r d * o r d) (fun r d => by
      rw [shapeCast_self, EReal.coe_mul, ← hA' r d, ← hO r d]; rfl) r 0
  have hG := grads_apply _ V a v hA' hV r j
  unfold k0_pay24
  rw [shapeCast_self]
  show P (ix2 r j) * ((_ - broadcastTo S256x4096 _ broadcasts_S256x1_S256x4096 (ix2 r j))
    * broadcastTo S256x4096 _ broadcasts_S256x1_S256x4096 (ix2 r j)) = _
  rw [spread4096_apply, spread4096_apply, inv_apply Q K q k hQ hK, hG, hD, hP, ← EReal.coe_sub, ← EReal.coe_inv,
    ← EReal.coe_mul, ← EReal.coe_mul]
  rfl

/-- The gradient with respect to the queries. -/
theorem queryGrad_apply (hK : ∀ j d, K (ix2 j d) = (k j d : EReal)) (D : Vec Ideal S256x4096 .bf16)
    (g : Fin 256 → Fin 4096 → ℝ) (hD : ∀ r j, D (ix2 r j) = (g r j : EReal)) (u : Fin 1) (r d : Fin 256) :
    k0_pay25 K D (ix3 u r d) = (((∑ j, g r j * k j d) * c : ℝ) : EReal) := by
  unfold k0_pay25
  rw [shapeCast_ab_1ab_apply]
  show FloatOps.matmul (DotDims.plain 256 4096 256) none D K _ (ix2 r d) * Named.named (F := Ideal) κ "scale" _ = _
  rw [Ideal.matmul_plain_apply, scale_value]
  show (FloatOps.ofBits (F := Ideal) .f32 0x00000000#32 + _) * _ = _
  rw [zero_f32, zero_add, sum_mul_eq_coe (hD r) (fun j => hK j d), ← EReal.coe_mul]

/-- The output's gradient over the row's sum. -/
theorem scaledGrad_apply (hQ : ∀ r d, Q (ix3 0 r d) = (q r d : EReal)) (hK : ∀ j d, K (ix2 j d) = (k j d : EReal))
    (hA : ∀ r d, A (ix2 r d) = (a r d : EReal)) (r : Fin 256) (d : Fin 128) :
    k0_pay27 (k0_pay26 (k0_pay19 K Q) A) (ix2 r d) = ((a r d * (den (rowScores q k r))⁻¹ : ℝ) : EReal) := by
  unfold k0_pay27 k0_pay26 k0_pay23 k0_pay22
  rw [shapeCast_self, shapeCast_self]
  show A (ix2 r d) * broadcastTo S256x128 _ broadcasts_S256x1_S256x128 (ix2 r d) = _
  rw [spread128_apply, inv_apply Q K q k hQ hK, hA, ← EReal.coe_inv, ← EReal.coe_mul]

end Group

/-! ## The four groups compute the same functions -/

theorem pay9_eq (K : Vec Ideal S1x4096x256 .bf16) (Q : Vec Ideal S1x256x256 .bf16) : k0_pay9 K Q = k0_pay18 (k0_pay7 K) Q := rfl
theorem pay10_eq (K : Vec Ideal S1x4096x256 .bf16) (Q : Vec Ideal S1x256x256 .bf16) :
    k0_pay10 K Q = k0_pay20 (k0_pay19 (k0_pay7 K) Q) := rfl
theorem pay11_eq (K : Vec Ideal S1x4096x256 .bf16) (Q : Vec Ideal S1x256x256 .bf16) :
    k0_pay11 K Q = k0_pay21 (k0_pay18 (k0_pay7 K) Q) := rfl
theorem pay15_eq (V : FVec Ideal S4096x128 .bf16) (L : FVec Ideal S256x1 .f32) (A : Vec Ideal S256x128 .bf16)
    (O : Vec Ideal S256x128 .f32) (P : Vec Ideal S256x4096 .bf16) :
    k0_pay15 V (k0_pay20 L) (k0_pay12 A) (k0_pay14 A O) P = k0_pay24 V L A O P := rfl
theorem pay16_eq : k0_pay16 (F := Ideal) = k0_pay25 := rfl
theorem pay17_eq (L : FVec Ideal S256x1 .f32) (A : Vec Ideal S256x128 .bf16) :
    k0_pay17 (k0_pay20 L) (k0_pay13 A) = k0_pay27 (k0_pay26 L A) := rfl
theorem pay29_eq (K : FVec Ideal S4096x256 .bf16) (Q : Vec Ideal S1x256x256 .bf16) : k0_pay29 K Q = k0_pay20 (k0_pay19 K Q) := rfl
theorem pay30_eq (K : FVec Ideal S4096x256 .bf16) (Q : Vec Ideal S1x256x256 .bf16) : k0_pay30 K Q = k0_pay21 (k0_pay18 K Q) := rfl
theorem pay34_eq (K : FVec Ideal S4096x256 .bf16) (V : FVec Ideal S4096x128 .bf16) (Q : Vec Ideal S1x256x256 .bf16)
    (A : Vec Ideal S256x128 .bf16) (O : Vec Ideal S256x128 .f32) (P : Vec Ideal S256x4096 .bf16) :
    k0_pay34 (k0_pay33 K V Q A O P) = k0_pay24 V (k0_pay19 K Q) A O P := rfl
theorem pay35_eq : k0_pay35 (F := Ideal) = k0_pay25 := rfl
theorem pay36_eq (L : FVec Ideal S256x1 .f32) (A : Vec Ideal S256x128 .bf16) :
    k0_pay36 (k0_pay20 L) (k0_pay32 A) = k0_pay27 (k0_pay26 L A) := rfl
theorem pay38_eq (K : FVec Ideal S4096x256 .bf16) (Q : Vec Ideal S1x256x256 .bf16) : k0_pay38 K Q = k0_pay20 (k0_pay19 K Q) := rfl
theorem pay39_eq (K : FVec Ideal S4096x256 .bf16) (Q : Vec Ideal S1x256x256 .bf16) : k0_pay39 K Q = k0_pay21 (k0_pay18 K Q) := rfl
theorem pay42_eq (V : FVec Ideal S4096x128 .bf16) (L : FVec Ideal S256x1 .f32) (A : Vec Ideal S256x128 .bf16)
    (O : Vec Ideal S256x128 .f32) (P : Vec Ideal S256x4096 .bf16) :
    k0_pay42 V (k0_pay20 L) (k0_pay40 A) O P = k0_pay24 V L A O P := rfl
theorem pay43_eq : k0_pay43 (F := Ideal) = k0_pay25 := rfl
theorem pay44_eq (L : FVec Ideal S256x1 .f32) (A : Vec Ideal S256x128 .bf16) :
    k0_pay44 (k0_pay20 L) (k0_pay40 A) = k0_pay27 (k0_pay26 L A) := rfl

/-! ## The whole block of 1,024 query rows -/

/-- The sum over a block's query rows of a query feature times a row of the scores' gradient, added to what was there. -/
theorem keyAcc_apply (X : Vec Ideal S256x4096 .f32) (Q : FVec Ideal S1024x256 .bf16) (D : Vec Ideal S1024x4096 .bf16)
    (x : Fin 256 → Fin 4096 → ℝ) (q : Fin 1024 → Fin 256 → ℝ) (g : Fin 1024 → Fin 4096 → ℝ)
    (hX : ∀ d j, X (ix2 d j) = (x d j : EReal)) (hQ : ∀ r d, Q (ix2 r d) = (q r d : EReal))
    (hD : ∀ r j, D (ix2 r j) = (g r j : EReal)) (d : Fin 256) (j : Fin 4096) :
    k0_pay1 X Q D (ix2 d j) = ((x d j + ∑ r, q r d * g r j : ℝ) : EReal) := by
  unfold k0_pay1
  rw [shapeCast_self]
  show X (ix2 d j) + matmul dot_S1024x256_S1024x4096_S256x4096_0_0_1_1_n_n none Q D _ (ix2 d j) = _
  rw [keyProduct_apply Q D q g hQ hD, hX, ← EReal.coe_add]

/-- The same for the values. -/
theorem valueAcc_apply (X : Vec Ideal S128x4096 .f32) (A : Vec Ideal S1024x128 .bf16) (P : Vec Ideal S1024x4096 .bf16)
    (x : Fin 128 → Fin 4096 → ℝ) (a : Fin 1024 → Fin 128 → ℝ) (p : Fin 1024 → Fin 4096 → ℝ)
    (hX : ∀ d j, X (ix2 d j) = (x d j : EReal)) (hA : ∀ r d, A (ix2 r d) = (a r d : EReal))
    (hP : ∀ r j, P (ix2 r j) = (p r j : EReal)) (d : Fin 128) (j : Fin 4096) :
    k0_pay2 X A P (ix2 d j) = ((x d j + ∑ r, a r d * p r j : ℝ) : EReal) := by
  unfold k0_pay2
  rw [shapeCast_self]
  show X (ix2 d j) + matmul (F := Ideal) (φ₁ := .bf16) (φ₂ := .bf16) dot_S1024x128_S1024x4096_S128x4096_0_0_1_1_n_n none A P _ (ix2 d j) = _
  rw [valueProduct_apply A P a p hA hP, hX, ← EReal.coe_add]

/-- The gradient with respect to the keys, turned and scaled. -/
theorem keyOut_apply (X : Vec Ideal S256x4096 .f32) (x : Fin 256 → Fin 4096 → ℝ) (hX : ∀ d j, X (ix2 d j) = (x d j : EReal))
    (u : Fin 1) (j : Fin 4096) (d : Fin 256) : k0_pay3 X (ix3 u j d) = ((x d j * c : ℝ) : EReal) := by
  unfold k0_pay3
  dsimp only
  rw [shapeCast_ab_1ab_apply]
  show transpose S4096x256 [1, 0] X transposes_S256x4096_p1_0_S4096x256 (ix2 j d) * Named.named (F := Ideal) κ "scale" _ = _
  rw [transpose_ix2_apply, scale_value, hX, ← EReal.coe_mul]

/-- The gradient with respect to the values, turned. -/
theorem valueOut_apply (X : Vec Ideal S128x4096 .f32) (x : Fin 128 → Fin 4096 → ℝ) (hX : ∀ d j, X (ix2 d j) = (x d j : EReal))
    (u : Fin 1) (j : Fin 4096) (d : Fin 128) : k0_pay4 X (ix3 u j d) = (x d j : EReal) := by
  unfold k0_pay4
  dsimp only
  rw [shapeCast_ab_1ab_apply, transpose_ix2_apply, hX]

theorem keyZero_apply (d : Fin 256) (j : Fin 4096) : k0_pay5 (F := Ideal) (ix2 d j) = ((0 : ℝ) : EReal) := by
  unfold k0_pay5
  rw [shapeCast_self]
  exact zero_f32

theorem valueZero_apply (d : Fin 128) (j : Fin 4096) : k0_pay6 (F := Ideal) (ix2 d j) = ((0 : ℝ) : EReal) := by
  unfold k0_pay6
  rw [shapeCast_self]
  exact zero_f32

theorem keys_apply (X : Vec Ideal S1x4096x256 .bf16) (j : Fin 4096) (d : Fin 256) : k0_pay7 X (ix2 j d) = X (ix3 0 j d) := by
  unfold k0_pay7; rw [shapeCast_1ab_ab_apply]

theorem values_apply (X : Vec Ideal S1x4096x128 .bf16) (j : Fin 4096) (d : Fin 128) : k0_pay8 X (ix2 j d) = X (ix3 0 j d) := by
  unfold k0_pay8; rw [shapeCast_1ab_ab_apply]

theorem queries_apply (X : Vec Ideal S1x1024x256 .bf16) (r : Fin 1024) (d : Fin 256) : k0_pay45 X (ix2 r d) = X (ix3 0 r d) := by
  unfold k0_pay45; rw [shapeCast_1ab_ab_apply]

end Cert.Proof.Ops

end
-- ==== Proof.Block.lean ====
/-
  What one grid point of the kernel leaves behind, when its blocks hold real numbers. The point has 1,024 query rows of one
  head, treated in four groups of 256; its four buffers of intermediate rows are filled group by group, so a row of the
  whole buffer is a row of one group.
-/
module

public import proofs.«01_k».proof.Proof.Ops
public import proofs.«01_k».proof.Proof.Gen.KernelIdeal.Frame
public import Idealize.ShloMosaic.Lib.Pipeline.ValueKit

@[expose] public section

set_option maxRecDepth 16384

noncomputable section

namespace Cert.Proof.Block

open Idealize.ShloMosaic hiding ix0 ix1 ix2 ix3 ix4 eq_ix2 eq_ix3
open Idealize.ShloMosaic.ValueIdx Cert.KernelIdeal Cert.KernelIdeal.Gen Cert.Proof.Math Cert.Proof.Ops
open Idealize.ShloMosaic.TcCoe Idealize.SL.Sem
open scoped BigOperators

/-! ## A buffer of 1,024 rows filled by four groups of 256 -/

/-- The row at place `r` of the group that starts at row `o`. -/
def grp (o : ℕ) (ho : o + 256 ≤ 1024) (r : Fin 256) : Fin 1024 := ⟨o + r.val, by omega⟩

/-- A row of 4,096 lanes of a filled buffer is a row of the group it belongs to. -/
theorem filledWide {sp : Space} (M : View sig .tc sp S1024x4096 .bf16) (w0 w1 w2 w3 : Vec Ideal S256x4096 .bf16)
    (G : Fin 1024 → Fin 4096 → EReal) (g0 : ∀ r j, w0 (ix2 r j) = G (grp 0 (by decide) r) j)
    (g1 : ∀ r j, w1 (ix2 r j) = G (grp 256 (by decide) r) j) (g2 : ∀ r j, w2 (ix2 r j) = G (grp 512 (by decide) r) j)
    (g3 : ∀ r j, w3 (ix2 r j) = G (grp 768 (by decide) r) j) (r : Fin 1024) (j : Fin 4096) :
    (M.readCov (Val := Elt Ideal)
      [⟨Rect.unit ![768, 0] ![256, 4096] inb_S1024x4096_S256x4096_768_0, w3⟩,
       ⟨Rect.unit ![512, 0] ![256, 4096] inb_S1024x4096_S256x4096_512_0, w2⟩,
       ⟨Rect.unit ![256, 0] ![256, 4096] inb_S1024x4096_S256x4096_256_0, w1⟩,
       ⟨Rect.unit ![0, 0] ![256, 4096] inb_S1024x4096_S256x4096_0_0, w0⟩]
      (Rect.unit (s := S1024x4096) ![0, 0] ![1024, 4096] inb_S1024x4096_S1024x4096_0_0).toLoadRect : Vec Ideal S1024x4096 .bf16)
      (ix2 r j) = G r j := by
  rw [View.readCov_eq_canon']
  have e : (Rect.unit (s := S1024x4096) ![0, 0] ![1024, 4096] inb_S1024x4096_S1024x4096_0_0).toLoadRect.idx (ix2 r j) = ix2 r j := by
    funext a; apply Fin.ext
    match a with
    | ⟨0, _⟩ => show 0 + 1 * r.val = r.val; omega
    | ⟨1, _⟩ => show 0 + 1 * j.val = j.val; omega
  show View.canon (Val := Elt Ideal) (s := S1024x4096) (e := .bf16) _ ((Rect.unit (s := S1024x4096) ![0, 0] ![1024, 4096] inb_S1024x4096_S1024x4096_0_0).toLoadRect.idx (ix2 r j)) = _
  rw [e]
  canon_tiles x h
  · rw [eq_ix2 x]; exact (g3 _ _).trans (congrArg₂ G (Fin.ext h0.symm) (Fin.ext h1.symm))
  · rw [eq_ix2 x]; exact (g2 _ _).trans (congrArg₂ G (Fin.ext h0.symm) (Fin.ext h1.symm))
  · rw [eq_ix2 x]; exact (g1 _ _).trans (congrArg₂ G (Fin.ext h0.symm) (Fin.ext h1.symm))
  · rw [eq_ix2 x]; exact (g0 _ _).trans (congrArg₂ G (Fin.ext ((Nat.zero_add _).trans h0.symm)) (Fin.ext h1.symm))

/-- A row of 128 lanes of a filled buffer is a row of the group it belongs to. -/
theorem filledNarrow {sp : Space} (M : View sig .tc sp S1024x128 .bf16) (w0 w1 w2 w3 : Vec Ideal S256x128 .bf16)
    (G : Fin 1024 → Fin 128 → EReal) (g0 : ∀ r j, w0 (ix2 r j) = G (grp 0 (by decide) r) j)
    (g1 : ∀ r j, w1 (ix2 r j) = G (grp 256 (by decide) r) j) (g2 : ∀ r j, w2 (ix2 r j) = G (grp 512 (by decide) r) j)
    (g3 : ∀ r j, w3 (ix2 r j) = G (grp 768 (by decide) r) j) (r : Fin 1024) (j : Fin 128) :
    (M.readCov (Val := Elt Ideal)
      [⟨Rect.unit ![768, 0] ![256, 128] inb_S1024x128_S256x128_768_0, w3⟩,
       ⟨Rect.unit ![512, 0] ![256, 128] inb_S1024x128_S256x128_512_0, w2⟩,
       ⟨Rect.unit ![256, 0] ![256, 128] inb_S1024x128_S256x128_256_0, w1⟩,
       ⟨Rect.unit ![0, 0] ![256, 128] inb_S1024x128_S256x128_0_0, w0⟩]
      (Rect.unit (s := S1024x128) ![0, 0] ![1024, 128] inb_S1024x128_S1024x128_0_0).toLoadRect : Vec Ideal S1024x128 .bf16)
      (ix2 r j) = G r j := by
  rw [View.readCov_eq_canon']
  have e : (Rect.unit (s := S1024x128) ![0, 0] ![1024, 128] inb_S1024x128_S1024x128_0_0).toLoadRect.idx (ix2 r j) = ix2 r j := by
    funext a; apply Fin.ext
    match a with
    | ⟨0, _⟩ => show 0 + 1 * r.val = r.val; omega
    | ⟨1, _⟩ => show 0 + 1 * j.val = j.val; omega
  show View.canon (Val := Elt Ideal) (s := S1024x128) (e := .bf16) _ ((Rect.unit (s := S1024x128) ![0, 0] ![1024, 128] inb_S1024x128_S1024x128_0_0).toLoadRect.idx (ix2 r j)) = _
  rw [e]
  canon_tiles x h
  · rw [eq_ix2 x]; exact (g3 _ _).trans (congrArg₂ G (Fin.ext h0.symm) (Fin.ext h1.symm))
  · rw [eq_ix2 x]; exact (g2 _ _).trans (congrArg₂ G (Fin.ext h0.symm) (Fin.ext h1.symm))
  · rw [eq_ix2 x]; exact (g1 _ _).trans (congrArg₂ G (Fin.ext h0.symm) (Fin.ext h1.symm))
  · rw [eq_ix2 x]; exact (g0 _ _).trans (congrArg₂ G (Fin.ext ((Nat.zero_add _).trans h0.symm)) (Fin.ext h1.symm))

/-- A row of the queries' gradient is a row of the group it belongs to. -/
theorem filledOut (w0 w1 w2 w3 : Vec Ideal S1x256x256 .f32)
    (G : Fin 1024 → Fin 256 → EReal) (g0 : ∀ u r j, w0 (ix3 u r j) = G (grp 0 (by decide) r) j)
    (g1 : ∀ u r j, w1 (ix3 u r j) = G (grp 256 (by decide) r) j) (g2 : ∀ u r j, w2 (ix3 u r j) = G (grp 512 (by decide) r) j)
    (g3 : ∀ u r j, w3 (ix3 u r j) = G (grp 768 (by decide) r) j) (u : Fin 1) (r : Fin 1024) (j : Fin 256) :
    View.canon (Val := Elt Ideal) (s := S1x1024x256) (e := .f32)
      [⟨Rect.unit ![0, 768, 0] ![1, 256, 256] inb_S1x1024x256_S1x256x256_0_768_0, w3⟩,
       ⟨Rect.unit ![0, 512, 0] ![1, 256, 256] inb_S1x1024x256_S1x256x256_0_512_0, w2⟩,
       ⟨Rect.unit ![0, 256, 0] ![1, 256, 256] inb_S1x1024x256_S1x256x256_0_256_0, w1⟩,
       ⟨Rect.unit ![0, 0, 0] ![1, 256, 256] inb_S1x1024x256_S1x256x256_0_0_0, w0⟩]
      (ix3 u r j) = G r j := by
  canon_tiles x h
  · rw [eq_ix3 x]; exact (g3 _ _ _).trans (congrArg₂ G (Fin.ext h1.symm) (Fin.ext h2.symm))
  · rw [eq_ix3 x]; exact (g2 _ _ _).trans (congrArg₂ G (Fin.ext h1.symm) (Fin.ext h2.symm))
  · rw [eq_ix3 x]; exact (g1 _ _ _).trans (congrArg₂ G (Fin.ext h1.symm) (Fin.ext h2.symm))
  · rw [eq_ix3 x]; exact (g0 _ _ _).trans (congrArg₂ G (Fin.ext ((Nat.zero_add _).trans h1.symm)) (Fin.ext h2.symm))

/-! ## One group's rows of the four buffers -/

section Point

variable (x0 : Vec Ideal S1x1024x256 .bf16) (x1 : Vec Ideal S1x4096x256 .bf16) (x2 : Vec Ideal S1x4096x128 .bf16)
  (x3 : Vec Ideal S1024x128 .bf16) (x4 : Vec Ideal S1024x128 .f32)
  (q : Fin 1024 → Fin 256 → ℝ) (k : Fin 4096 → Fin 256 → ℝ) (v : Fin 4096 → Fin 128 → ℝ) (a o : Fin 1024 → Fin 128 → ℝ)

/-- The blocks of the point hold real numbers: `q` the queries, `k` the keys, `v` the values, `a` the output's gradient, `o` the
    forward output. -/
structure Holds : Prop where
  query : ∀ r d, x0 (ix3 0 r d) = (q r d : EReal)
  key : ∀ j d, x1 (ix3 0 j d) = (k j d : EReal)
  value : ∀ j d, x2 (ix3 0 j d) = (v j d : EReal)
  grad : ∀ r d, x3 (ix2 r d) = (a r d : EReal)
  output : ∀ r d, x4 (ix2 r d) = (o r d : EReal)

variable {x0 x1 x2 x3 x4 q k v a o}

theorem Holds.query_group (h : Holds x0 x1 x2 x3 x4 q k v a o) (s : ℕ) (hs : s + 256 ≤ 1024) (inb) (r : Fin 256) (d : Fin 256) :
    (View.ld x0 (Rect.unit ![0, s, 0] ![1, 256, 256] inb) : Vec Ideal S1x256x256 .bf16) (ix3 0 r d) = (q (grp s hs r) d : EReal) := by
  rw [← h.query]
  refine View.ld_unit_apply_of x0 _ _ inb (ix3 0 r d) (ix3 0 (grp s hs r) d) fun a => ?_
  match a with
  | ⟨0, _⟩ => rfl
  | ⟨1, _⟩ => rfl
  | ⟨2, _⟩ => exact (Nat.zero_add _).symm

theorem Holds.grad_group (h : Holds x0 x1 x2 x3 x4 q k v a o) (s : ℕ) (hs : s + 256 ≤ 1024) (inb) (r : Fin 256) (d : Fin 128) :
    (View.ld x3 (Rect.unit ![s, 0] ![256, 128] inb) : Vec Ideal S256x128 .bf16) (ix2 r d) = (a (grp s hs r) d : EReal) := by
  rw [← h.grad]
  refine View.ld_unit_apply_of x3 _ _ inb (ix2 r d) (ix2 (grp s hs r) d) fun a => ?_
  match a with
  | ⟨0, _⟩ => rfl
  | ⟨1, _⟩ => exact (Nat.zero_add _).symm

theorem Holds.output_group (h : Holds x0 x1 x2 x3 x4 q k v a o) (s : ℕ) (hs : s + 256 ≤ 1024) (inb) (r : Fin 256) (d : Fin 128) :
    (View.ld x4 (Rect.unit ![s, 0] ![256, 128] inb) : Vec Ideal S256x128 .f32) (ix2 r d) = (o (grp s hs r) d : EReal) := by
  rw [← h.output]
  refine View.ld_unit_apply_of x4 _ _ inb (ix2 r d) (ix2 (grp s hs r) d) fun a => ?_
  match a with
  | ⟨0, _⟩ => rfl
  | ⟨1, _⟩ => exact (Nat.zero_add _).symm

theorem Holds.keys (h : Holds x0 x1 x2 x3 x4 q k v a o) (j : Fin 4096) (d : Fin 256) : k0_pay7 x1 (ix2 j d) = (k j d : EReal) := by
  rw [keys_apply]; exact h.key j d

theorem Holds.values (h : Holds x0 x1 x2 x3 x4 q k v a o) (j : Fin 4096) (d : Fin 128) : k0_pay8 x2 (ix2 j d) = (v j d : EReal) := by
  rw [values_apply]; exact h.value j d

theorem Holds.queries (h : Holds x0 x1 x2 x3 x4 q k v a o) (r : Fin 1024) (d : Fin 256) : k0_pay45 x0 (ix2 r d) = (q r d : EReal) := by
  rw [queries_apply]; exact h.query r d

/-- The group's weights. -/
theorem Holds.weights (h : Holds x0 x1 x2 x3 x4 q k v a o) (s : ℕ) (hs : s + 256 ≤ 1024) (inb) (r : Fin 256) (j : Fin 4096) :
    k0_pay21 (k0_pay18 (k0_pay7 x1) (View.ld x0 (Rect.unit ![0, s, 0] ![1, 256, 256] inb) : Vec Ideal S1x256x256 .bf16)) (ix2 r j)
      = (wt (rowScores q k (grp s hs r)) j : EReal) :=
  kept_apply _ _ (fun r => q (grp s hs r)) k (h.query_group s hs inb) h.keys r j

/-- The group's gradient with respect to the scores. -/
theorem Holds.scoreGrad (h : Holds x0 x1 x2 x3 x4 q k v a o) (s : ℕ) (hs : s + 256 ≤ 1024) (inb inb' inb'') (r : Fin 256) (j : Fin 4096) :
    k0_pay24 (k0_pay8 x2) (k0_pay19 (k0_pay7 x1) (View.ld x0 (Rect.unit ![0, s, 0] ![1, 256, 256] inb) : Vec Ideal S1x256x256 .bf16))
        (View.ld x3 (Rect.unit ![s, 0] ![256, 128] inb') : Vec Ideal S256x128 .bf16)
        (View.ld x4 (Rect.unit ![s, 0] ![256, 128] inb'') : Vec Ideal S256x128 .f32)
        (k0_pay21 (k0_pay18 (k0_pay7 x1) (View.ld x0 (Rect.unit ![0, s, 0] ![1, 256, 256] inb) : Vec Ideal S1x256x256 .bf16))) (ix2 r j)
      = (rowGrad q k v a o (grp s hs r) j : EReal) :=
  scoreGrad_apply _ _ _ _ _ (fun r => q (grp s hs r)) k v (fun r => a (grp s hs r)) (fun r => o (grp s hs r))
    (h.query_group s hs inb) h.keys h.values (h.grad_group s hs inb') (h.output_group s hs inb'') _ (h.weights s hs inb) r j

/-- The group's rows of the queries' gradient. -/
theorem Holds.queryGrad (h : Holds x0 x1 x2 x3 x4 q k v a o) (s : ℕ) (hs : s + 256 ≤ 1024) (inb inb' inb'') (u : Fin 1) (r d : Fin 256) :
    k0_pay25 (k0_pay7 x1) (k0_pay24 (k0_pay8 x2) (k0_pay19 (k0_pay7 x1) (View.ld x0 (Rect.unit ![0, s, 0] ![1, 256, 256] inb) : Vec Ideal S1x256x256 .bf16))
        (View.ld x3 (Rect.unit ![s, 0] ![256, 128] inb') : Vec Ideal S256x128 .bf16)
        (View.ld x4 (Rect.unit ![s, 0] ![256, 128] inb'') : Vec Ideal S256x128 .f32)
        (k0_pay21 (k0_pay18 (k0_pay7 x1) (View.ld x0 (Rect.unit ![0, s, 0] ![1, 256, 256] inb) : Vec Ideal S1x256x256 .bf16)))) (ix3 u r d)
      = (((∑ j, rowGrad q k v a o (grp s hs r) j * k j d) * Math.c : ℝ) : EReal) :=
  queryGrad_apply _ k h.keys _ (fun r => rowGrad q k v a o (grp s hs r)) (h.scoreGrad s hs inb inb' inb'') u r d

/-- The group's rows of the output's gradient over the rows' sums. -/
theorem Holds.scaledGrad (h : Holds x0 x1 x2 x3 x4 q k v a o) (s : ℕ) (hs : s + 256 ≤ 1024) (inb inb') (r : Fin 256) (d : Fin 128) :
    k0_pay27 (k0_pay26 (k0_pay19 (k0_pay7 x1) (View.ld x0 (Rect.unit ![0, s, 0] ![1, 256, 256] inb) : Vec Ideal S1x256x256 .bf16))
        (View.ld x3 (Rect.unit ![s, 0] ![256, 128] inb') : Vec Ideal S256x128 .bf16)) (ix2 r d)
      = ((a (grp s hs r) d * (den (rowScores q k (grp s hs r)))⁻¹ : ℝ) : EReal) :=
  scaledGrad_apply _ _ _ (fun r => q (grp s hs r)) k (fun r => a (grp s hs r)) (h.query_group s hs inb) h.keys (h.grad_group s hs inb') r d

/-! ## What the point leaves -/

/-- What a point adds to the accumulated gradient of the keys, and to that of the values. -/
def keyPart (q : Fin 1024 → Fin 256 → ℝ) (k : Fin 4096 → Fin 256 → ℝ) (v : Fin 4096 → Fin 128 → ℝ) (a o : Fin 1024 → Fin 128 → ℝ)
    (d : Fin 256) (j : Fin 4096) : ℝ := ∑ r, q r d * rowGrad q k v a o r j
def valuePart (q : Fin 1024 → Fin 256 → ℝ) (k : Fin 4096 → Fin 256 → ℝ) (a : Fin 1024 → Fin 128 → ℝ)
    (d : Fin 128) (j : Fin 4096) : ℝ := ∑ r, (a r d * (den (rowScores q k r))⁻¹) * wt (rowScores q k r) j

/-- The point's rows of the queries' gradient. -/
theorem out5_A (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : cond0_0 i) (hc1 : ¬cond0_1 i)
    (h : Holds x0 x1 x2 x3 x4 q k v a o) (u : Fin 1) (r : Fin 1024) (d : Fin 256) :
    out0_A_5 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 (ix3 u r d) = (((∑ j, rowGrad q k v a o r j * k j d) * Math.c : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact filledOut _ _ _ _ (fun r d => (((∑ j, rowGrad q k v a o r j * k j d) * Math.c : ℝ) : EReal)) (h.queryGrad 0 _ _ _ _)
    (h.queryGrad 256 _ _ _ _) (h.queryGrad 512 _ _ _ _) (h.queryGrad 768 _ _ _ _) u r d

/-- The accumulated gradient of the keys after the point. -/
theorem sout3_A (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : cond0_0 i) (hc1 : ¬cond0_1 i)
    (h : Holds x0 x1 x2 x3 x4 q k v a o) (d : Fin 256) (j : Fin 4096) :
    sout0_A_3 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 (ix2 d j) = ((0 + keyPart q k v a o d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact keyAcc_apply _ _ _ (fun _ _ => 0) q (rowGrad q k v a o) keyZero_apply h.queries
    (fun r j => filledWide _ _ _ _ _ (fun r j => (rowGrad q k v a o r j : EReal)) (h.scoreGrad 0 _ _ _ _) (h.scoreGrad 256 _ _ _ _)
      (h.scoreGrad 512 _ _ _ _) (h.scoreGrad 768 _ _ _ _) r j) d j

/-- The accumulated gradient of the values after the point. -/
theorem sout4_A (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : cond0_0 i) (hc1 : ¬cond0_1 i)
    (h : Holds x0 x1 x2 x3 x4 q k v a o) (d : Fin 128) (j : Fin 4096) :
    sout0_A_4 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 (ix2 d j) = ((0 + valuePart q k a d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact valueAcc_apply _ _ _ (fun _ _ => 0) (fun r d => a r d * (den (rowScores q k r))⁻¹) (fun r j => wt (rowScores q k r) j) valueZero_apply
    (fun r d => filledNarrow _ _ _ _ _ (fun r d => ((a r d * (den (rowScores q k r))⁻¹ : ℝ) : EReal)) (h.scaledGrad 0 _ _ _)
      (h.scaledGrad 256 _ _ _) (h.scaledGrad 512 _ _ _) (h.scaledGrad 768 _ _ _) r d)
    (fun r j => filledWide _ _ _ _ _ (fun r j => (wt (rowScores q k r) j : EReal)) (h.weights 0 _ _) (h.weights 256 _ _)
      (h.weights 512 _ _) (h.weights 768 _ _) r j) d j

/-- The point's rows of the queries' gradient. -/
theorem out5_B (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : ¬cond0_1 i)
    (xs3 : Vec Ideal S256x4096 .f32) (xs4 : Vec Ideal S128x4096 .f32)
    (h : Holds x0 x1 x2 x3 x4 q k v a o) (u : Fin 1) (r : Fin 1024) (d : Fin 256) :
    out0_B_5 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix3 u r d) = (((∑ j, rowGrad q k v a o r j * k j d) * Math.c : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact filledOut _ _ _ _ (fun r d => (((∑ j, rowGrad q k v a o r j * k j d) * Math.c : ℝ) : EReal)) (h.queryGrad 0 _ _ _ _)
    (h.queryGrad 256 _ _ _ _) (h.queryGrad 512 _ _ _ _) (h.queryGrad 768 _ _ _ _) u r d

/-- The accumulated gradient of the keys after the point. -/
theorem sout3_B (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : ¬cond0_1 i)
    (xs3 : Vec Ideal S256x4096 .f32) (xs4 : Vec Ideal S128x4096 .f32)
    (h : Holds x0 x1 x2 x3 x4 q k v a o)
    (x : Fin 256 → Fin 4096 → ℝ) (hx : ∀ d j, xs3 (ix2 d j) = (x d j : EReal)) (d : Fin 256) (j : Fin 4096) :
    sout0_B_3 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix2 d j) = ((x d j + keyPart q k v a o d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact keyAcc_apply _ _ _ x q (rowGrad q k v a o) hx h.queries
    (fun r j => filledWide _ _ _ _ _ (fun r j => (rowGrad q k v a o r j : EReal)) (h.scoreGrad 0 _ _ _ _) (h.scoreGrad 256 _ _ _ _)
      (h.scoreGrad 512 _ _ _ _) (h.scoreGrad 768 _ _ _ _) r j) d j

/-- The accumulated gradient of the values after the point. -/
theorem sout4_B (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : ¬cond0_1 i)
    (xs3 : Vec Ideal S256x4096 .f32) (xs4 : Vec Ideal S128x4096 .f32)
    (h : Holds x0 x1 x2 x3 x4 q k v a o)
    (x : Fin 128 → Fin 4096 → ℝ) (hx : ∀ d j, xs4 (ix2 d j) = (x d j : EReal)) (d : Fin 128) (j : Fin 4096) :
    sout0_B_4 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix2 d j) = ((x d j + valuePart q k a d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact valueAcc_apply _ _ _ x (fun r d => a r d * (den (rowScores q k r))⁻¹) (fun r j => wt (rowScores q k r) j) hx
    (fun r d => filledNarrow _ _ _ _ _ (fun r d => ((a r d * (den (rowScores q k r))⁻¹ : ℝ) : EReal)) (h.scaledGrad 0 _ _ _)
      (h.scaledGrad 256 _ _ _) (h.scaledGrad 512 _ _ _) (h.scaledGrad 768 _ _ _) r d)
    (fun r j => filledWide _ _ _ _ _ (fun r j => (wt (rowScores q k r) j : EReal)) (h.weights 0 _ _) (h.weights 256 _ _)
      (h.weights 512 _ _) (h.weights 768 _ _) r j) d j

/-- The point's rows of the queries' gradient. -/
theorem out5_C (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : cond0_1 i)
    (xs3 : Vec Ideal S256x4096 .f32) (xs4 : Vec Ideal S128x4096 .f32)
    (h : Holds x0 x1 x2 x3 x4 q k v a o) (u : Fin 1) (r : Fin 1024) (d : Fin 256) :
    out0_C_5 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix3 u r d) = (((∑ j, rowGrad q k v a o r j * k j d) * Math.c : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact filledOut _ _ _ _ (fun r d => (((∑ j, rowGrad q k v a o r j * k j d) * Math.c : ℝ) : EReal)) (h.queryGrad 0 _ _ _ _)
    (h.queryGrad 256 _ _ _ _) (h.queryGrad 512 _ _ _ _) (h.queryGrad 768 _ _ _ _) u r d

/-- The accumulated gradient of the keys after the point. -/
theorem sout3_C (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : cond0_1 i)
    (xs3 : Vec Ideal S256x4096 .f32) (xs4 : Vec Ideal S128x4096 .f32)
    (h : Holds x0 x1 x2 x3 x4 q k v a o)
    (x : Fin 256 → Fin 4096 → ℝ) (hx : ∀ d j, xs3 (ix2 d j) = (x d j : EReal)) (d : Fin 256) (j : Fin 4096) :
    sout0_C_3 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix2 d j) = ((x d j + keyPart q k v a o d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact keyAcc_apply _ _ _ x q (rowGrad q k v a o) hx h.queries
    (fun r j => filledWide _ _ _ _ _ (fun r j => (rowGrad q k v a o r j : EReal)) (h.scoreGrad 0 _ _ _ _) (h.scoreGrad 256 _ _ _ _)
      (h.scoreGrad 512 _ _ _ _) (h.scoreGrad 768 _ _ _ _) r j) d j

/-- The accumulated gradient of the values after the point. -/
theorem sout4_C (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : cond0_1 i)
    (xs3 : Vec Ideal S256x4096 .f32) (xs4 : Vec Ideal S128x4096 .f32)
    (h : Holds x0 x1 x2 x3 x4 q k v a o)
    (x : Fin 128 → Fin 4096 → ℝ) (hx : ∀ d j, xs4 (ix2 d j) = (x d j : EReal)) (d : Fin 128) (j : Fin 4096) :
    sout0_C_4 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix2 d j) = ((x d j + valuePart q k a d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact valueAcc_apply _ _ _ x (fun r d => a r d * (den (rowScores q k r))⁻¹) (fun r j => wt (rowScores q k r) j) hx
    (fun r d => filledNarrow _ _ _ _ _ (fun r d => ((a r d * (den (rowScores q k r))⁻¹ : ℝ) : EReal)) (h.scaledGrad 0 _ _ _)
      (h.scaledGrad 256 _ _ _) (h.scaledGrad 512 _ _ _) (h.scaledGrad 768 _ _ _) r d)
    (fun r j => filledWide _ _ _ _ _ (fun r j => (wt (rowScores q k r) j : EReal)) (h.weights 0 _ _) (h.weights 256 _ _)
      (h.weights 512 _ _) (h.weights 768 _ _) r j) d j

/-- The gradient of the keys as the last point of a head writes it. -/
theorem out6_C (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : cond0_1 i)
    (xs3 : Vec Ideal S256x4096 .f32) (xs4 : Vec Ideal S128x4096 .f32)
    (h : Holds x0 x1 x2 x3 x4 q k v a o)
    (x : Fin 256 → Fin 4096 → ℝ) (hx : ∀ d j, xs3 (ix2 d j) = (x d j : EReal)) (u : Fin 1) (j : Fin 4096) (d : Fin 256) :
    out0_C_6 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix3 u j d) = (((x d j + keyPart q k v a o d j) * Math.c : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact keyOut_apply _ (fun d j => x d j + keyPart q k v a o d j) (
    keyAcc_apply _ _ _ x q (rowGrad q k v a o) hx h.queries
    (fun r j => filledWide _ _ _ _ _ (fun r j => (rowGrad q k v a o r j : EReal)) (h.scoreGrad 0 _ _ _ _) (h.scoreGrad 256 _ _ _ _)
      (h.scoreGrad 512 _ _ _ _) (h.scoreGrad 768 _ _ _ _) r j)) u j d

/-- The gradient of the values as the last point of a head writes it. -/
theorem out7_C (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .f32) (harg6 : arg6.IsWhole) (arg8 : Memref sig .tc .vmem S1x1024x256 .f32) (harg8 : arg8.IsWhole) (arg9 : Memref sig .tc .vmem S1x4096x256 .f32) (harg9 : arg9.IsWhole) (arg10 : Memref sig .tc .vmem S1x4096x128 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S1024x128 .bf16) (harg13 : arg13.IsWhole) (arg14 : Memref sig .tc .vmem S256x4096 .f32) (harg14 : arg14.IsWhole) (arg15 : Memref sig .tc .vmem S128x4096 .f32) (harg15 : arg15.IsWhole) (hc0 : ¬cond0_0 i) (hc1 : cond0_1 i)
    (xs3 : Vec Ideal S256x4096 .f32) (xs4 : Vec Ideal S128x4096 .f32)
    (h : Holds x0 x1 x2 x3 x4 q k v a o)
    (x : Fin 128 → Fin 4096 → ℝ) (hx : ∀ d j, xs4 (ix2 d j) = (x d j : EReal)) (u : Fin 1) (j : Fin 4096) (d : Fin 128) :
    out0_C_7 c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs3 xs4 (ix3 u j d) = ((x d j + valuePart q k a d j : ℝ) : EReal) := by
  frame_out
  simp only [View.readCov_cons_toLoadRect, pay9_eq, pay10_eq, pay11_eq, pay15_eq, pay16_eq, pay17_eq, pay29_eq, pay30_eq,
    pay34_eq, pay35_eq, pay36_eq, pay38_eq, pay39_eq, pay42_eq, pay43_eq, pay44_eq]
  exact valueOut_apply _ (fun d j => x d j + valuePart q k a d j) (
    valueAcc_apply _ _ _ x (fun r d => a r d * (den (rowScores q k r))⁻¹) (fun r j => wt (rowScores q k r) j) hx
    (fun r d => filledNarrow _ _ _ _ _ (fun r d => ((a r d * (den (rowScores q k r))⁻¹ : ℝ) : EReal)) (h.scaledGrad 0 _ _ _)
      (h.scaledGrad 256 _ _ _) (h.scaledGrad 512 _ _ _) (h.scaledGrad 768 _ _ _) r d)
    (fun r j => filledWide _ _ _ _ _ (fun r j => (wt (rowScores q k r) j : EReal)) (h.weights 0 _ _) (h.weights 256 _ _)
      (h.weights 512 _ _) (h.weights 768 _ _) r j)) u j d

end Point

end Cert.Proof.Block

end
-- ==== Proof.Accum.lean ====
/-
  The kernel's three result arrays, from the five arrays it reads.

  The grid runs over the four heads and, inside a head, over four blocks of 1,024 query rows. `Arrays` says that the arrays
  the kernel reads hold real numbers, by heads. Under it, every block of the queries' gradient is written once, by the point
  of its head and its rows; the gradients of the keys and of the values are accumulated over a head's four points and written
  by the last. `sum_rows` puts the four parts together.
-/
module

public import proofs.«01_k».proof.Proof.Block
public import proofs.«01_k».proof.Proof.Gen.KernelIdeal.Value

@[expose] public section

noncomputable section

namespace Cert.Proof.Accum

open Idealize.ShloMosaic hiding ix0 ix1 ix2 ix3 ix4 eq_ix2 eq_ix3
open Idealize.ShloMosaic.ValueIdx
open Cert.KernelIdeal Cert.KernelIdeal.Gen
open Cert.Proof.Math hiding c
open Cert.Proof.Ops Cert.Proof.Block

/-- The lane of feature `d` of head `h` in an array that has the four heads side by side. -/
def lane (h : Fin 4) (d : Fin 128) : Fin 512 := ⟨128 * h.val + d.val, by omega⟩

variable (m : (ℓ : Loc nD τ sig) → Buf (Elt Ideal) ℓ) (c : Dev nD)

/-- The arrays the kernel reads hold, by heads, the queries `q`, the keys `k`, the values `v`, the output's gradient `a` and the
    forward output that belongs to them. -/
structure Arrays (q k : Fin 4 → Fin 4096 → Fin 256 → ℝ) (v a : Fin 4 → Fin 4096 → Fin 128 → ℝ) : Prop where
  query : ∀ h i d, (V m c main_v23 : Vec Ideal S4x4096x256 .bf16) (ix3 h i d) = (q h i d : EReal)
  key : ∀ h j d, (V m c main_v27 : Vec Ideal S4x4096x256 .bf16) (ix3 h j d) = (k h j d : EReal)
  value : ∀ h j d, (V m c main_v31 : Vec Ideal S4x4096x128 .bf16) (ix3 h j d) = (v h j d : EReal)
  grad : ∀ h i d, (V m c main_v33 : Vec Ideal S4096x512 .bf16) (ix2 i (lane h d)) = (a h i d : EReal)
  output : ∀ h i d, (V m c main_v19 : Vec Ideal S4096x512 .f32) (ix2 i (lane h d)) = (out (q h) (k h) (v h) i d : EReal)

/-- The grid point of head `h` and block `b` of its query rows. -/
def pt (h b : Fin 4) : Fin cfg0.N := ⟨4 * h.val + b.val, lt_of_lt_of_eq (by omega : 4 * h.val + b.val < 16) N_0.symm⟩

theorem index0 : ∀ t : Fin cfg0.N, win0_0.index t = ![t.val / 4, t.val % 4, 0] :=
  (by decide +kernel : ∀ t : Fin grid0.N, win0_0.index t = ![t.val / 4, t.val % 4, 0])
theorem index1 : ∀ t : Fin cfg0.N, win0_1.index t = ![t.val / 4, 0, 0] :=
  (by decide +kernel : ∀ t : Fin grid0.N, win0_1.index t = ![t.val / 4, 0, 0])
theorem index2 : ∀ t : Fin cfg0.N, win0_2.index t = ![t.val / 4, 0, 0] :=
  (by decide +kernel : ∀ t : Fin grid0.N, win0_2.index t = ![t.val / 4, 0, 0])
theorem index3 : ∀ t : Fin cfg0.N, win0_3.index t = ![t.val % 4, t.val / 4] :=
  (by decide +kernel : ∀ t : Fin grid0.N, win0_3.index t = ![t.val % 4, t.val / 4])
theorem index4 : ∀ t : Fin cfg0.N, win0_4.index t = ![t.val % 4, t.val / 4] :=
  (by decide +kernel : ∀ t : Fin grid0.N, win0_4.index t = ![t.val % 4, t.val / 4])
theorem index5 : ∀ t : Fin cfg0.N, win0_5.index t = ![t.val / 4, t.val % 4, 0] :=
  (by decide +kernel : ∀ t : Fin grid0.N, win0_5.index t = ![t.val / 4, t.val % 4, 0])
theorem index6 : ∀ t : Fin cfg0.N, win0_6.index t = ![t.val / 4, 0, 0] :=
  (by decide +kernel : ∀ t : Fin grid0.N, win0_6.index t = ![t.val / 4, 0, 0])
theorem index7 : ∀ t : Fin cfg0.N, win0_7.index t = ![t.val / 4, 0, 0] :=
  (by decide +kernel : ∀ t : Fin grid0.N, win0_7.index t = ![t.val / 4, 0, 0])

variable {m c} {q k : Fin 4 → Fin 4096 → Fin 256 → ℝ} {v a : Fin 4 → Fin 4096 → Fin 128 → ℝ}

/-! A point's blocks are its head's and its rows' parts of the arrays. -/

theorem Arrays.query_block (H : Arrays m c q k v a) (h b : Fin 4) (r : Fin 1024) (d : Fin 256) :
    (iblk m c 0 (pt h b) : Vec Ideal S1x1024x256 .bf16) (ix3 0 r d) = (q h (row b r) d : EReal) := by
  rw [← H.query]
  blk_simp [iblk]
  congr 1
  blk_ext [index0, pt, row]
  · show (4 * h.val + b.val) / 4 = h.val; omega
  · show (4 * h.val + b.val) % 4 * 1024 + r.val = 1024 * b.val + r.val; omega

theorem Arrays.key_block (H : Arrays m c q k v a) (h b : Fin 4) (j : Fin 4096) (d : Fin 256) :
    (iblk m c 1 (pt h b) : Vec Ideal S1x4096x256 .bf16) (ix3 0 j d) = (k h j d : EReal) := by
  rw [← H.key]
  blk_simp [iblk]
  congr 1
  blk_ext [index1, pt]
  · show (4 * h.val + b.val) / 4 = h.val; omega

theorem Arrays.value_block (H : Arrays m c q k v a) (h b : Fin 4) (j : Fin 4096) (d : Fin 128) :
    (iblk m c 2 (pt h b) : Vec Ideal S1x4096x128 .bf16) (ix3 0 j d) = (v h j d : EReal) := by
  rw [← H.value]
  blk_simp [iblk]
  congr 1
  blk_ext [index2, pt]
  · show (4 * h.val + b.val) / 4 = h.val; omega

theorem Arrays.grad_block (H : Arrays m c q k v a) (h b : Fin 4) (r : Fin 1024) (d : Fin 128) :
    (iblk m c 3 (pt h b) : Vec Ideal S1024x128 .bf16) (ix2 r d) = (a h (row b r) d : EReal) := by
  rw [← H.grad]
  blk_simp [iblk]
  congr 1
  blk_ext [index3, pt, row, lane]
  · show (4 * h.val + b.val) % 4 * 1024 + r.val = 1024 * b.val + r.val; omega
  · show (4 * h.val + b.val) / 4 * 128 + d.val = 128 * h.val + d.val; omega

theorem Arrays.output_block (H : Arrays m c q k v a) (h b : Fin 4) (r : Fin 1024) (d : Fin 128) :
    (iblk m c 4 (pt h b) : Vec Ideal S1024x128 .f32) (ix2 r d) = (out (q h) (k h) (v h) (row b r) d : EReal) := by
  rw [← H.output]
  blk_simp [iblk]
  congr 1
  blk_ext [index4, pt, row, lane]
  · show (4 * h.val + b.val) % 4 * 1024 + r.val = 1024 * b.val + r.val; omega
  · show (4 * h.val + b.val) / 4 * 128 + d.val = 128 * h.val + d.val; omega

theorem Arrays.holds (H : Arrays m c q k v a) (h b : Fin 4) :
    Holds (iblk m c 0 (pt h b)) (iblk m c 1 (pt h b)) (iblk m c 2 (pt h b)) (iblk m c 3 (pt h b)) (iblk m c 4 (pt h b))
      (fun r => q h (row b r)) (k h) (v h) (fun r => a h (row b r)) (fun r => out (q h) (k h) (v h) (row b r)) :=
  ⟨H.query_block h b, H.key_block h b, H.value_block h b, H.grad_block h b, H.output_block h b⟩

/-- What the block `b` of head `h` adds to the gradients of the keys and of the values. -/
def keyAdd (q k : Fin 4 → Fin 4096 → Fin 256 → ℝ) (v a : Fin 4 → Fin 4096 → Fin 128 → ℝ) (h b : Fin 4) (d : Fin 256) (j : Fin 4096) : ℝ :=
  ∑ r, q h (row b r) d * gs (q h) (k h) (v h) (a h) (row b r) j
def valueAdd (q k : Fin 4 → Fin 4096 → Fin 256 → ℝ) (a : Fin 4 → Fin 4096 → Fin 128 → ℝ) (h b : Fin 4) (d : Fin 128) (j : Fin 4096) : ℝ :=
  ∑ r, (a h (row b r) d * (den (sc (q h) (k h) (row b r)))⁻¹) * wt (sc (q h) (k h) (row b r)) j

theorem pt_mod (h b : Fin 4) : (pt h b).val % 4 = b.val := by show (4 * h.val + b.val) % 4 = _; omega

/-- What a point leaves does not depend on how its number is written. -/
theorem outsAt0_congr {n n' : ℕ} (e : n = n') (hn : n < cfg0.N) (hn' : n' < cfg0.N) : outsAt0 m c n hn = outsAt0 m c n' hn' := by
  subst e; rfl

/-- The point before, inside a head. -/
theorem before (h b b' : Fin 4) (e : b.val = b'.val + 1) (hn) :
    outsAt0 m c ((pt h b).val - 1) hn = outsAt0 m c (pt h b').val (pt h b').isLt :=
  outsAt0_congr (by show 4 * h.val + b.val - 1 = 4 * h.val + b'.val; omega) _ _

/-! The accumulated gradients after a head's first, second and third point. -/

theorem Arrays.key_0 (H : Arrays m c q k v a) (h : Fin 4) (d : Fin 256) (j : Fin 4096) :
    (outsAt0 m c (pt h 0).val (pt h 0).isLt).2.2.2.1 (ix2 d j) = ((0 + keyAdd q k v a h 0 d j : ℝ) : EReal) := by
  rw [outsAt0_A m c (pt h 0) (pt_mod h 0) (by rw [pt_mod]; decide)]
  dsimp only
  exact sout3_A (h := H.holds h 0) ..

theorem Arrays.key_1 (H : Arrays m c q k v a) (h : Fin 4) (d : Fin 256) (j : Fin 4096) :
    (outsAt0 m c (pt h 1).val (pt h 1).isLt).2.2.2.1 (ix2 d j) = ((0 + keyAdd q k v a h 0 d j + keyAdd q k v a h 1 d j : ℝ) : EReal) := by
  rw [outsAt0_B m c (pt h 1) (by rw [pt_mod]; decide) (by rw [pt_mod]; decide)]
  dsimp only
  rw [before h 1 0 rfl]
  exact sout3_B (h := H.holds h 1) (x := fun d j => 0 + keyAdd q k v a h 0 d j) (hx := H.key_0 h) ..

theorem Arrays.key_2 (H : Arrays m c q k v a) (h : Fin 4) (d : Fin 256) (j : Fin 4096) :
    (outsAt0 m c (pt h 2).val (pt h 2).isLt).2.2.2.1 (ix2 d j) = ((0 + keyAdd q k v a h 0 d j + keyAdd q k v a h 1 d j + keyAdd q k v a h 2 d j : ℝ) : EReal) := by
  rw [outsAt0_B m c (pt h 2) (by rw [pt_mod]; decide) (by rw [pt_mod]; decide)]
  dsimp only
  rw [before h 2 1 rfl]
  exact sout3_B (h := H.holds h 2) (x := fun d j => 0 + keyAdd q k v a h 0 d j + keyAdd q k v a h 1 d j) (hx := H.key_1 h) ..

/-- A head's last point writes the head's gradient of the keys. -/
theorem Arrays.key_out (H : Arrays m c q k v a) (h : Fin 4) (u : Fin 1) (j : Fin 4096) (d : Fin 256) :
    (outsAt0 m c (pt h 3).val (pt h 3).isLt).2.1 (ix3 u j d) = (gk (q h) (k h) (v h) (a h) j d : EReal) := by
  have e : gk (q h) (k h) (v h) (a h) j d = (0 + keyAdd q k v a h 0 d j + keyAdd q k v a h 1 d j + keyAdd q k v a h 2 d j + keyAdd q k v a h 3 d j) * Math.c := by
    unfold gk keyAdd
    rw [sum_rows, zero_add]
  rw [e, outsAt0_C m c (pt h 3) (by rw [pt_mod]; decide) (pt_mod h 3)]
  dsimp only
  rw [before h 3 2 rfl]
  exact out6_C (h := H.holds h 3) (x := fun d j => 0 + keyAdd q k v a h 0 d j + keyAdd q k v a h 1 d j + keyAdd q k v a h 2 d j) (hx := H.key_2 h) ..

theorem Arrays.value_0 (H : Arrays m c q k v a) (h : Fin 4) (d : Fin 128) (j : Fin 4096) :
    (outsAt0 m c (pt h 0).val (pt h 0).isLt).2.2.2.2 (ix2 d j) = ((0 + valueAdd q k a h 0 d j : ℝ) : EReal) := by
  rw [outsAt0_A m c (pt h 0) (pt_mod h 0) (by rw [pt_mod]; decide)]
  dsimp only
  exact sout4_A (h := H.holds h 0) ..

theorem Arrays.value_1 (H : Arrays m c q k v a) (h : Fin 4) (d : Fin 128) (j : Fin 4096) :
    (outsAt0 m c (pt h 1).val (pt h 1).isLt).2.2.2.2 (ix2 d j) = ((0 + valueAdd q k a h 0 d j + valueAdd q k a h 1 d j : ℝ) : EReal) := by
  rw [outsAt0_B m c (pt h 1) (by rw [pt_mod]; decide) (by rw [pt_mod]; decide)]
  dsimp only
  rw [before h 1 0 rfl]
  exact sout4_B (h := H.holds h 1) (x := fun d j => 0 + valueAdd q k a h 0 d j) (hx := H.value_0 h) ..

theorem Arrays.value_2 (H : Arrays m c q k v a) (h : Fin 4) (d : Fin 128) (j : Fin 4096) :
    (outsAt0 m c (pt h 2).val (pt h 2).isLt).2.2.2.2 (ix2 d j) = ((0 + valueAdd q k a h 0 d j + valueAdd q k a h 1 d j + valueAdd q k a h 2 d j : ℝ) : EReal) := by
  rw [outsAt0_B m c (pt h 2) (by rw [pt_mod]; decide) (by rw [pt_mod]; decide)]
  dsimp only
  rw [before h 2 1 rfl]
  exact sout4_B (h := H.holds h 2) (x := fun d j => 0 + valueAdd q k a h 0 d j + valueAdd q k a h 1 d j) (hx := H.value_1 h) ..

/-- A head's last point writes the head's gradient of the values. -/
theorem Arrays.value_out (H : Arrays m c q k v a) (h : Fin 4) (u : Fin 1) (j : Fin 4096) (d : Fin 128) :
    (outsAt0 m c (pt h 3).val (pt h 3).isLt).2.2.1 (ix3 u j d) = (gv (q h) (k h) (a h) j d : EReal) := by
  have e : gv (q h) (k h) (a h) j d = 0 + valueAdd q k a h 0 d j + valueAdd q k a h 1 d j + valueAdd q k a h 2 d j + valueAdd q k a h 3 d j := by
    unfold gv valueAdd
    rw [sum_rows, zero_add]
  rw [e, outsAt0_C m c (pt h 3) (by rw [pt_mod]; decide) (pt_mod h 3)]
  dsimp only
  rw [before h 3 2 rfl]
  exact out7_C (h := H.holds h 3) (x := fun d j => 0 + valueAdd q k a h 0 d j + valueAdd q k a h 1 d j + valueAdd q k a h 2 d j) (hx := H.value_2 h) ..

/-- Every point writes its rows of its head's gradient of the queries. -/
theorem Arrays.query_out (H : Arrays m c q k v a) (h b : Fin 4) (u : Fin 1) (r : Fin 1024) (d : Fin 256) :
    (outsAt0 m c (pt h b).val (pt h b).isLt).1 (ix3 u r d) = (gq (q h) (k h) (v h) (a h) (row b r) d : EReal) := by
  by_cases h0 : (pt h b).val % 4 = 0
  · have h1 : ¬ (pt h b).val % 4 = 3 := by omega
    rw [outsAt0_A m c (pt h b) h0 h1]
    dsimp only
    exact out5_A (h := H.holds h b) ..
  · by_cases h1 : (pt h b).val % 4 = 3
    · rw [outsAt0_C m c (pt h b) h0 h1]
      dsimp only
      exact out5_C (h := H.holds h b) ..
    · rw [outsAt0_B m c (pt h b) h0 h1]
      dsimp only
      exact out5_B (h := H.holds h b) ..

/-! ## The arrays after the run -/

/-- The gradient of the queries. -/
theorem Arrays.final_query (H : Arrays m c q k v a) : (dats m 0 c).arrAt 5 cfg0.N
    = (fun i => (gq (q (i 0)) (k (i 0)) (v (i 0)) (a (i 0)) (i 1) (i 2) : EReal) : Vec Ideal S4x4096x256 .f32) := by
  refine (dats m 0 c).arrAt_eq_of_covers 5 _ (by decide +kernel) fun t hf y => ?_
  obtain ⟨h, b, rfl⟩ : ∃ h b : Fin 4, t = pt h b :=
    ⟨⟨t.val / 4, by have := lt_of_lt_of_eq t.isLt N_0; omega⟩, ⟨t.val % 4, by omega⟩, Fin.ext (by show t.val = 4 * (t.val / 4) + t.val % 4; omega)⟩
  blk_simp
  rw [after0_5]
  refine (congrArg _ (eq_ix3 y)).trans ((H.query_out h b (y 0) (y 1) (y 2)).trans ?_)
  have e : (((cfg0.win 5).blk (pt h b)).view.emb y) = (ix3 h (row b (y 1)) (y 2) : S4x4096x256.Idx) := by
    blk_ext [index5, pt, row]
    · show (4 * h.val + b.val) / 4 = h.val; omega
  blk_simp at e
  rw [e]

/-- The gradient of the keys. -/
theorem Arrays.final_key (H : Arrays m c q k v a) : (dats m 0 c).arrAt 6 cfg0.N
    = (fun i => (gk (q (i 0)) (k (i 0)) (v (i 0)) (a (i 0)) (i 1) (i 2) : EReal) : Vec Ideal S4x4096x256 .f32) := by
  refine (dats m 0 c).arrAt_eq_of_covers 6 _ (by decide +kernel) fun t hf y => ?_
  obtain ⟨h, rfl⟩ : ∃ h : Fin 4, t = pt h 3 := by
    have h3 : t.val % 4 = 3 := (by decide +kernel : ∀ t : Fin cfg0.N, (cfg0.win 6).flush t = true → t.val % 4 = 3) t hf
    exact ⟨⟨t.val / 4, by have := lt_of_lt_of_eq t.isLt N_0; omega⟩, Fin.ext (by show t.val = 4 * (t.val / 4) + 3; omega)⟩
  blk_simp
  rw [after0_6]
  refine (congrArg _ (eq_ix3 y)).trans ((H.key_out h (y 0) (y 1) (y 2)).trans ?_)
  have e : (((cfg0.win 6).blk (pt h 3)).view.emb y) = (ix3 h (y 1) (y 2) : S4x4096x256.Idx) := by
    blk_ext [index6, pt, row]
    · show (4 * h.val + 3) / 4 = h.val; omega
  blk_simp at e
  rw [e]

/-- The gradient of the values. -/
theorem Arrays.final_value (H : Arrays m c q k v a) : (dats m 0 c).arrAt 7 cfg0.N
    = (fun i => (gv (q (i 0)) (k (i 0)) (a (i 0)) (i 1) (i 2) : EReal) : Vec Ideal S4x4096x128 .f32) := by
  refine (dats m 0 c).arrAt_eq_of_covers 7 _ (by decide +kernel) fun t hf y => ?_
  obtain ⟨h, rfl⟩ : ∃ h : Fin 4, t = pt h 3 := by
    have h3 : t.val % 4 = 3 := (by decide +kernel : ∀ t : Fin cfg0.N, (cfg0.win 7).flush t = true → t.val % 4 = 3) t hf
    exact ⟨⟨t.val / 4, by have := lt_of_lt_of_eq t.isLt N_0; omega⟩, Fin.ext (by show t.val = 4 * (t.val / 4) + 3; omega)⟩
  blk_simp
  rw [after0_7]
  refine (congrArg _ (eq_ix3 y)).trans ((H.value_out h (y 0) (y 1) (y 2)).trans ?_)
  have e : (((cfg0.win 7).blk (pt h 3)).view.emb y) = (ix3 h (y 1) (y 2) : S4x4096x128.Idx) := by
    blk_ext [index7, pt, row]
    · show (4 * h.val + 3) / 4 = h.val; omega
  blk_simp at e
  rw [e]

end Cert.Proof.Accum

end
-- ==== Proof.Host.lean ====
module

public import proofs.«01_k».proof.Proof.Accum
public import proofs.«01_k».proof.Proof.Gen.KernelIdeal.Launch
public import proofs.«01_k».proof.Proof.Gen.KernelIdeal.Frame.Runs
public import Idealize.ShloMosaic.Lib.Pointwise
public import Idealize.ShloMosaic.Lib.Claim

@[expose] public section

noncomputable section

namespace Cert.Proof.Host

open Idealize.ShloMosaic
open Cert.KernelIdeal Cert.KernelIdeal.Gen
open Cert.Proof.Math hiding c
open Cert.Proof.Accum (lane Arrays)

/-- The queries or keys by heads, the features filled up with zeros. -/
def byHeads (x : Vec Ideal S1x4096x4x192 .f32) : Vec Ideal S4x4096x256 .bf16 :=
  truncf (F := Ideal) .bf16 (pad S4x4096x256 ![0, 0, 0] ![0, 0, 64] ![0, 0, 0]
    (transpose S4x4096x192 [1, 0, 2] (shapeCast S4096x4x192 x shapeCasts_S1x4096x4x192_S4096x4x192) transposes_S4096x4x192_S4x4096x192_1_0_2)
    (sitofp (F := Ideal) .f32 (constantI S_ 32 0#32)) pads_S4x4096x192_S4x4096x256_000_000_0640 h_S_) bitsLt_bf16_f32

/-- The values by heads. -/
def valuesByHeads (x : Vec Ideal S1x4096x4x128 .f32) : Vec Ideal S4x4096x128 .bf16 :=
  truncf (F := Ideal) .bf16 (pad S4x4096x128 ![0, 0, 0] ![0, 0, 0] ![0, 0, 0]
    (transpose S4x4096x128 [1, 0, 2] (shapeCast S4096x4x128 x shapeCasts_S1x4096x4x128_S4096x4x128) transposes_S4096x4x128_S4x4096x128_1_0_2)
    (sitofp (F := Ideal) .f32 (constantI S_ 32 0#32)) pads_S4x4096x128_S4x4096x128_000_000_000 h_S_) bitsLt_bf16_f32

/-- The output's gradient. -/
def gradRows (x : Vec Ideal S1x4096x512 .f32) : Vec Ideal S4096x512 .bf16 :=
  truncf (F := Ideal) .bf16 (shapeCast S4096x512 x shapeCasts_S1x4096x512_S4096x512) bitsLt_bf16_f32

/-- The scaled scores. -/
def scores (x y : Vec Ideal S1x4096x4x192 .f32) : Vec Ideal S1x4x4096x4096 .f32 :=
  mulf (F := Ideal) (φ := .f32) (Host.dotGeneral (F := Ideal) (φ₁ := .f32) (φ₂ := .f32) dot_S1x4096x4x192_S1x4096x4x192_S1x4x4096x4096_3_3_1_1_02_02 none x y)
    (broadcastInDim S1x4x4096x4096 ![] bcast_S_S1x4x4096x4096
      (Host.divf (F := Ideal) (φ := .f32) (constant S_ .f32 0x3F800000#32) (Host.sqrt (F := Ideal) (φ := .f32) (constant S_ .f32 0x43400000#32))))

/-- Every row's largest scaled score. -/
def tops (s : Vec Ideal S1x4x4096x4096 .f32) : Vec Ideal S1x4x4096 .f32 :=
  maximumf (F := Ideal) (φ := .f32) (broadcastInDim S1x4x4096 ![] bcast_S_S1x4x4096 (constant (F := Ideal) S_ .f32 0xFF800000#32))
    (Host.reduce FloatOps.maximumf s (constant (F := Ideal) S_ .f32 0xFF800000#32) reducesTo_S1x4x4096x4096_S1x4x4096_d3 h_S_)

/-- A number per row, at every entry of the row. -/
def spread (t : Vec Ideal S1x4x4096 .f32) : Vec Ideal S1x4x4096x4096 .f32 :=
  broadcastInDim S1x4x4096x4096 ![0, 1, 2, 3] bcast_S1x4x4096x1_S1x4x4096x4096_0_1_2_3
    (broadcastInDim S1x4x4096x1 ![0, 1, 2] bcast_S1x4x4096_S1x4x4096x1_0_1_2 t)

/-- The weights before division. -/
def weights (s : Vec Ideal S1x4x4096x4096 .f32) : Vec Ideal S1x4x4096x4096 .f32 :=
  Host.exp (F := Ideal) (φ := .f32) (subf (F := Ideal) (φ := .f32) s (spread (tops s)))

/-- Every row's sum. -/
def sums (w : Vec Ideal S1x4x4096x4096 .f32) : Vec Ideal S1x4x4096 .f32 :=
  Host.reduceAdd (F := Ideal) (φ := .f32) w (constant (F := Ideal) S_ .f32 0x00000000#32) reducesTo_S1x4x4096x4096_S1x4x4096_d3 h_S_

/-- The forward output, the heads side by side. -/
def output (w : Vec Ideal S1x4x4096x4096 .f32) (v : Vec Ideal S1x4096x4x128 .f32) : Vec Ideal S4096x512 .f32 :=
  shapeCast S4096x512 (shapeCast S1x4096x512
    (transpose S1x4096x4x128 [0, 3, 1, 2]
      (Host.dotGeneral (F := Ideal) (φ₁ := .f32) (φ₂ := .f32) dot_S1x4096x4x128_S1x4x4096x4096_S1x4x128x4096_1_3_3_2_02_01 none v
        (Host.divf (F := Ideal) (φ := .f32) w (spread (sums w))))
      transposes_S1x4x128x4096_S1x4096x4x128_0_3_1_2)
    shapeCasts_S1x4096x4x128_S1x4096x512) shapeCasts_S1x4096x512_S4096x512

/-! ## The host's values at an index -/

theorem zero_int : (FloatOps.sitofp (F := Ideal) FTy.f32 (0#32 : BitVec 32) : EReal) = 0 := by
  show (((0#32 : BitVec 32).toInt : ℝ) : EReal) = 0
  simp

theorem byHeads_apply (x : Vec Ideal S1x4096x4x192 .f32) (h : Fin 4) (i : Fin 4096) (d : Fin 256) :
    byHeads x (ix3 h i d) = if hd : d.val < 192 then x (ix4 0 i h ⟨d.val, hd⟩) else 0 := by
  pointwise [byHeads]
  rw [zero_int]

theorem valuesByHeads_apply (x : Vec Ideal S1x4096x4x128 .f32) (h : Fin 4) (i : Fin 4096) (d : Fin 128) :
    valuesByHeads x (ix3 h i d) = x (ix4 0 i h d) := by
  pointwise [valuesByHeads]

theorem gradRows_apply (x : Vec Ideal S1x4096x512 .f32) (i : Fin 4096) (d : Fin 512) :
    gradRows x (ix2 i d) = x (ix3 0 i d) := by
  pointwise [gradRows]

/-- The scaling constant as the host computes it. -/
theorem scale_eq : Ideal.div (FloatOps.ofBits (F := Ideal) .f32 0x3F800000#32) (Ideal.sqrt (FloatOps.ofBits (F := Ideal) .f32 0x43400000#32)) = ((Math.c : ℝ) : EReal) := by
  have h192 : (FloatOps.ofBits (F := Ideal) .f32 0x43400000#32 : EReal) = ((192 : ℝ) : EReal) := by
    show Ideal.ofBits .f32 0x43400000#32 = _
    simp [Ideal.ofBits, Ideal.ieee]
    rw [← EReal.coe_mul]
    norm_num
  rw [Ops.one_f32, h192, Ideal.sqrt_coe, if_neg (by norm_num), div_coe _ _ (Real.sqrt_ne_zero'.2 (by norm_num)), one_mul]
  rfl

/-- The largest entry of a row, of an array of any sizes, from any first value. -/
theorem rowMax {n₀ n₁ n₂ n₃ : ℕ} {u : Shape} (x : FVec Ideal ⟨4, ![n₀, n₁, n₂, n₃]⟩ .f32) (init : u.Idx → EReal)
    (h : (⟨4, ![n₀, n₁, n₂, n₃]⟩ : Shape).ReducesTo [3] ⟨3, ![n₀, n₁, n₂]⟩) (hu : 0 < u.numel) (a : Fin n₀) (b : Fin n₁) (i : Fin n₂) :
    Host.reduce (FloatOps.maximumf (F := Ideal) (φ := .f32)) x init h hu (ix3 a b i)
      = (Finset.univ : Finset (Fin n₃)).fold max (init (Shape.Idx.first hu)) (fun j => x (ix4 a b i j)) :=
  (Host.reduce_eq_fold _ x init h hu (ix3 a b i)).trans (h.fold_fiber_r4_a3 (ix3 a b i) max _ x)

variable (m : (ℓ : Loc nD τ sig) → Buf (Elt Ideal) ℓ) (c : Dev nD)

theorem query_eq : V m c main_v23 = byHeads (m ((c.tc : Thread nD τ).loc main_arg0)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem key_eq : V m c main_v27 = byHeads (m ((c.tc : Thread nD τ).loc main_arg1)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem value_eq : V m c main_v31 = valuesByHeads (m ((c.tc : Thread nD τ).loc main_arg2)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem grad_eq : V m c main_v33 = gradRows (m ((c.tc : Thread nD τ).loc main_arg3)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem output_eq : V m c main_v19 = output (weights (scores (m ((c.tc : Thread nD τ).loc main_arg0)) (m ((c.tc : Thread nD τ).loc main_arg1)))) (m ((c.tc : Thread nD τ).loc main_arg2)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  unfold output weights sums spread tops scores
  rfl

/-- The same, when that first value and another lower bound are minus infinity. -/
theorem rowMaxFrom {n₀ n₁ n₂ n₃ : ℕ} {u : Shape} (x : FVec Ideal ⟨4, ![n₀, n₁, n₂, n₃]⟩ .f32) (low : FVec Ideal ⟨3, ![n₀, n₁, n₂]⟩ .f32)
    (init : u.Idx → EReal) (h : (⟨4, ![n₀, n₁, n₂, n₃]⟩ : Shape).ReducesTo [3] ⟨3, ![n₀, n₁, n₂]⟩) (hu : 0 < u.numel)
    (a : Fin n₀) (b : Fin n₁) (i : Fin n₂) (hlow : low (ix3 a b i) = ⊥) (hinit : init (Shape.Idx.first hu) = ⊥) :
    maximumf (F := Ideal) (φ := .f32) low (Host.reduce (FloatOps.maximumf (F := Ideal) (φ := .f32)) x init h hu) (ix3 a b i)
      = (Finset.univ : Finset (Fin n₃)).fold max ⊥ (fun j => x (ix4 a b i j)) := by
  show max (low (ix3 a b i)) (Host.reduce (FloatOps.maximumf (F := Ideal) (φ := .f32)) x init h hu (ix3 a b i)) = _
  rw [rowMax, hlow, hinit, max_eq_right bot_le]

/-! ## The host's values as real numbers -/

section reals

variable (x y : Vec Ideal S1x4096x4x192 .f32) (z : Vec Ideal S1x4096x4x128 .f32) (q k : Fin 4 → Fin 4096 → Fin 192 → ℝ)
  (v : Fin 4 → Fin 4096 → Fin 128 → ℝ)

theorem scores_apply (hx : ∀ h i d, x (ix4 0 i h d) = (q h i d : EReal)) (hy : ∀ h i d, y (ix4 0 i h d) = (k h i d : EReal))
    (h : Fin 4) (i j : Fin 4096) : scores x y (ix4 0 h i j) = ((sc (q h) (k h) i j * Math.c : ℝ) : EReal) := by
  have e : scores x y (ix4 0 h i j) = (∑ d, x (ix4 0 i h d) * y (ix4 0 j h d))
      * Ideal.div (FloatOps.ofBits (F := Ideal) .f32 0x3F800000#32) (Ideal.sqrt (FloatOps.ofBits (F := Ideal) .f32 0x43400000#32)) := by
    pointwise [scores]
  rw [e, scale_eq, sum_mul_eq_coe (hx h i) (hy h j), ← EReal.coe_mul]
  rfl

theorem tops_apply (s : Vec Ideal S1x4x4096x4096 .f32) (σ : Fin 4 → Fin 4096 → Fin 4096 → ℝ)
    (hs : ∀ h i j, s (ix4 0 h i j) = (σ h i j : EReal)) (h : Fin 4) (i : Fin 4096) : tops s (ix3 0 h i) = (top (σ h i) : EReal) := by
  unfold tops
  refine (rowMaxFrom s _ _ _ _ 0 h i Ops.neg_inf_f32 Ops.neg_inf_f32).trans ?_
  rw [← fold_max_coe]
  exact congrArg (Finset.fold max ⊥ · Finset.univ) (funext fun j => hs h i j)

theorem spread_apply (t : Vec Ideal S1x4x4096 .f32) (h : Fin 4) (i j : Fin 4096) : spread t (ix4 0 h i j) = t (ix3 0 h i) := by
  pointwise [spread]

theorem weights_apply (s : Vec Ideal S1x4x4096x4096 .f32) (σ : Fin 4 → Fin 4096 → Fin 4096 → ℝ)
    (hs : ∀ h i j, s (ix4 0 h i j) = ((σ h i j * Math.c : ℝ) : EReal)) (h : Fin 4) (i j : Fin 4096) :
    weights s (ix4 0 h i j) = (wt (σ h i) j : EReal) := by
  show Ideal.exp (s (ix4 0 h i j) - spread (tops s) (ix4 0 h i j)) = _
  rw [spread_apply, tops_apply s (fun h i j => σ h i j * Math.c) hs, hs, ← EReal.coe_sub, Ideal.exp_coe, exp_scaled_eq_wt]

theorem sums_apply (w : Vec Ideal S1x4x4096x4096 .f32) (σ : Fin 4 → Fin 4096 → Fin 4096 → ℝ)
    (hw : ∀ h i j, w (ix4 0 h i j) = (wt (σ h i) j : EReal)) (h : Fin 4) (i : Fin 4096) : sums w (ix3 0 h i) = (den (σ h i) : EReal) := by
  pointwise [sums]
  exact sum_eq_coe (hw h i)

theorem output_apply (w : Vec Ideal S1x4x4096x4096 .f32) (σ : Fin 4 → Fin 4096 → Fin 4096 → ℝ)
    (hw : ∀ h i j, w (ix4 0 h i j) = (wt (σ h i) j : EReal)) (hz : ∀ h i d, z (ix4 0 i h d) = (v h i d : EReal))
    (h : Fin 4) (i : Fin 4096) (d : Fin 128) :
    output w z (ix2 i (lane h d)) = ((∑ j, v h j d * (wt (σ h i) j * (den (σ h i))⁻¹) : ℝ) : EReal) := by
  unfold lane
  pointwise [output]
  refine sum_mul_eq_coe (fun j => hz h j d) fun j => ?_
  rw [spread_apply, sums_apply w σ hw, hw, div_coe _ _ (den_ne_zero _)]

end reals

/-! ## What the call is given -/

/-- When the four arguments hold real numbers, the call's operands hold them by heads, and the forward output. -/
theorem arrays (q k : Fin 4 → Fin 4096 → Fin 192 → ℝ) (v a : Fin 4 → Fin 4096 → Fin 128 → ℝ)
    (hq : ∀ h i d, (m ((c.tc : Thread nD τ).loc main_arg0) : Vec Ideal S1x4096x4x192 .f32) (ix4 0 i h d) = (q h i d : EReal))
    (hk : ∀ h i d, (m ((c.tc : Thread nD τ).loc main_arg1) : Vec Ideal S1x4096x4x192 .f32) (ix4 0 i h d) = (k h i d : EReal))
    (hv : ∀ h i d, (m ((c.tc : Thread nD τ).loc main_arg2) : Vec Ideal S1x4096x4x128 .f32) (ix4 0 i h d) = (v h i d : EReal))
    (ha : ∀ h i d, (m ((c.tc : Thread nD τ).loc main_arg3) : Vec Ideal S1x4096x512 .f32) (ix3 0 i (lane h d)) = (a h i d : EReal)) :
    Arrays m c (fun h i => fill (q h i)) (fun h i => fill (k h i)) v a := by
  have hfill : ∀ (x : Vec Ideal S1x4096x4x192 .f32) (r : Fin 4 → Fin 4096 → Fin 192 → ℝ), (∀ h i d, x (ix4 0 i h d) = (r h i d : EReal)) →
      ∀ h i d, byHeads x (ix3 h i d) = (fill (r h i) d : EReal) := fun x r hx h i d => by
    rw [byHeads_apply, fill]
    split
    · exact hx h i _
    · rfl
  refine ⟨fun h i d => ?_, fun h i d => ?_, fun h i d => ?_, fun h i d => ?_, fun h i d => ?_⟩
  · rw [query_eq, ← ix3_eq_valueIdx]; exact hfill _ q hq h i d
  · rw [key_eq, ← ix3_eq_valueIdx]; exact hfill _ k hk h i d
  · rw [value_eq, ← ix3_eq_valueIdx, valuesByHeads_apply]; exact hv h i d
  · rw [grad_eq, ← ix2_eq_valueIdx, gradRows_apply]; exact ha h i d
  · rw [output_eq, ← ix2_eq_valueIdx,
      output_apply _ v _ (fun h => sc (q h) (k h)) (weights_apply _ _ (scores_apply _ _ q k hq hk)) hv, ← sc_fill]
    rfl

end Cert.Proof.Host

end
-- ==== Proof.Ref.lean ====
/-
  What the reference computes when its four arguments hold real numbers: every value on the way, read at an index, is a
  real expression of `Math`, down to the three gradients. The reference differentiates the softmax's quotient, so its
  gradient with respect to the scores has the row's mean in another place than the kernel's: `gs_eq` joins the two.
-/
module

public import proofs.«01_k».proof.Proof.Host
public import proofs.«01_k».proof.Proof.Gen.ReferenceIdeal.Read

@[expose] public section

noncomputable section

namespace Cert.Proof.Ref

open Idealize.ShloMosaic
open Cert.ReferenceIdeal Cert.ReferenceIdeal.Gen Cert.ReferenceIdeal.Read
open Cert.Proof.Math
open Cert.Proof.Accum (lane)
open Cert.Proof.Host (rowMaxFrom scale_eq zero_int)
open scoped BigOperators

/-- A sum over two axes of size one is the one entry. -/
theorem sumUnit {n₁ n₂ : ℕ} (h : (⟨4, ![1, n₁, n₂, 1]⟩ : Shape).ReducesTo [0, 3] ⟨2, ![n₁, n₂]⟩)
    (x : (⟨4, ![1, n₁, n₂, 1]⟩ : Shape).Idx → EReal) (a : Fin n₁) (i : Fin n₂) :
    Ideal.hostReduceAdd h x 0 (ix2 a i) = x (ix4 0 a i 0) := by
  unfold Ideal.hostReduceAdd
  rw [zero_add]
  refine (Finset.sum_filter_eq_sum_of_fiber _ (fun _ : Unit => ix4 0 a i 0) (fun _ _ _ => rfl) (fun j => ?_) x).trans (by simp)
  constructor
  · intro e
    refine ⟨(), ?_⟩
    funext b; apply Fin.ext
    match b with
    | ⟨0, _⟩ => exact (Nat.lt_one_iff.1 (j 0).isLt).symm
    | ⟨1, _⟩ => exact (congrArg Fin.val (congrFun e 0)).symm
    | ⟨2, _⟩ => exact (congrArg Fin.val (congrFun e 1)).symm
    | ⟨3, _⟩ => exact (Nat.lt_one_iff.1 (j 3).isLt).symm
  · rintro ⟨_, rfl⟩
    funext b; apply Fin.ext
    match b with
    | ⟨0, _⟩ => rfl
    | ⟨1, _⟩ => rfl

variable (x0 x1 : Vec Ideal S1x4096x4x192 .f32) (x2 : Vec Ideal S1x4096x4x128 .f32) (x3 : Vec Ideal S1x4096x512 .f32)
  (q k : Fin 4 → Fin 4096 → Fin 192 → ℝ) (v a : Fin 4 → Fin 4096 → Fin 128 → ℝ)

section weights

variable (hq : ∀ h i d, x0 (ix4 0 i h d) = (q h i d : EReal)) (hk : ∀ h i d, x1 (ix4 0 i h d) = (k h i d : EReal))
include hq hk

theorem weights_apply (h : Fin 4) (i j : Fin 4096) :
    val_main_v25 (F := Ideal) x0 x1 (ix4 0 h i j) = (wt (sc (q h) (k h) i) j : EReal) :=
  Host.weights_apply _ _ (Host.scores_apply x0 x1 q k hq hk) h i j

theorem sums_apply (h : Fin 4) (i : Fin 4096) (u : Fin 1) :
    val_main_v27 (F := Ideal) x0 x1 (ix4 0 h i u) = (den (sc (q h) (k h) i) : EReal) := by
  pointwise [val_main_v27]
  exact Host.sums_apply _ _ (weights_apply x0 x1 q k hq hk) h i

theorem quotient_apply (h : Fin 4) (i j : Fin 4096) :
    val_main_v29 (F := Ideal) x0 x1 (ix4 0 h i j) = ((wt (sc (q h) (k h) i) j * (den (sc (q h) (k h) i))⁻¹ : ℝ) : EReal) := by
  pointwise [val_main_v29, val_main_v28]
  rw [sums_apply x0 x1 q k hq hk, weights_apply x0 x1 q k hq hk, div_coe _ _ (den_ne_zero _)]

theorem square_apply (h : Fin 4) (i j : Fin 4096) :
    val_main_v41 (F := Ideal) x0 x1 (ix4 0 h i j) = (((den (sc (q h) (k h) i) * den (sc (q h) (k h) i))⁻¹ : ℝ) : EReal) := by
  pointwise [val_main_v41, val_main_v32, val_main_v31, val_main_v30, val_main_cst_10]
  rw [sums_apply x0 x1 q k hq hk, ← EReal.coe_mul, ← EReal.coe_one, div_coe _ _ (mul_ne_zero (den_ne_zero _) (den_ne_zero _)), one_mul]

end weights

theorem grad_apply (ha : ∀ h i d, x3 (ix3 0 i (lane h d)) = (a h i d : EReal)) (h : Fin 4) (d : Fin 128) (i : Fin 4096) :
    val_main_v37 (F := Ideal) x3 (ix4 0 h d i) = (a h i d : EReal) := by
  rw [← ha]
  unfold lane
  pointwise [val_main_v37, val_main_v36]
  exact congrArg x3 (congrArg (ix3 0 i) (Fin.ext (congrArg (· + d.val) (Nat.mul_comm h.val 128))))

theorem gw_apply (hv : ∀ h i d, x2 (ix4 0 i h d) = (v h i d : EReal)) (ha : ∀ h i d, x3 (ix3 0 i (lane h d)) = (a h i d : EReal))
    (h : Fin 4) (i j : Fin 4096) : val_main_v38 (F := Ideal) x2 x3 (ix4 0 h i j) = (gw (v h) (a h) i j : EReal) := by
  pointwise [val_main_v38]
  exact sum_mul_eq_coe (fun d => grad_apply x3 a ha h d i) (fun d => hv h j d)

section scores

variable (hq : ∀ h i d, x0 (ix4 0 i h d) = (q h i d : EReal)) (hk : ∀ h i d, x1 (ix4 0 i h d) = (k h i d : EReal))
  (hv : ∀ h i d, x2 (ix4 0 i h d) = (v h i d : EReal)) (ha : ∀ h i d, x3 (ix3 0 i (lane h d)) = (a h i d : EReal))
include hq hk hv ha

/-- The terms of a row's mean. -/
theorem term_apply (h : Fin 4) (i j : Fin 4096) : val_main_v43 (F := Ideal) x0 x1 x2 x3 (ix4 0 h i j)
    = ((gw (v h) (a h) i j * (den (sc (q h) (k h) i) * den (sc (q h) (k h) i))⁻¹ * wt (sc (q h) (k h) i) j : ℝ) : EReal) := by
  pointwise [val_main_v43, val_main_v42]
  rw [square_apply x0 x1 q k hq hk, weights_apply x0 x1 q k hq hk, gw_apply x2 x3 v a hv ha, ← EReal.coe_mul, ← EReal.coe_mul]

/-- A row's mean. -/
theorem mean_apply (h : Fin 4) (i : Fin 4096) : val_main_v44 (F := Ideal) x0 x1 x2 x3 (ix3 0 h i)
    = ((∑ j, gw (v h) (a h) i j * (den (sc (q h) (k h) i) * den (sc (q h) (k h) i))⁻¹ * wt (sc (q h) (k h) i) j : ℝ) : EReal) := by
  pointwise [val_main_v44, val_main_cst_11]
  exact sum_eq_coe (term_apply x0 x1 x2 x3 q k v a hq hk hv ha h i)

/-- Its negative, at every entry of the row. -/
theorem shift_apply (h : Fin 4) (i j : Fin 4096) : val_main_v51 (F := Ideal) x0 x1 x2 x3 (ix4 0 h i j)
    = ((-(∑ j, gw (v h) (a h) i j * (den (sc (q h) (k h) i) * den (sc (q h) (k h) i))⁻¹ * wt (sc (q h) (k h) i) j) : ℝ) : EReal) := by
  have e : val_main_v46 (F := Ideal) x0 x1 x2 x3 (ix4 0 h i 0)
      = ((-(∑ j, gw (v h) (a h) i j * (den (sc (q h) (k h) i) * den (sc (q h) (k h) i))⁻¹ * wt (sc (q h) (k h) i) j) : ℝ) : EReal) := by
    pointwise [val_main_v46, val_main_v45]
    rw [mean_apply x0 x1 x2 x3 q k v a hq hk hv ha, EReal.coe_neg]
  have e' : val_main_v49 (F := Ideal) x0 x1 x2 x3 (ix2 h i) = val_main_v46 (F := Ideal) x0 x1 x2 x3 (ix4 0 h i 0) := by
    unfold val_main_v49
    refine Eq.trans ?_ (sumUnit reducesTo_S1x4x4096x1_S4x4096_d0_3 _ h i)
    rw [← Ops.zero_f32]
    rfl
  pointwise [val_main_v51, val_main_v50]
  rw [e', e]

/-- The gradient with respect to the scores. -/
theorem gs_apply (h : Fin 4) (i j : Fin 4096) : val_main_v53 (F := Ideal) x0 x1 x2 x3 (ix4 0 h i j)
    = (gs (q h) (k h) (v h) (a h) i j : EReal) := by
  pointwise [val_main_v53, val_main_v52, val_main_v48, val_main_v47]
  rw [weights_apply x0 x1 q k hq hk, sums_apply x0 x1 q k hq hk, gw_apply x2 x3 v a hv ha, shift_apply x0 x1 x2 x3 q k v a hq hk hv ha,
    div_coe _ _ (den_ne_zero _), ← EReal.coe_add, ← EReal.coe_mul, gs_eq]

/-- The same with the scaling constant. -/
theorem scaled_apply (h : Fin 4) (i j : Fin 4096) : val_main_v55 (F := Ideal) x0 x1 x2 x3 (ix4 0 h i j)
    = ((gs (q h) (k h) (v h) (a h) i j * Math.c : ℝ) : EReal) := by
  have e : val_main_v54 (F := Ideal) (ix4 0 h i j) = ((Math.c : ℝ) : EReal) := scale_eq
  pointwise [val_main_v55]
  rw [gs_apply x0 x1 x2 x3 q k v a hq hk hv ha, e, ← EReal.coe_mul]

/-! ## The three gradients -/

theorem gq_apply (h : Fin 4) (i : Fin 4096) (d : Fin 192) : val_main_v61 (F := Ideal) x0 x1 x2 x3 (ix3 h i d)
    = (gq (q h) (k h) (v h) (a h) i d : EReal) := by
  pointwise [val_main_v61, val_main_v60, val_main_v59, val_main_v58]
  refine (sum_mul_eq_coe (scaled_apply x0 x1 x2 x3 q k v a hq hk hv ha h i) (fun j => hk h j d)).trans (congrArg _ ?_)
  unfold gq
  rw [Finset.sum_mul]
  exact Finset.sum_congr rfl fun j _ => by ring

theorem gk_apply (h : Fin 4) (j : Fin 4096) (d : Fin 192) : val_main_v64 (F := Ideal) x0 x1 x2 x3 (ix3 h j d)
    = (gk (q h) (k h) (v h) (a h) j d : EReal) := by
  pointwise [val_main_v64, val_main_v63, val_main_v57, val_main_v56]
  refine (sum_mul_eq_coe (fun i => scaled_apply x0 x1 x2 x3 q k v a hq hk hv ha h i j) (fun i => hq h i d)).trans (congrArg _ ?_)
  unfold gk
  rw [Finset.sum_mul]
  exact Finset.sum_congr rfl fun j _ => by ring

omit hv in
theorem gv_apply (h : Fin 4) (j : Fin 4096) (d : Fin 128) : val_main_v67 (F := Ideal) x0 x1 x3 (ix3 h j d)
    = (gv (q h) (k h) (a h) j d : EReal) := by
  pointwise [val_main_v67, val_main_v66, val_main_v40, val_main_v39]
  refine (sum_mul_eq_coe (fun i => grad_apply x3 a ha h d i) (fun i => quotient_apply x0 x1 q k hq hk h i j)).trans (congrArg _ ?_)
  unfold gv
  exact Finset.sum_congr rfl fun j _ => by ring

theorem query_apply (h : Fin 4) (i : Fin 4096) (d : Fin 256) : val_main_v62 (F := Ideal) x0 x1 x2 x3 (ix3 h i d)
    = (fill (gq (q h) (k h) (v h) (a h) i) d : EReal) := by
  pointwise [val_main_v62, val_main_call0_v0, val_main_c]
  rw [fill]
  split
  · exact gq_apply x0 x1 x2 x3 q k v a hq hk hv ha h i _
  · exact zero_int

theorem key_apply (h : Fin 4) (j : Fin 4096) (d : Fin 256) : val_main_v65 (F := Ideal) x0 x1 x2 x3 (ix3 h j d)
    = (fill (gk (q h) (k h) (v h) (a h) j) d : EReal) := by
  pointwise [val_main_v65, val_main_call1_v0, val_main_c_13]
  rw [fill]
  split
  · exact gk_apply x0 x1 x2 x3 q k v a hq hk hv ha h j _
  · exact zero_int

end scores

end Cert.Proof.Ref

end
-- ==== Proof.Finite.lean ====
/-
  The precondition: every entry of the four arguments has an absolute value below infinity. Then every entry is a real
  number.
-/
module

public import proofs.«01_k».proof.Defs
public import proofs.«01_k».proof.Proof.Math

@[expose] public section

noncomputable section

namespace Cert.Proof.Finite

open Idealize.ShloMosaic
open scoped BigOperators

/-- The shapes the precondition's test is stated at. -/
theorem facts : Cert.Pre_finite.Facts where
  bcast_S_S1x4096x4x192 := by decide
  bcast_S_S1x4096x4x128 := by decide
  bcast_S_S1x4096x512 := by decide

theorem inf_f32 : (FloatOps.ofBits (F := Ideal) .f32 0x7F800000#32 : EReal) = ⊤ := by
  show Ideal.ofBits .f32 0x7F800000#32 = _
  simp [Ideal.ofBits, Ideal.ieee]

/-- An entry that passes the test is a real number. -/
theorem real {s u : Shape} (x : FVec Ideal s .f32) (dims : Fin u.rank → Fin s.rank) (hb : u.BroadcastsInDim s dims) (i : s.Idx)
    (h : cmpf .olt (Host.absf x) (broadcastInDim s dims hb (constant (F := Ideal) u .f32 0x7F800000#32)) i = 1#1) :
    ((EReal.toReal (x i) : ℝ) : EReal) = x i := by
  have h' : Ideal.cmp .olt (max (x i : EReal) (-(x i : EReal))) (FloatOps.ofBits (F := Ideal) .f32 0x7F800000#32) = 1#1 := h
  rw [inf_f32] at h'
  have hlt : max (x i : EReal) (-(x i : EReal)) < ⊤ := by
    by_contra hn
    simp [Ideal.cmp, hn] at h'
  rw [max_lt_iff] at hlt
  refine EReal.coe_toReal hlt.1.ne fun hbot => ?_
  rw [hbot] at hlt
  simp at hlt

/-- Products and sums of real numbers are real numbers. -/
theorem mul_real {x y : EReal} (hx : ((x.toReal : ℝ) : EReal) = x) (hy : ((y.toReal : ℝ) : EReal) = y) :
    (((x * y).toReal : ℝ) : EReal) = x * y := by
  rw [← hx, ← hy, ← EReal.coe_mul, EReal.toReal_coe]

theorem add_real {x y : EReal} (hx : ((x.toReal : ℝ) : EReal) = x) (hy : ((y.toReal : ℝ) : EReal) = y) :
    (((x + y).toReal : ℝ) : EReal) = x + y := by
  rw [← hx, ← hy, ← EReal.coe_add, EReal.toReal_coe]

theorem sum_real {ι : Type} (s : Finset ι) (f : ι → EReal) (h : ∀ i, ((EReal.toReal (f i) : ℝ) : EReal) = f i) :
    ((EReal.toReal (∑ i ∈ s, f i) : ℝ) : EReal) = ∑ i ∈ s, f i := by
  have e : ∑ i ∈ s, f i = ((∑ i ∈ s, EReal.toReal (f i) : ℝ) : EReal) := by
    rw [Math.coe_sum]
    exact Finset.sum_congr rfl fun i _ => (h i).symm
  rw [e, EReal.toReal_coe]

end Cert.Proof.Finite

end
-- ==== Proof.Norm.lean ====
/-
  The root mean square norm, as the kernel and the reference write it: the mean of the squares is a product with 1 / n on
  the one side, a quotient by n on the other, and n is a power of two.
-/
module

public import proofs.«01_k».proof.Proof.Math
public import Idealize.ShloMosaic.PureOps.Ideal.Laws
public import Idealize.ShloMosaic.Lib.IdealHost

@[expose] public section

noncomputable section

namespace Cert.Proof.Norm

open Idealize.ShloMosaic
open scoped BigOperators

/-- The small number under the root. -/
abbrev eps : EReal := Ideal.ofBits .f32 0x358637BD#32
/-- 1 / 1024 and 1 / 128. -/
abbrev inv1024 : EReal := Ideal.ofBits .f32 0x3A800000#32
abbrev inv128 : EReal := Ideal.ofBits .f32 0x3C000000#32

theorem inv1024_eq : inv1024 = (((1024 : ℝ)⁻¹ : ℝ) : EReal) := by
  simp [inv1024, Ideal.ofBits, Ideal.ieee]
  rw [← EReal.coe_mul]
  norm_num

theorem inv128_eq : inv128 = (((128 : ℝ)⁻¹ : ℝ) : EReal) := by
  simp [inv128, Ideal.ofBits, Ideal.ieee]
  rw [← EReal.coe_mul]
  norm_num

theorem n1024 : Ideal.ofBits .f32 0x44800000#32 = ((1024 : ℝ) : EReal) := by
  simp [Ideal.ofBits, Ideal.ieee]
  rw [← EReal.coe_mul]
  norm_num

theorem n128 : Ideal.ofBits .f32 0x43000000#32 = ((128 : ℝ) : EReal) := by
  simp [Ideal.ofBits, Ideal.ieee]
  rw [← EReal.coe_mul]
  norm_num

theorem div1024 (x : EReal) : Ideal.div x (Ideal.ofBits .f32 0x44800000#32) = x * inv1024 := by
  rw [n1024, inv1024_eq, Ideal.div, if_neg (by simp), EReal.coe_inv]

theorem div128 (x : EReal) : Ideal.div x (Ideal.ofBits .f32 0x43000000#32) = x * inv128 := by
  rw [n128, inv128_eq, Ideal.div, if_neg (by simp), EReal.coe_inv]

/-- One over the root of the mean square of a row. -/
def scale {n : ℕ} (inv : EReal) (x : Fin n → EReal) : EReal := Ideal.rsqrt ((∑ k, x k * x k) * inv + eps)

/-! ## The gradient of the norm -/

theorem eps_eq : eps = ((8796093 / 8796093022208 : ℝ) : EReal) := by
  simp [eps, Ideal.ofBits, Ideal.ieee]
  rw [← EReal.coe_mul]
  norm_num

/-- The factor that the derivative of an inverse root carries. -/
abbrev negHalf : EReal := Ideal.ofBits .f32 0xBF000000#32

theorem negHalf_eq : negHalf = ((-(1 / 2) : ℝ) : EReal) := by
  simp [negHalf, Ideal.ofBits, Ideal.ieee]
  rw [← EReal.coe_mul]
  norm_num

/-- Of real rows the scale is a real number, one over a root. -/
theorem scale_real (x : Fin 1024 → ℝ) : ∃ M s : ℝ, M ≠ 0 ∧ s * s = M⁻¹ ∧
    (∑ k, (x k : EReal) * (x k : EReal)) * inv1024 + eps = (M : EReal) ∧ scale inv1024 (fun k => (x k : EReal)) = (s : EReal) := by
  have e : (∑ k, (x k : EReal) * (x k : EReal)) * inv1024 + eps
      = (((∑ k, x k * x k) * (1024 : ℝ)⁻¹ + 8796093 / 8796093022208 : ℝ) : EReal) := by
    rw [inv1024_eq, eps_eq, EReal.coe_add, EReal.coe_mul, Math.coe_sum]
    rfl
  have h : (0 : ℝ) < (∑ k, x k * x k) * (1024 : ℝ)⁻¹ + 8796093 / 8796093022208 := by
    have h0 : 0 ≤ ∑ k, x k * x k := Finset.sum_nonneg fun k _ => mul_self_nonneg (x k)
    positivity
  refine ⟨_, (Real.sqrt ((∑ k, x k * x k) * (1024 : ℝ)⁻¹ + 8796093 / 8796093022208))⁻¹, h.ne', ?_, e, ?_⟩
  · rw [← mul_inv, Real.mul_self_sqrt h.le]
  · unfold scale
    rw [e, Ideal.rsqrt_coe, if_neg (not_lt.mpr h.le), if_neg h.ne']

/-- The gradient of a row behind the norm, as the kernel has it: `x` the row, `g` the weights, `h` the gradient of the
    normed row, `d` what is added. -/
def gradRow (d : EReal) (x g h : Fin 1024 → EReal) (j : Fin 1024) : EReal :=
  d + (scale inv1024 x * (h j * g j) - x j * (scale inv1024 x * scale inv1024 x * scale inv1024 x) * ((∑ k, h k * g k * x k) * inv1024))

/-- The same gradient as the chain rule gives it. -/
def chain (x g h : Fin 1024 → EReal) : EReal :=
  (∑ k, x k * (h k * g k)) * (negHalf * Ideal.div (scale inv1024 x) ((∑ k, x k * x k) * inv1024 + eps)) * inv1024

theorem mul_self_nonneg' (x : EReal) : 0 ≤ x * x := by
  induction x with
  | bot => simp
  | top => simp
  | coe r => rw [← EReal.coe_mul]; exact EReal.coe_nonneg.2 (mul_self_nonneg r)

/-- A row holds real numbers, or its mean square is infinite. -/
theorem row_cases (x : Fin 1024 → EReal) :
    (∃ a : Fin 1024 → ℝ, x = fun k => (a k : EReal)) ∨ (∑ k, x k * x k) * inv1024 + eps = ⊤ := by
  by_cases H : ∑ k, x k * x k = ⊤
  · right
    rw [H, inv1024_eq, eps_eq, EReal.top_mul_coe_of_pos (by norm_num), EReal.top_add_coe]
  · left
    have h : ∀ k, x k * x k ≠ ⊤ := fun k e =>
      H (top_le_iff.1 (e ▸ Finset.single_le_sum (f := fun k => x k * x k) (fun k _ => mul_self_nonneg' (x k)) (Finset.mem_univ k)))
    refine ⟨fun k => (x k).toReal, funext fun k => (EReal.coe_toReal ?_ ?_).symm⟩
    · intro e
      exact h k (by rw [e]; rfl)
    · intro e
      exact h k (by rw [e]; rfl)

theorem mul_double (S : EReal) (k : ℝ) : S * (k : EReal) + S * (k : EReal) = S * ((2 * k : ℝ) : EReal) := by
  induction S with
  | coe r => rw [← EReal.coe_mul, ← EReal.coe_mul, ← EReal.coe_add, EReal.coe_eq_coe_iff]; ring
  | top =>
    rcases lt_trichotomy k 0 with hk | rfl | hk
    · rw [EReal.top_mul_coe_of_neg hk, EReal.top_mul_coe_of_neg (by linarith)]; rfl
    · simp
    · rw [EReal.top_mul_coe_of_pos hk, EReal.top_mul_coe_of_pos (by linarith)]; rfl
  | bot =>
    rcases lt_trichotomy k 0 with hk | rfl | hk
    · rw [EReal.bot_mul_coe_of_neg hk, EReal.bot_mul_coe_of_neg (by linarith)]; rfl
    · simp
    · rw [EReal.bot_mul_coe_of_pos hk, EReal.bot_mul_coe_of_pos (by linarith)]; rfl

theorem gradRow_chain (d : EReal) (x g h : Fin 1024 → EReal) (j : Fin 1024) :
    d + h j * g j * scale inv1024 x + x j * chain x g h + chain x g h * x j = gradRow d x g h j := by
  have e2 : ∑ k, h k * g k * x k = ∑ k, x k * (h k * g k) := Finset.sum_congr rfl fun k _ => mul_comm _ _
  unfold gradRow chain
  rw [e2]
  generalize (∑ k, x k * (h k * g k)) = S
  rw [add_assoc d, add_assoc d]
  refine congrArg (d + ·) ?_
  rw [mul_comm (h j * g j), sub_eq_add_neg, add_assoc]
  refine congrArg (scale inv1024 x * (h j * g j) + ·) ?_
  rcases row_cases x with ⟨a, rfl⟩ | e
  · obtain ⟨M, s, hM, hs, eM, es⟩ := scale_real a
    have ediv : Ideal.div (s : EReal) (M : EReal) = ((s * (s * s) : ℝ) : EReal) := by
      rw [Ideal.div, if_neg (by exact_mod_cast hM), hs, ← EReal.coe_inv, ← EReal.coe_mul]
    simp only [eM, es]
    simp only [ediv, negHalf_eq, inv1024_eq]
    have l : S * (((-(1 / 2) : ℝ) : EReal) * ((s * (s * s) : ℝ) : EReal)) * (((1024 : ℝ)⁻¹ : ℝ) : EReal) * (a j : EReal)
        = S * ((-(1 / 2) * (s * (s * s)) * (1024 : ℝ)⁻¹ * a j : ℝ) : EReal) := by
      rw [mul_assoc, mul_assoc]
      simp only [← EReal.coe_mul]
      rw [mul_assoc (-(1 / 2) * (s * (s * s)))]
    have r : (a j : EReal) * ((s : EReal) * (s : EReal) * (s : EReal)) * (S * (((1024 : ℝ)⁻¹ : ℝ) : EReal))
        = S * ((a j * (s * s * s) * (1024 : ℝ)⁻¹ : ℝ) : EReal) := by
      rw [mul_left_comm]
      simp only [← EReal.coe_mul]
    rw [mul_comm (a j : EReal) (S * _ * _), l, r, mul_double, ← mul_neg, ← EReal.coe_neg]
    refine congrArg (fun t : ℝ => S * (t : EReal)) ?_
    ring
  · have es : scale inv1024 x = 0 := by
      unfold scale
      rw [e]
      rfl
    have ed : Ideal.div (0 : EReal) ⊤ = 0 := by
      rw [Ideal.div, if_neg (by simp), zero_mul]
    rw [es, e, ed]
    simp

end Cert.Proof.Norm

end
-- ==== Proof.Mix.lean ====
/-
  The rest of the forward layer behind the mixers: the norm and gate of the recurrence's output, both mixers' projection with
  its residual sum, and the feed-forward layer with its. The call does 512 rows at a time; every row of its five results is
  the same function of that row of the operands and of the weights as the reference's.
-/
module

public import proofs.«01_k».proof.Defs
public import proofs.«01_k».proof.Proof.Norm
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.Mix

open Idealize.ShloMosaic
open Cert.Proof.Norm
open scoped BigOperators

/-! ## One row of the layer -/

/-- Feature `k` of head `h` among the 512 features. -/
def feat (h : Fin 4) (k : Fin 128) : Fin 512 := ⟨128 * h.val + k.val, by omega⟩

/-- `x` times its logistic. -/
def silu (x : EReal) : EReal := x * Ideal.logistic x

/-- Both mixers' outputs beside each other, the recurrence's normed by heads and gated. -/
def catRow (a : Fin 512 → EReal) (o : Fin 4 → Fin 128 → EReal) (hg : Fin 512 → EReal) (g : Fin 4 → Fin 128 → EReal) (j : Fin 1024) : EReal :=
  if h : j.val < 512 then a ⟨j.val, h⟩
  else o ⟨(j.val - 512) / 128, by omega⟩ ⟨(j.val - 512) % 128, by omega⟩ * scale inv128 (o ⟨(j.val - 512) / 128, by omega⟩)
    * g ⟨(j.val - 512) / 128, by omega⟩ ⟨(j.val - 512) % 128, by omega⟩ * silu (hg ⟨j.val - 512, by omega⟩)

/-- The residual sum behind a projection. -/
def addRow {k n : ℕ} (x : Fin n → EReal) (y : Fin k → EReal) (w : Fin k → Fin n → EReal) (j : Fin n) : EReal := x j + ∑ i, y i * w i j

/-- The normed row. -/
def normRow (x g : Fin 1024 → EReal) (j : Fin 1024) : EReal := x j * scale inv1024 x * g j

/-- A projection. -/
def projRow {k n : ℕ} (y : Fin k → EReal) (w : Fin k → Fin n → EReal) (j : Fin n) : EReal := ∑ i, y i * w i j

/-- The gated activation. -/
def actRow (gp up : Fin 2816 → EReal) (f : Fin 2816) : EReal := silu (gp f) * up f

section kernel

open Cert.Kernel2Ideal Cert.Kernel2Ideal.Gen

/-! ## The values in the body -/

/-- The mixers' outputs of the block. -/
abbrev bcat (A : Vec Ideal S512x512 .bf16) (O HG : Vec Ideal S512x512 .f32) (G : Vec Ideal S1x512 .f32) : Vec Ideal S512x1024 .bf16 :=
  k0_pay15 (k0_pay7 O) (k0_pay8 HG) (k0_pay9 G) (k0_pay10 O G) (k0_pay11 O G) (k0_pay12 O) (k0_pay13 G) (k0_pay14 O) A

/-- The first residual sum. -/
abbrev bsum (A : Vec Ideal S512x512 .bf16) (O HG : Vec Ideal S512x512 .f32) (G : Vec Ideal S1x512 .f32) (X : Vec Ideal S512x1024 .f32)
    (W : Vec Ideal S1024x1024 .bf16) : Vec Ideal S512x1024 .f32 :=
  k0_pay16 (k0_pay7 O) (k0_pay8 HG) (k0_pay9 G) (k0_pay10 O G) (k0_pay11 O G) (k0_pay12 O) (k0_pay13 G) (k0_pay14 O) A X W

/-- Its rows' sums of squares. -/
abbrev bsq (A : Vec Ideal S512x512 .bf16) (O HG : Vec Ideal S512x512 .f32) (G : Vec Ideal S1x512 .f32) (X : Vec Ideal S512x1024 .f32)
    (W : Vec Ideal S1024x1024 .bf16) : Vec Ideal S512x1 .f32 :=
  k0_pay18 (k0_pay7 O) (k0_pay8 HG) (k0_pay9 G) (k0_pay10 O G) (k0_pay11 O G) (k0_pay12 O) (k0_pay13 G) (k0_pay14 O) A X W

theorem bcat_apply (A : Vec Ideal S512x512 .bf16) (O HG : Vec Ideal S512x512 .f32) (G : Vec Ideal S1x512 .f32) (r : Fin 512) (j : Fin 1024) :
    bcat A O HG G (ix2 r j) = catRow (fun c => A (ix2 r c)) (fun h k => O (ix2 r (feat h k))) (fun c => HG (ix2 r c)) (fun h k => G (ix2 0 (feat h k))) j := by
  unfold bcat catRow
  pointwise [k0_pay15, k0_pay7, k0_pay8, k0_pay9, k0_pay10, k0_pay11, k0_pay12, k0_pay13, k0_pay14]
  by_cases h0 : j.val < 512
  · rw [dif_pos h0, dif_pos h0]
  rw [dif_neg h0, dif_neg h0]
  unfold silu scale feat
  refine congrArg (· * _) ?_
  by_cases h1 : j.val - 512 < 128
  · have e : (j.val - 512) / 128 = 0 := by omega
    have e' : (j.val - 512) % 128 = j.val - 512 := by omega
    rw [dif_pos h1]
    simp only [e, e', Nat.mul_zero, Nat.zero_add]
  rw [dif_neg h1]
  by_cases h2 : j.val - 512 - 128 < 128
  · have e : (j.val - 512) / 128 = 1 := by omega
    have e' : (j.val - 512) % 128 = j.val - 512 - 128 := by omega
    rw [dif_pos h2]
    simp only [e, e', Nat.mul_one]
  rw [dif_neg h2]
  by_cases h3 : j.val - 512 - 128 - 128 < 128
  · have e : (j.val - 512) / 128 = 2 := by omega
    have e' : (j.val - 512) % 128 = j.val - 512 - 128 - 128 := by omega
    rw [dif_pos h3]
    simp only [e, e', Nat.reduceMul]
  · have e : (j.val - 512) / 128 = 3 := by omega
    have e' : (j.val - 512) % 128 = j.val - 512 - 128 - 128 - 128 := by omega
    rw [dif_neg h3]
    simp only [e, e', Nat.reduceMul]

theorem bsum_apply (A : Vec Ideal S512x512 .bf16) (O HG : Vec Ideal S512x512 .f32) (G : Vec Ideal S1x512 .f32) (X : Vec Ideal S512x1024 .f32)
    (W : Vec Ideal S1024x1024 .bf16) (r : Fin 512) (j : Fin 1024) :
    bsum A O HG G X W (ix2 r j) = addRow (fun j => X (ix2 r j)) (fun i => bcat A O HG G (ix2 r i)) (fun i j => W (ix2 i j)) j := by
  unfold bsum addRow
  pointwise [k0_pay16]

theorem bsq_apply (A : Vec Ideal S512x512 .bf16) (O HG : Vec Ideal S512x512 .f32) (G : Vec Ideal S1x512 .f32) (X : Vec Ideal S512x1024 .f32)
    (W : Vec Ideal S1024x1024 .bf16) (r : Fin 512) :
    bsq A O HG G X W (ix2 r 0) = ∑ j : Fin 1024, bsum A O HG G X W (ix2 r j) * bsum A O HG G X W (ix2 r j) := by
  unfold bsq
  pointwise [k0_pay18]

/-- The normed rows, from a block whose rows' sums of squares stand beside it. -/
theorem norm_apply (S : Vec Ideal S512x1024 .f32) (G : Vec Ideal S1x1024 .f32) (Q : Vec Ideal S512x1 .f32)
    (hQ : ∀ r, Q (ix2 r 0) = ∑ j : Fin 1024, S (ix2 r j) * S (ix2 r j)) (r : Fin 512) (j : Fin 1024) :
    k0_pay1 S (k0_pay17 G) Q (k0_pay19 (F := Ideal)) (ix2 r j) = normRow (fun j => S (ix2 r j)) (fun j => G (ix2 0 j)) j := by
  unfold normRow scale
  pointwise [k0_pay1, k0_pay17, k0_pay19]
  rw [hQ]

theorem gate_apply (S : Vec Ideal S512x1024 .f32) (G : Vec Ideal S1x1024 .f32) (Q : Vec Ideal S512x1 .f32) (W : Vec Ideal S2816x1024 .bf16)
    (hQ : ∀ r, Q (ix2 r 0) = ∑ j : Fin 1024, S (ix2 r j) * S (ix2 r j)) (r : Fin 512) (f : Fin 2816) :
    k0_pay2 S (k0_pay17 G) Q (k0_pay19 (F := Ideal)) W (ix2 r f)
      = projRow (normRow (fun j => S (ix2 r j)) (fun j => G (ix2 0 j))) (fun i f => W (ix2 f i)) f := by
  unfold projRow
  simp only [← norm_apply S G Q hQ]
  pointwise [k0_pay2]

theorem up_apply (S : Vec Ideal S512x1024 .f32) (G : Vec Ideal S1x1024 .f32) (Q : Vec Ideal S512x1 .f32) (W : Vec Ideal S2816x1024 .bf16)
    (hQ : ∀ r, Q (ix2 r 0) = ∑ j : Fin 1024, S (ix2 r j) * S (ix2 r j)) (r : Fin 512) (f : Fin 2816) :
    k0_pay3 S (k0_pay17 G) Q (k0_pay19 (F := Ideal)) W (ix2 r f)
      = projRow (normRow (fun j => S (ix2 r j)) (fun j => G (ix2 0 j))) (fun i f => W (ix2 f i)) f := by
  unfold projRow
  simp only [← norm_apply S G Q hQ]
  pointwise [k0_pay3]

theorem gate_out (S : Vec Ideal S512x1024 .f32) (G : Vec Ideal S1x1024 .f32) (Q : Vec Ideal S512x1 .f32) (W : Vec Ideal S2816x1024 .bf16)
    (i : S512x2816.Idx) : k0_pay4 S (k0_pay17 G) Q (k0_pay19 (F := Ideal)) W i = k0_pay2 S (k0_pay17 G) Q (k0_pay19 (F := Ideal)) W i := rfl

theorem up_out (S : Vec Ideal S512x1024 .f32) (G : Vec Ideal S1x1024 .f32) (Q : Vec Ideal S512x1 .f32) (W : Vec Ideal S2816x1024 .bf16)
    (i : S512x2816.Idx) : k0_pay5 S (k0_pay17 G) Q (k0_pay19 (F := Ideal)) W i = k0_pay3 S (k0_pay17 G) Q (k0_pay19 (F := Ideal)) W i := rfl

theorem down_apply (S : Vec Ideal S512x1024 .f32) (G : Vec Ideal S1x1024 .f32) (Q : Vec Ideal S512x1 .f32) (Wg Wu Wd : Vec Ideal S2816x1024 .bf16)
    (r : Fin 512) (j : Fin 1024) :
    k0_pay6 S (k0_pay17 G) Q (k0_pay19 (F := Ideal)) Wg Wu Wd (ix2 r j)
      = addRow (fun j => S (ix2 r j)) (actRow (fun f => k0_pay2 S (k0_pay17 G) Q (k0_pay19 (F := Ideal)) Wg (ix2 r f))
          (fun f => k0_pay3 S (k0_pay17 G) Q (k0_pay19 (F := Ideal)) Wu (ix2 r f))) (fun i j => Wd (ix2 i j)) j := by
  unfold addRow actRow silu
  pointwise [k0_pay6]

variable (m : (ℓ : Loc nD τ sig) → Buf (Elt Ideal) ℓ) (c : Dev nD)

/-! ## What a point leaves -/

/-- The blocks of the first residual sum and of its rows' sums of squares at point `t`. -/
abbrev sumAt (t : Fin cfg0.N) : Vec Ideal S512x1024 .f32 :=
  bsum (iblk m c 0 t) (iblk m c 1 t) (X0_2 m c t) (iblk m c 3 t) (iblk m c 4 t) (iblk m c 5 t)
abbrev sqAt (t : Fin cfg0.N) : Vec Ideal S512x1 .f32 :=
  bsq (iblk m c 0 t) (iblk m c 1 t) (X0_2 m c t) (iblk m c 3 t) (iblk m c 4 t) (iblk m c 5 t)

theorem out0 (t : Fin cfg0.N) : (outsAt0 m c t).1 = sumAt m c t := by
  unfold outsAt0 sumAt bsum
  dsimp only
  frame_out

theorem out1 (t : Fin cfg0.N) : (outsAt0 m c t).2.1 = bcat (iblk m c 0 t) (iblk m c 1 t) (X0_2 m c t) (iblk m c 3 t) := by
  unfold outsAt0 bcat
  dsimp only
  frame_out

theorem out2 (t : Fin cfg0.N) : (outsAt0 m c t).2.2.1
    = k0_pay6 (sumAt m c t) (k0_pay17 (iblk m c 6 t)) (sqAt m c t) k0_pay19 (iblk m c 7 t) (iblk m c 8 t) (iblk m c 9 t) := by
  unfold outsAt0 sumAt sqAt bsum bsq
  dsimp only
  frame_out

theorem out3 (t : Fin cfg0.N) : (outsAt0 m c t).2.2.2.1 = k0_pay4 (sumAt m c t) (k0_pay17 (iblk m c 6 t)) (sqAt m c t) k0_pay19 (iblk m c 7 t) := by
  unfold outsAt0 sumAt sqAt bsum bsq
  dsimp only
  frame_out

theorem out4 (t : Fin cfg0.N) : (outsAt0 m c t).2.2.2.2 = k0_pay5 (sumAt m c t) (k0_pay17 (iblk m c 6 t)) (sqAt m c t) k0_pay19 (iblk m c 8 t) := by
  unfold outsAt0 sumAt sqAt bsum bsq
  dsimp only
  frame_out

/-! ## The operands by rows -/

/-- Row `r` of the block of point `t`. -/
def row (t : Fin cfg0.N) (r : Fin 512) : Fin 4096 := ⟨512 * t.val + r.val, by have := lt_of_lt_of_eq t.isLt N_0; omega⟩

/-- The operands' rows and the weights. -/
abbrev attn (r : Fin 4096) : Fin 512 → EReal := fun j => (V m c main_v3 : Vec Ideal S4096x512 .bf16) (ix2 r j)
abbrev recur (r : Fin 4096) : Fin 4 → Fin 128 → EReal := fun h k => (V m c main_v4 : Vec Ideal S4096x512 .f32) (ix2 r (feat h k))
abbrev gates (r : Fin 4096) : Fin 512 → EReal := fun j => (V m c main_v1 : Vec Ideal S4096x3200 .f32) (ix2 r ⟨2048 + j.val, by omega⟩)
abbrev headGain : Fin 4 → Fin 128 → EReal := fun h k => (V m c main_v8 : Vec Ideal S1x512 .f32) (ix2 0 (feat h k))
abbrev resid (r : Fin 4096) : Fin 1024 → EReal := fun j => (V m c main_v9 : Vec Ideal S4096x1024 .f32) (ix2 r j)
abbrev wo : Fin 1024 → Fin 1024 → EReal := fun i j => (V m c main_v10 : Vec Ideal S1024x1024 .bf16) (ix2 i j)
abbrev gain : Fin 1024 → EReal := fun j => (V m c main_v11 : Vec Ideal S1x1024 .f32) (ix2 0 j)
abbrev wg : Fin 1024 → Fin 2816 → EReal := fun i f => (V m c main_v13 : Vec Ideal S2816x1024 .bf16) (ix2 f i)
abbrev wu : Fin 1024 → Fin 2816 → EReal := fun i f => (V m c main_v15 : Vec Ideal S2816x1024 .bf16) (ix2 f i)
abbrev wd : Fin 2816 → Fin 1024 → EReal := fun f j => (V m c main_v16 : Vec Ideal S2816x1024 .bf16) (ix2 f j)

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 4] := (by decide +kernel : ∀ t : Fin grid0.N, win0_2.index t = ![t.val, 4])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])
theorem index14 : ∀ t : Fin cfg0.N, win0_14.index t = ![t.val, 0] := (by decide +kernel : ∀ t : Fin grid0.N, win0_14.index t = ![t.val, 0])

theorem attn_block (t : Fin cfg0.N) (r : Fin 512) (j : Fin 512) : (iblk m c 0 t : Vec Ideal S512x512 .bf16) (ix2 r j) = attn m c (row t r) j := by
  blk_simp [iblk]
  congr 1
  blk_ext [index0, row]

theorem recur_block (t : Fin cfg0.N) (r : Fin 512) (h : Fin 4) (k : Fin 128) :
    (iblk m c 1 t : Vec Ideal S512x512 .f32) (ix2 r (feat h k)) = recur m c (row t r) h k := by
  blk_simp [iblk]
  congr 1
  blk_ext [index1, row]

theorem gates_block (t : Fin cfg0.N) (r : Fin 512) (j : Fin 512) : (X0_2 m c t : Vec Ideal S512x512 .f32) (ix2 r j) = gates m c (row t r) j := by
  unfold X0_2 Pipeline.Window.fill
  rw [dif_pos (moved0_2 t _)]
  blk_simp [iblk]
  congr 1
  blk_ext [index2, row]

theorem headGain_block (t : Fin cfg0.N) (h : Fin 4) (k : Fin 128) :
    (iblk m c 3 t : Vec Ideal S1x512 .f32) (ix2 0 (feat h k)) = headGain m c h k := by
  blk_simp [iblk]
  congr 1
  blk_ext [index3]

theorem resid_block (t : Fin cfg0.N) (r : Fin 512) (j : Fin 1024) : (iblk m c 4 t : Vec Ideal S512x1024 .f32) (ix2 r j) = resid m c (row t r) j := by
  blk_simp [iblk]
  congr 1
  blk_ext [index4, row]

theorem wo_block (t : Fin cfg0.N) (i j : Fin 1024) : (iblk m c 5 t : Vec Ideal S1024x1024 .bf16) (ix2 i j) = wo m c i j := by
  blk_simp [iblk]
  congr 1
  blk_ext [index5]

theorem gain_block (t : Fin cfg0.N) (j : Fin 1024) : (iblk m c 6 t : Vec Ideal S1x1024 .f32) (ix2 0 j) = gain m c j := by
  blk_simp [iblk]
  congr 1
  blk_ext [index6]

theorem wg_block (t : Fin cfg0.N) (f : Fin 2816) (i : Fin 1024) : (iblk m c 7 t : Vec Ideal S2816x1024 .bf16) (ix2 f i) = wg m c i f := by
  blk_simp [iblk]
  congr 1
  blk_ext [index7]

theorem wu_block (t : Fin cfg0.N) (f : Fin 2816) (i : Fin 1024) : (iblk m c 8 t : Vec Ideal S2816x1024 .bf16) (ix2 f i) = wu m c i f := by
  blk_simp [iblk]
  congr 1
  blk_ext [index8]

theorem wd_block (t : Fin cfg0.N) (f : Fin 2816) (j : Fin 1024) : (iblk m c 9 t : Vec Ideal S2816x1024 .bf16) (ix2 f j) = wd m c f j := by
  blk_simp [iblk]
  congr 1
  blk_ext [index9]

/-! ## The rows of the results -/

/-- The five results' rows, from the operands. -/
def catOf (r : Fin 4096) : Fin 1024 → EReal := catRow (attn m c r) (recur m c r) (gates m c r) (headGain m c)
def sumOf (r : Fin 4096) : Fin 1024 → EReal := addRow (resid m c r) (catOf m c r) (wo m c)
def gateOf (r : Fin 4096) : Fin 2816 → EReal := projRow (normRow (sumOf m c r) (gain m c)) (wg m c)
def upOf (r : Fin 4096) : Fin 2816 → EReal := projRow (normRow (sumOf m c r) (gain m c)) (wu m c)
def downOf (r : Fin 4096) : Fin 1024 → EReal := addRow (sumOf m c r) (actRow (gateOf m c r) (upOf m c r)) (wd m c)

theorem cat_at (t : Fin cfg0.N) (r : Fin 512) (j : Fin 1024) : (outsAt0 m c t).2.1 (ix2 r j) = catOf m c (row t r) j := by
  rw [out1, bcat_apply]
  simp only [attn_block, recur_block, gates_block, headGain_block]
  rfl

theorem sumAt_apply (t : Fin cfg0.N) (r : Fin 512) (j : Fin 1024) : sumAt m c t (ix2 r j) = sumOf m c (row t r) j := by
  unfold sumAt
  rw [bsum_apply]
  simp only [← out1, cat_at, resid_block, wo_block]
  rfl

theorem sum_at (t : Fin cfg0.N) (r : Fin 512) (j : Fin 1024) : (outsAt0 m c t).1 (ix2 r j) = sumOf m c (row t r) j := by
  rw [out0, sumAt_apply]

theorem gateAt_apply (t : Fin cfg0.N) (r : Fin 512) (f : Fin 2816) :
    k0_pay2 (sumAt m c t) (k0_pay17 (iblk m c 6 t)) (sqAt m c t) (k0_pay19 (F := Ideal)) (iblk m c 7 t) (ix2 r f) = gateOf m c (row t r) f := by
  rw [gate_apply _ _ _ _ fun r => bsq_apply _ _ _ _ _ _ r]
  simp only [sumAt_apply, gain_block, wg_block]
  rfl

theorem upAt_apply (t : Fin cfg0.N) (r : Fin 512) (f : Fin 2816) :
    k0_pay3 (sumAt m c t) (k0_pay17 (iblk m c 6 t)) (sqAt m c t) (k0_pay19 (F := Ideal)) (iblk m c 8 t) (ix2 r f) = upOf m c (row t r) f := by
  rw [up_apply _ _ _ _ fun r => bsq_apply _ _ _ _ _ _ r]
  simp only [sumAt_apply, gain_block, wu_block]
  rfl

theorem gate_at (t : Fin cfg0.N) (r : Fin 512) (f : Fin 2816) : (outsAt0 m c t).2.2.2.1 (ix2 r f) = gateOf m c (row t r) f := by
  rw [out3, gate_out, gateAt_apply]

theorem up_at (t : Fin cfg0.N) (r : Fin 512) (f : Fin 2816) : (outsAt0 m c t).2.2.2.2 (ix2 r f) = upOf m c (row t r) f := by
  rw [out4, up_out, upAt_apply]

theorem down_at (t : Fin cfg0.N) (r : Fin 512) (j : Fin 1024) : (outsAt0 m c t).2.2.1 (ix2 r j) = downOf m c (row t r) j := by
  rw [out2, down_apply]
  simp only [sumAt_apply, gateAt_apply, upAt_apply, wd_block]
  rfl

/-! ## The arrays after the run -/

theorem final0 : (dats m 0 c).arrAt 10 cfg0.N = (fun i => sumOf m c (i 0) (i 1) : Vec Ideal S4096x1024 .f32) := by
  refine (dats m 0 c).arrAt_eq_of_covers 10 _ (by decide +kernel) fun t hf y => ?_
  blk_simp
  rw [after0_10]
  refine (congrArg _ (eq_ix2 y)).trans ((sum_at m c t (y 0) (y 1)).trans ?_)
  have e : (((cfg0.win 10).blk t).view.emb y) = (ix2 (row t (y 0)) (y 1) : S4096x1024.Idx) := by
    blk_ext [index10, row]
  blk_simp at e
  rw [e]
  rfl

theorem final1 : (dats m 0 c).arrAt 11 cfg0.N = (fun i => catOf m c (i 0) (i 1) : Vec Ideal S4096x1024 .bf16) := by
  refine (dats m 0 c).arrAt_eq_of_covers 11 _ (by decide +kernel) fun t hf y => ?_
  blk_simp
  rw [after0_11]
  refine (congrArg _ (eq_ix2 y)).trans ((cat_at m c t (y 0) (y 1)).trans ?_)
  have e : (((cfg0.win 11).blk t).view.emb y) = (ix2 (row t (y 0)) (y 1) : S4096x1024.Idx) := by
    blk_ext [index11, row]
  blk_simp at e
  rw [e]
  rfl

theorem final2 : (dats m 0 c).arrAt 12 cfg0.N = (fun i => downOf m c (i 0) (i 1) : Vec Ideal S4096x1024 .f32) := by
  refine (dats m 0 c).arrAt_eq_of_covers 12 _ (by decide +kernel) fun t hf y => ?_
  blk_simp
  rw [after0_12]
  refine (congrArg _ (eq_ix2 y)).trans ((down_at m c t (y 0) (y 1)).trans ?_)
  have e : (((cfg0.win 12).blk t).view.emb y) = (ix2 (row t (y 0)) (y 1) : S4096x1024.Idx) := by
    blk_ext [index12, row]
  blk_simp at e
  rw [e]
  rfl

theorem final3 : (dats m 0 c).arrAt 13 cfg0.N = (fun i => gateOf m c (i 0) (i 1) : Vec Ideal S4096x2816 .bf16) := by
  refine (dats m 0 c).arrAt_eq_of_covers 13 _ (by decide +kernel) fun t hf y => ?_
  blk_simp
  rw [after0_13]
  refine (congrArg _ (eq_ix2 y)).trans ((gate_at m c t (y 0) (y 1)).trans ?_)
  have e : (((cfg0.win 13).blk t).view.emb y) = (ix2 (row t (y 0)) (y 1) : S4096x2816.Idx) := by
    blk_ext [index13, row]
  blk_simp at e
  rw [e]
  rfl

theorem final4 : (dats m 0 c).arrAt 14 cfg0.N = (fun i => upOf m c (i 0) (i 1) : Vec Ideal S4096x2816 .bf16) := by
  refine (dats m 0 c).arrAt_eq_of_covers 14 _ (by decide +kernel) fun t hf y => ?_
  blk_simp
  rw [after0_14]
  refine (congrArg _ (eq_ix2 y)).trans ((up_at m c t (y 0) (y 1)).trans ?_)
  have e : (((cfg0.win 14).blk t).view.emb y) = (ix2 (row t (y 0)) (y 1) : S4096x2816.Idx) := by
    blk_ext [index14, row]
  blk_simp at e
  rw [e]
  rfl

/-! ## The operands as the host makes them -/

section host

/-- The arguments. -/
abbrev arg0 : Vec Ideal S1x4096x512 .f32 := m ((c.tc : Thread nD τ).loc main_arg0)
abbrev arg1 : Vec Ideal S1x4096x4x128 .f32 := m ((c.tc : Thread nD τ).loc main_arg1)
abbrev arg2 : Vec Ideal S1x4096x512 .f32 := m ((c.tc : Thread nD τ).loc main_arg2)
abbrev arg3 : Vec Ideal S128 .f32 := m ((c.tc : Thread nD τ).loc main_arg3)
abbrev arg4 : Vec Ideal S1x4096x1024 .f32 := m ((c.tc : Thread nD τ).loc main_arg4)
abbrev arg5 : Vec Ideal S1024x1024 .f32 := m ((c.tc : Thread nD τ).loc main_arg5)
abbrev arg6 : Vec Ideal S1024 .f32 := m ((c.tc : Thread nD τ).loc main_arg6)
abbrev arg7 : Vec Ideal S1024x2816 .f32 := m ((c.tc : Thread nD τ).loc main_arg7)
abbrev arg8 : Vec Ideal S1024x2816 .f32 := m ((c.tc : Thread nD τ).loc main_arg8)
abbrev arg9 : Vec Ideal S2816x1024 .f32 := m ((c.tc : Thread nD τ).loc main_arg9)

theorem op0 : V m c main_v3 = (truncf (F := Ideal) .bf16 (shapeCast S4096x512 (arg0 m c) shapeCasts_S1x4096x512_S4096x512) bitsLt_bf16_f32 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op1 : V m c main_v4 = (shapeCast S4096x512 (arg1 m c) shapeCasts_S1x4096x4x128_S4096x512 : Vec Ideal S4096x512 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op2 : V m c main_v1 = (pad S4096x3200 ![0, 2048] ![0, 640] ![0, 0] (shapeCast S4096x512 (arg2 m c) shapeCasts_S1x4096x512_S4096x512)
    (sitofp (F := Ideal) .f32 (constantI S_ 32 0#32)) pads_S4096x512_S4096x3200_000_20486400 h_S_ : Vec Ideal S4096x3200 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op3 : V m c main_v8 = (shapeCast S1x512 (shapeCast S512 (broadcastInDim S4x128 ![0, 1] bcast_S1x128_S4x128_0_1
    (shapeCast S1x128 (arg3 m c) shapeCasts_S128_S1x128)) shapeCasts_S4x128_S512) shapeCasts_S512_S1x512 : Vec Ideal S1x512 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op4 : V m c main_v9 = (shapeCast S4096x1024 (arg4 m c) shapeCasts_S1x4096x1024_S4096x1024 : Vec Ideal S4096x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op5 : V m c main_v10 = (truncf (F := Ideal) .bf16 (arg5 m c) bitsLt_bf16_f32 : Vec Ideal S1024x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp

theorem op6 : V m c main_v11 = (shapeCast S1x1024 (arg6 m c) shapeCasts_S1024_S1x1024 : Vec Ideal S1x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op7 : V m c main_v13 = (truncf (F := Ideal) .bf16 (transpose S2816x1024 [1, 0] (arg7 m c) transposes_S1024x2816_S2816x1024_1_0) bitsLt_bf16_f32 : Vec Ideal S2816x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp

theorem op8 : V m c main_v15 = (truncf (F := Ideal) .bf16 (transpose S2816x1024 [1, 0] (arg8 m c) transposes_S1024x2816_S2816x1024_1_0) bitsLt_bf16_f32 : Vec Ideal S2816x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp

theorem op9 : V m c main_v16 = (truncf (F := Ideal) .bf16 (arg9 m c) bitsLt_bf16_f32 : Vec Ideal S2816x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp

/-- Read at an index, for any arguments. -/
theorem read0 (x : Vec Ideal S1x4096x512 .f32) (r : Fin 4096) (j : Fin 512) :
    truncf (F := Ideal) .bf16 (shapeCast S4096x512 x shapeCasts_S1x4096x512_S4096x512) bitsLt_bf16_f32 (ix2 r j) = x (ix3 0 r j) := by
  pointwise

theorem read1 (x : Vec Ideal S1x4096x4x128 .f32) (r : Fin 4096) (h : Fin 4) (k : Fin 128) :
    shapeCast S4096x512 x shapeCasts_S1x4096x4x128_S4096x512 (ix2 r (feat h k)) = x (ix4 0 r h k) := by
  pointwise [feat]

theorem read2 (x : Vec Ideal S1x4096x512 .f32) (r : Fin 4096) (j : Fin 512) :
    pad S4096x3200 ![0, 2048] ![0, 640] ![0, 0] (shapeCast S4096x512 x shapeCasts_S1x4096x512_S4096x512)
      (sitofp (F := Ideal) .f32 (constantI S_ 32 0#32)) pads_S4096x512_S4096x3200_000_20486400 h_S_ (ix2 r ⟨2048 + j.val, by omega⟩) = x (ix3 0 r j) := by
  pointwise

theorem read3 (x : Vec Ideal S128 .f32) (h : Fin 4) (k : Fin 128) :
    shapeCast S1x512 (shapeCast S512 (broadcastInDim S4x128 ![0, 1] bcast_S1x128_S4x128_0_1
      (shapeCast S1x128 x shapeCasts_S128_S1x128)) shapeCasts_S4x128_S512) shapeCasts_S512_S1x512 (ix2 0 (feat h k)) = x (ix1 k) := by
  pointwise [feat]

theorem read4 (x : Vec Ideal S1x4096x1024 .f32) (r : Fin 4096) (j : Fin 1024) :
    shapeCast S4096x1024 x shapeCasts_S1x4096x1024_S4096x1024 (ix2 r j) = x (ix3 0 r j) := by
  pointwise

theorem read6 (x : Vec Ideal S1024 .f32) (j : Fin 1024) : shapeCast S1x1024 x shapeCasts_S1024_S1x1024 (ix2 0 j) = x (ix1 j) := by
  pointwise

theorem read7 (x : Vec Ideal S1024x2816 .f32) (f : Fin 2816) (i : Fin 1024) :
    truncf (F := Ideal) .bf16 (transpose S2816x1024 [1, 0] x transposes_S1024x2816_S2816x1024_1_0) bitsLt_bf16_f32 (ix2 f i) = x (ix2 i f) := by
  pointwise

end host

/-! ## The reference -/

end kernel

section reference

open Cert.Reference2Ideal Cert.Reference2Ideal.Read

variable (x0 : Vec Ideal S1x4096x512 .f32) (x1 : Vec Ideal S1x4096x4x128 .f32) (x2 : Vec Ideal S1x4096x512 .f32) (x3 : Vec Ideal S128 .f32)
  (x4 : Vec Ideal S1x4096x1024 .f32) (x5 : Vec Ideal S1024x1024 .f32) (x6 : Vec Ideal S1024 .f32) (x7 x8 : Vec Ideal S1024x2816 .f32)
  (x9 : Vec Ideal S2816x1024 .f32)

/-- The five results' rows, from the arguments. -/
def catRef (r : Fin 4096) : Fin 1024 → EReal :=
  catRow (fun j => x0 (ix3 0 r j)) (fun h k => x1 (ix4 0 r h k)) (fun j => x2 (ix3 0 r j)) (fun _ k => x3 (ix1 k))
def sumRef (r : Fin 4096) : Fin 1024 → EReal := addRow (fun j => x4 (ix3 0 r j)) (catRef x0 x1 x2 x3 r) (fun i j => x5 (ix2 i j))
def projRef (w : Vec Ideal S1024x2816 .f32) (r : Fin 4096) : Fin 2816 → EReal :=
  projRow (normRow (sumRef x0 x1 x2 x3 x4 x5 r) (fun j => x6 (ix1 j))) (fun i f => w (ix2 i f))
def downRef (r : Fin 4096) : Fin 1024 → EReal :=
  addRow (sumRef x0 x1 x2 x3 x4 x5 r) (actRow (projRef x0 x1 x2 x3 x4 x5 x6 x7 r) (projRef x0 x1 x2 x3 x4 x5 x6 x8 r)) (fun f j => x9 (ix2 f j))

theorem heads_apply (r : Fin 4096) (h : Fin 4) (k : Fin 128) :
    val_main_v12 (F := Ideal) x1 x3 (ix4 0 r h k) = x1 (ix4 0 r h k) * scale inv128 (fun k => x1 (ix4 0 r h k)) * x3 (ix1 k) := by
  unfold scale
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rw [div128]

theorem gated_apply (r : Fin 4096) (j : Fin 512) : val_main_v14 (F := Ideal) x2 (ix3 0 r j) = silu (x2 (ix3 0 r j)) := by
  unfold silu Ideal.logistic
  pointwise [val_main_v14, val_main_call0_v5, val_main_call0_v4, val_main_call0_cst_0, val_main_call0_v3, val_main_call0_v2, val_main_call0_cst,
    val_main_call0_v1, val_main_call0_v0]

theorem cat_ref (r : Fin 4096) (j : Fin 1024) : val_main_v16 (F := Ideal) x0 x1 x2 x3 (ix3 0 r j) = catRef x0 x1 x2 x3 r j := by
  unfold catRef catRow
  pointwise [val_main_v16, val_main_v15, val_main_v13]
  simp only [heads_apply, gated_apply]

theorem sum_ref (r : Fin 4096) (j : Fin 1024) : val_main_v18 (F := Ideal) x0 x1 x2 x3 x4 x5 (ix3 0 r j) = sumRef x0 x1 x2 x3 x4 x5 r j := by
  unfold sumRef addRow
  pointwise [val_main_v18, val_main_v17]
  simp only [cat_ref]

theorem norm_ref (r : Fin 4096) (j : Fin 1024) : val_main_v31 (F := Ideal) x0 x1 x2 x3 x4 x5 x6 (ix3 0 r j)
    = normRow (sumRef x0 x1 x2 x3 x4 x5 r) (fun j => x6 (ix1 j)) j := by
  unfold normRow scale
  pointwise [val_main_v31, val_main_v30, val_main_v29, val_main_v28, val_main_v27, val_main_v26, val_main_v25, val_main_v24, val_main_v23,
    val_main_v22, val_main_v21, val_main_v20, val_main_v19, val_main_cst_2, val_main_cst_3, val_main_cst_4]
  simp only [sum_ref, div1024]

theorem gate_ref (r : Fin 4096) (f : Fin 2816) : val_main_v32 (F := Ideal) x0 x1 x2 x3 x4 x5 x6 x7 (ix3 0 r f) = projRef x0 x1 x2 x3 x4 x5 x6 x7 r f := by
  unfold projRef projRow
  pointwise [val_main_v32]
  simp only [norm_ref]

theorem up_ref (r : Fin 4096) (f : Fin 2816) : val_main_v33 (F := Ideal) x0 x1 x2 x3 x4 x5 x6 x8 (ix3 0 r f) = projRef x0 x1 x2 x3 x4 x5 x6 x8 r f := by
  unfold projRef projRow
  pointwise [val_main_v33]
  simp only [norm_ref]

theorem act_ref (r : Fin 4096) (f : Fin 2816) : val_main_v35 (F := Ideal) x0 x1 x2 x3 x4 x5 x6 x7 x8 (ix3 0 r f)
    = actRow (projRef x0 x1 x2 x3 x4 x5 x6 x7 r) (projRef x0 x1 x2 x3 x4 x5 x6 x8 r) f := by
  unfold actRow silu Ideal.logistic
  pointwise [val_main_v35, val_main_v34, val_main_call1_v5, val_main_call1_v4, val_main_call1_cst_0, val_main_call1_v3, val_main_call1_v2,
    val_main_call1_cst, val_main_call1_v1, val_main_call1_v0]
  rw [gate_ref, up_ref]

theorem down_ref (r : Fin 4096) (j : Fin 1024) : val_main_v37 (F := Ideal) x0 x1 x2 x3 x4 x5 x6 x7 x8 x9 (ix3 0 r j)
    = downRef x0 x1 x2 x3 x4 x5 x6 x7 x8 x9 r j := by
  unfold downRef addRow
  pointwise [val_main_v37, val_main_v36]
  simp only [sum_ref, act_ref]

/-! ### The results without their leading axis -/

theorem res0 (r : Fin 4096) (j : Fin 1024) : val_main_v38 (F := Ideal) x0 x1 x2 x3 x4 x5 (ix2 r j) = sumRef x0 x1 x2 x3 x4 x5 r j := by
  rw [← sum_ref]
  pointwise [val_main_v38]

theorem res1 (r : Fin 4096) (j : Fin 1024) : val_main_v40 (F := Ideal) x0 x1 x2 x3 (ix2 r j) = catRef x0 x1 x2 x3 r j := by
  rw [← cat_ref]
  pointwise [val_main_v40, val_main_v39]

theorem res2 (r : Fin 4096) (j : Fin 1024) : val_main_v41 (F := Ideal) x0 x1 x2 x3 x4 x5 x6 x7 x8 x9 (ix2 r j) = downRef x0 x1 x2 x3 x4 x5 x6 x7 x8 x9 r j := by
  rw [← down_ref]
  pointwise [val_main_v41]

theorem res3 (r : Fin 4096) (f : Fin 2816) : val_main_v43 (F := Ideal) x0 x1 x2 x3 x4 x5 x6 x7 (ix2 r f) = projRef x0 x1 x2 x3 x4 x5 x6 x7 r f := by
  rw [← gate_ref]
  pointwise [val_main_v43, val_main_v42]

theorem res4 (r : Fin 4096) (f : Fin 2816) : val_main_v45 (F := Ideal) x0 x1 x2 x3 x4 x5 x6 x8 (ix2 r f) = projRef x0 x1 x2 x3 x4 x5 x6 x8 r f := by
  rw [← up_ref]
  pointwise [val_main_v45, val_main_v44]

end reference

/-! ## Both sides -/

section both

open Cert.Kernel2Ideal Cert.Kernel2Ideal.Gen

variable (m : (ℓ : Loc nD τ sig) → Buf (Elt Ideal) ℓ) (c : Dev nD)

theorem catRow_congr {a a' : Fin 512 → EReal} {o o' : Fin 4 → Fin 128 → EReal} {hg hg' : Fin 512 → EReal} {g g' : Fin 4 → Fin 128 → EReal}
    (h0 : ∀ j, a j = a' j) (h1 : ∀ h k, o h k = o' h k) (h2 : ∀ j, hg j = hg' j) (h3 : ∀ h k, g h k = g' h k) : catRow a o hg g = catRow a' o' hg' g' := by
  obtain rfl : a = a' := funext h0
  obtain rfl : o = o' := funext fun h => funext (h1 h)
  obtain rfl : hg = hg' := funext h2
  obtain rfl : g = g' := funext fun h => funext (h3 h)
  rfl

theorem addRow_congr {k n : ℕ} {x x' : Fin n → EReal} {y : Fin k → EReal} {w w' : Fin k → Fin n → EReal} (hx : ∀ j, x j = x' j)
    (hw : ∀ i j, w i j = w' i j) : addRow x y w = addRow x' y w' := by
  obtain rfl : x = x' := funext hx
  obtain rfl : w = w' := funext fun i => funext (hw i)
  rfl

theorem projRow_congr {n : ℕ} {x g g' : Fin 1024 → EReal} {w w' : Fin 1024 → Fin n → EReal} (hg : ∀ j, g j = g' j)
    (hw : ∀ i j, w i j = w' i j) : projRow (normRow x g) w = projRow (normRow x g') w' := by
  obtain rfl : g = g' := funext hg
  obtain rfl : w = w' := funext fun i => funext (hw i)
  rfl

theorem cat_eq (r : Fin 4096) : catOf m c r = catRef (arg0 m c) (arg1 m c) (arg2 m c) (arg3 m c) r := by
  unfold catOf catRef attn recur gates headGain
  rw [op0, op1, op2, op3]
  exact catRow_congr (read0 _ _) (read1 _ _) (read2 _ _) (read3 _)

theorem sum_eq (r : Fin 4096) : sumOf m c r = sumRef (arg0 m c) (arg1 m c) (arg2 m c) (arg3 m c) (arg4 m c) (arg5 m c) r := by
  unfold sumOf sumRef resid wo
  rw [op4, op5, cat_eq]
  exact addRow_congr (read4 _ _) fun _ _ => rfl

theorem gate_eq (r : Fin 4096) : gateOf m c r = projRef (arg0 m c) (arg1 m c) (arg2 m c) (arg3 m c) (arg4 m c) (arg5 m c) (arg6 m c) (arg7 m c) r := by
  unfold gateOf projRef gain wg
  rw [op6, op7, sum_eq]
  exact projRow_congr (read6 _) fun _ _ => read7 _ _ _

theorem up_eq (r : Fin 4096) : upOf m c r = projRef (arg0 m c) (arg1 m c) (arg2 m c) (arg3 m c) (arg4 m c) (arg5 m c) (arg6 m c) (arg8 m c) r := by
  unfold upOf projRef gain wu
  rw [op6, op8, sum_eq]
  exact projRow_congr (read6 _) fun _ _ => read7 _ _ _

theorem down_eq (r : Fin 4096) : downOf m c r = downRef (arg0 m c) (arg1 m c) (arg2 m c) (arg3 m c) (arg4 m c) (arg5 m c) (arg6 m c) (arg7 m c) (arg8 m c) (arg9 m c) r := by
  unfold downOf downRef wd
  rw [op9, sum_eq, gate_eq, up_eq]
  rfl

end both

/-! ## The claims -/

set_option maxHeartbeats 1600000 in
theorem algebraic : @Cert.algebraic_Kernel2Ideal_Reference2Ideal Cert.Kernel2Ideal.Gen.facts Cert.Reference2Ideal.Gen.facts := by
  intro m g m' g' _ hagree
  refine ⟨fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨r0, r1, r2, r3, r4, rest⟩ := h c
  obtain ⟨a0, a1, a2, a3, a4, a5, a6, a7, a8, a9⟩ := hagree c
  refine ⟨r0.trans ?_, r1.trans ?_, r2.trans ?_, r3.trans ?_, r4.trans ?_, rest⟩
  · refine Eq.trans ?_ (final0 m c).symm
    rw [Cert.Reference2Ideal.Read.val_main_v38_eq, a0, a1, a2, a3, a4, a5]
    funext i
    idx_vars i
    exact (res0 _ _ _ _ _ _ _ _).trans (congrFun (sum_eq m c _) _).symm
  · refine Eq.trans ?_ (final1 m c).symm
    rw [Cert.Reference2Ideal.Read.val_main_v40_eq, a0, a1, a2, a3]
    funext i
    idx_vars i
    exact (res1 _ _ _ _ _ _).trans (congrFun (cat_eq m c _) _).symm
  · refine Eq.trans ?_ (final2 m c).symm
    rw [Cert.Reference2Ideal.Read.val_main_v41_eq, a0, a1, a2, a3, a4, a5, a6, a7, a8, a9]
    funext i
    idx_vars i
    exact (res2 _ _ _ _ _ _ _ _ _ _ _ _).trans (congrFun (down_eq m c _) _).symm
  · refine Eq.trans ?_ (final3 m c).symm
    rw [Cert.Reference2Ideal.Read.val_main_v43_eq, a0, a1, a2, a3, a4, a5, a6, a7]
    funext i
    idx_vars i
    exact (res3 _ _ _ _ _ _ _ _ _ _).trans (congrFun (gate_eq m c _) _).symm
  · refine Eq.trans ?_ (final4 m c).symm
    rw [Cert.Reference2Ideal.Read.val_main_v45_eq, a0, a1, a2, a3, a4, a5, a6, a8]
    funext i
    idx_vars i
    exact (res4 _ _ _ _ _ _ _ _ _ _).trans (congrFun (up_eq m c _) _).symm

theorem frame_reference : @Cert.quiescent_Reference2Ideal Cert.Reference2Ideal.Gen.facts := fun m g _ =>
  (θ_run Cert.Reference2Ideal.defs _ _).mono (fun r h => ⟨fun c => (h c).2.2.2.2.2, sem_eq_zero_of_no_sems (by decide) r.2⟩)
    (Cert.Reference2Ideal.Value.run (F := Ideal) m g)

end Cert.Proof.Mix

end
-- ==== Proof.Sums.lean ====
/-
  Sums taken block by block: a sum over all rows as the sum over the blocks of rows, and what a buffer holds that starts at
  zero and has one block's part added at a time.
-/
module

public import Mathlib.Algebra.BigOperators.Fin

@[expose] public section

namespace Cert.Proof.Sums

open scoped BigOperators

variable {M : Type} [AddCommMonoid M]

/-- A sum over `n * k` rows is the sum over `n` blocks of `k` rows. -/
theorem sum_blocks (n k : ℕ) (f : Fin (n * k) → M) :
    ∑ i, f i = ∑ b : Fin n, ∑ r : Fin k, f (finProdFinEquiv (b, r)) := by
  rw [← Equiv.sum_comp (finProdFinEquiv (m := n) (n := k)) f, Fintype.sum_prod_type]

/-- A buffer that starts with the first part and has one part added at a time holds the sum of the parts so far. -/
theorem accumulate (K : ℕ) (acc part : (n : ℕ) → n < K → M) (h0 : ∀ h, acc 0 h = part 0 h)
    (hs : ∀ n (h : n + 1 < K), acc (n + 1) h = acc n (by omega) + part (n + 1) h) :
    ∀ n (h : n < K), acc n h = ∑ b : Fin (n + 1), part b.val (by omega)
  | 0, h => by simp [h0]
  | n + 1, h => by
    rw [hs, accumulate K acc part h0 hs n (by omega), Fin.sum_univ_castSucc (n := n + 1)]
    rfl

end Cert.Proof.Sums
-- ==== Proof.Hidden.lean ====
/-
  The gradient of the feed-forward layer behind its two first products: with the pre-activations `gp` and `up`, the
  gradients of both and of the down weights. The call goes over two blocks of the hidden columns and, inside, eight blocks
  of 512 rows; the gradient of the weights is added up in a buffer over the rows and written out behind the last block.
-/
module

public import proofs.«01_k».proof.Defs
public import proofs.«01_k».proof.Proof.Finite
public import proofs.«01_k».proof.Proof.Sums
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.Hidden

open Idealize.ShloMosaic
open scoped BigOperators

/-! ## The gradients of one entry -/

/-- The gradient of the gate's pre-activation `g`, where `t` is the gradient of the gated product and `u` its other factor. -/
def gateGrad (t g u : EReal) : EReal := t * u * (Ideal.logistic g * (1 + g * (1 - Ideal.logistic g)))

/-- The gradient of the other factor. -/
def upGrad (t g : EReal) : EReal := t * (g * Ideal.logistic g)

/-- The gated product. -/
def act (g u : EReal) : EReal := g * Ideal.logistic g * u

theorem gateGrad_real (t g u : ℝ) :
    gateGrad t g u = ((t : EReal) * u) * Ideal.logistic g + (g : EReal) * ((t : EReal) * u) * (Ideal.logistic g * (1 - Ideal.logistic g)) := by
  unfold gateGrad
  rw [Ideal.logistic_coe]
  norm_cast
  ring

section kernel

open Cert.Kernel3Ideal Cert.Kernel3Ideal.Gen

/-! ## The values in the body -/

theorem start_apply (j : Fin 1408) (k : Fin 1024) : k0_pay3 (F := Ideal) (ix2 j k) = (0 : EReal) := by
  pointwise [k0_pay3]

theorem add_apply (g u : Vec Ideal S512x1408 .bf16) (d : Vec Ideal S512x1024 .f32) (x : Vec Ideal S1408x1024 .f32) (j : Fin 1408) (k : Fin 1024) :
    k0_pay9 g u d x (ix2 j k) = x (ix2 j k) + ∑ r : Fin 512, act (g (ix2 r j)) (u (ix2 r j)) * d (ix2 r k) := by
  unfold act
  pointwise [k0_pay9, k0_pay8, k0_pay7, k0_pay6, k0_pay5, k0_pay4]

theorem gate_apply (g u : Vec Ideal S512x1408 .bf16) (d : Vec Ideal S512x1024 .f32) (w : Vec Ideal S1408x1024 .bf16) (r : Fin 512) (j : Fin 1408) :
    k0_pay11 g u d w (ix2 r j) = gateGrad (∑ k : Fin 1024, d (ix2 r k) * w (ix2 j k)) (g (ix2 r j)) (u (ix2 r j)) := by
  unfold gateGrad
  pointwise [k0_pay11, k0_pay10, k0_pay8, k0_pay6, k0_pay5, k0_pay4]

theorem up_apply (g : Vec Ideal S512x1408 .bf16) (d : Vec Ideal S512x1024 .f32) (w : Vec Ideal S1408x1024 .bf16) (r : Fin 512) (j : Fin 1408) :
    k0_pay1 (k0_pay7 g) (k0_pay10 d w) (ix2 r j) = upGrad (∑ k : Fin 1024, d (ix2 r k) * w (ix2 j k)) (g (ix2 r j)) := by
  unfold upGrad
  pointwise [k0_pay1, k0_pay10, k0_pay8, k0_pay7, k0_pay6, k0_pay4]

theorem out_apply (x : Vec Ideal S1408x1024 .f32) (j : Fin 1408) (k : Fin 1024) : k0_pay2 x (ix2 j k) = x (ix2 j k) := by
  pointwise [k0_pay2]

variable (m : (ℓ : Loc nD τ sig) → Buf (Elt Ideal) ℓ) (c : Dev nD)

/-! ## What a point leaves -/

theorem gate_at (t : Fin cfg0.N) :
    (outsAt0 m c t.val t.isLt).1 = k0_pay11 (iblk m c 1 t) (iblk m c 2 t) (iblk m c 0 t) (iblk m c 3 t) := by
  by_cases h0 : t.val % 8 = 0
  · rw [outsAt0_A m c t h0 (by omega)]
    dsimp only
    frame_out
  · by_cases h1 : t.val % 8 = 7
    · rw [outsAt0_C m c t h0 h1]
      dsimp only
      frame_out
    · rw [outsAt0_B m c t h0 h1]
      dsimp only
      frame_out

theorem up_at (t : Fin cfg0.N) :
    (outsAt0 m c t.val t.isLt).2.1 = k0_pay1 (k0_pay7 (iblk m c 1 t)) (k0_pay10 (iblk m c 0 t) (iblk m c 3 t)) := by
  by_cases h0 : t.val % 8 = 0
  · rw [outsAt0_A m c t h0 (by omega)]
    dsimp only
    frame_out
  · by_cases h1 : t.val % 8 = 7
    · rw [outsAt0_C m c t h0 h1]
      dsimp only
      frame_out
    · rw [outsAt0_B m c t h0 h1]
      dsimp only
      frame_out

theorem first (t : Fin cfg0.N) (h0 : t.val % 8 = 0) (h1 : ¬ t.val % 8 = 7) :
    (outsAt0 m c t.val t.isLt).2.2.2 = k0_pay9 (iblk m c 1 t) (iblk m c 2 t) (iblk m c 0 t) (k0_pay3 (F := Ideal)) := by
  rw [outsAt0_A m c t h0 h1]
  dsimp only
  frame_out

theorem next (t : Fin cfg0.N) (h0 : ¬ t.val % 8 = 0) :
    (outsAt0 m c t.val t.isLt).2.2.2 = k0_pay9 (iblk m c 1 t) (iblk m c 2 t) (iblk m c 0 t)
      (outsAt0 m c (t.val - 1) (Nat.lt_of_le_of_lt (Nat.sub_le _ _) t.isLt)).2.2.2 := by
  by_cases h1 : t.val % 8 = 7
  · rw [outsAt0_C m c t h0 h1]
    dsimp only
    frame_out
    simp only [read_unread_whole, View.readCov_cons_toLoadRect]
  · rw [outsAt0_B m c t h0 h1]
    dsimp only
    frame_out
    simp only [read_unread_whole, View.readCov_cons_toLoadRect]

theorem last (t : Fin cfg0.N) (h1 : t.val % 8 = 7) :
    (outsAt0 m c t.val t.isLt).2.2.1 = k0_pay2 (outsAt0 m c t.val t.isLt).2.2.2 := by
  have h0 : ¬ t.val % 8 = 0 := by omega
  rw [next m c t h0, outsAt0_C m c t h0 h1]
  dsimp only
  frame_out
  simp only [View.readCov_cons_toLoadRect, read_unread_whole]

/-! ## The blocks of the operands -/

/-- The four operands: the gradient coming in, the two pre-activations and the down weights. -/
abbrev dIn : Vec Ideal S4096x1024 .f32 := V m c main_v0
abbrev gateIn : Vec Ideal S4096x2816 .bf16 := V m c main_v2
abbrev upIn : Vec Ideal S4096x2816 .bf16 := V m c main_v4
abbrev wIn : Vec Ideal S2816x1024 .bf16 := V m c main_v5

/-- The grid point of column block `p` and row block `b`. -/
def pt (p : Fin 2) (b : Fin 8) : Fin cfg0.N := ⟨8 * p.val + b.val, lt_of_lt_of_eq (by omega : 8 * p.val + b.val < 16) N_0.symm⟩

theorem pt_surj (t : Fin cfg0.N) : ∃ (p : Fin 2) (b : Fin 8), t = pt p b := by
  have h := lt_of_lt_of_eq t.isLt N_0
  exact ⟨⟨t.val / 8, by omega⟩, ⟨t.val % 8, by omega⟩, Fin.ext (by show t.val = 8 * (t.val / 8) + t.val % 8; omega)⟩

/-- Row `r` of row block `b`, hidden column `j` of column block `p`. -/
def row (b : Fin 8) (r : Fin 512) : Fin 4096 := ⟨512 * b.val + r.val, by omega⟩
def col (p : Fin 2) (j : Fin 1408) : Fin 2816 := ⟨1408 * p.val + j.val, by omega⟩

theorem index0 : ∀ t : Fin cfg0.N, win0_0.index t = ![t.val % 8, 0] :=
  (by decide +kernel : ∀ t : Fin grid0.N, win0_0.index t = ![t.val % 8, 0])
theorem index1 : ∀ t : Fin cfg0.N, win0_1.index t = ![t.val % 8, t.val / 8] :=
  (by decide +kernel : ∀ t : Fin grid0.N, win0_1.index t = ![t.val % 8, t.val / 8])
theorem index2 : ∀ t : Fin cfg0.N, win0_2.index t = ![t.val % 8, t.val / 8] :=
  (by decide +kernel : ∀ t : Fin grid0.N, win0_2.index t = ![t.val % 8, t.val / 8])
theorem index3 : ∀ t : Fin cfg0.N, win0_3.index t = ![t.val / 8, 0] :=
  (by decide +kernel : ∀ t : Fin grid0.N, win0_3.index t = ![t.val / 8, 0])
theorem index4 : ∀ t : Fin cfg0.N, win0_4.index t = ![t.val % 8, t.val / 8] :=
  (by decide +kernel : ∀ t : Fin grid0.N, win0_4.index t = ![t.val % 8, t.val / 8])
theorem index5 : ∀ t : Fin cfg0.N, win0_5.index t = ![t.val % 8, t.val / 8] :=
  (by decide +kernel : ∀ t : Fin grid0.N, win0_5.index t = ![t.val % 8, t.val / 8])
theorem index6 : ∀ t : Fin cfg0.N, win0_6.index t = ![t.val / 8, 0] :=
  (by decide +kernel : ∀ t : Fin grid0.N, win0_6.index t = ![t.val / 8, 0])

theorem d_block (p : Fin 2) (b : Fin 8) (r : Fin 512) (k : Fin 1024) :
    (iblk m c 0 (pt p b) : Vec Ideal S512x1024 .f32) (ix2 r k) = dIn m c (ix2 (row b r) k) := by
  blk_simp [iblk]
  congr 1
  blk_ext [index0, pt, row]

theorem gate_block (p : Fin 2) (b : Fin 8) (r : Fin 512) (j : Fin 1408) :
    (iblk m c 1 (pt p b) : Vec Ideal S512x1408 .bf16) (ix2 r j) = gateIn m c (ix2 (row b r) (col p j)) := by
  blk_simp [iblk]
  congr 1
  blk_ext [index1, pt, row, col]

theorem up_block (p : Fin 2) (b : Fin 8) (r : Fin 512) (j : Fin 1408) :
    (iblk m c 2 (pt p b) : Vec Ideal S512x1408 .bf16) (ix2 r j) = upIn m c (ix2 (row b r) (col p j)) := by
  blk_simp [iblk]
  congr 1
  blk_ext [index2, pt, row, col]

theorem w_block (p : Fin 2) (b : Fin 8) (j : Fin 1408) (k : Fin 1024) :
    (iblk m c 3 (pt p b) : Vec Ideal S1408x1024 .bf16) (ix2 j k) = wIn m c (ix2 (col p j) k) := by
  blk_simp [iblk]
  congr 1
  blk_ext [index3, pt, col]

/-! ## The accumulated product -/

/-- The gradient of the gated product, and of the weights. -/
def back (d : Vec Ideal S4096x1024 .f32) (w : Vec Ideal S2816x1024 .bf16) (r : Fin 4096) (j : Fin 2816) : EReal :=
  ∑ k : Fin 1024, d (ix2 r k) * w (ix2 j k)

def prod (g u : Vec Ideal S4096x2816 .bf16) (d : Vec Ideal S4096x1024 .f32) (j : Fin 2816) (k : Fin 1024) : EReal :=
  ∑ r : Fin 4096, act (g (ix2 r j)) (u (ix2 r j)) * d (ix2 r k)

theorem prod_blocks (g u : Vec Ideal S4096x2816 .bf16) (d : Vec Ideal S4096x1024 .f32) (j : Fin 2816) (k : Fin 1024) :
    prod g u d j k = ∑ b : Fin 8, ∑ r : Fin 512, act (g (ix2 (row b r) j)) (u (ix2 (row b r) j)) * d (ix2 (row b r) k) := by
  unfold prod
  rw [Sums.sum_blocks 8 512 (fun r : Fin 4096 => act (g (ix2 r j)) (u (ix2 r j)) * d (ix2 r k))]
  refine Finset.sum_congr rfl fun b _ => Finset.sum_congr rfl fun r _ => ?_
  have e : (finProdFinEquiv (b, r) : Fin (8 * 512)) = row b r := Fin.ext (by show r.val + 512 * b.val = 512 * b.val + r.val; omega)
  rw [e]

theorem pt_mod (p : Fin 2) (b : Fin 8) : (pt p b).val % 8 = b.val := by show (8 * p.val + b.val) % 8 = b.val; omega

theorem outsAt0_congr {n n' : ℕ} (e : n = n') (hn : n < cfg0.N) (hn' : n' < cfg0.N) : outsAt0 m c n hn = outsAt0 m c n' hn' := by
  subst e; rfl

theorem acc (p : Fin 2) (j : Fin 1408) (k : Fin 1024) :
    (outsAt0 m c (pt p 7).val (pt p 7).isLt).2.2.2 (ix2 j k) = prod (gateIn m c) (upIn m c) (dIn m c) (col p j) k := by
  rw [prod_blocks]
  refine Sums.accumulate 8 (fun b hb => (outsAt0 m c (pt p ⟨b, hb⟩).val (pt p ⟨b, hb⟩).isLt).2.2.2 (ix2 j k))
    (fun b hb => ∑ r : Fin 512, act (gateIn m c (ix2 (row ⟨b, hb⟩ r) (col p j))) (upIn m c (ix2 (row ⟨b, hb⟩ r) (col p j)))
      * dIn m c (ix2 (row ⟨b, hb⟩ r) k)) (fun hb => ?_) (fun b hb => ?_) 7 (by decide)
  · rw [first m c (pt p ⟨0, hb⟩) (by rw [pt_mod]) (by rw [pt_mod]; simp), add_apply, start_apply, zero_add]
    simp only [d_block, gate_block, up_block]
  · rw [next m c (pt p ⟨b + 1, hb⟩) (by rw [pt_mod]; simp), add_apply]
    simp only [d_block, gate_block, up_block]
    rw [outsAt0_congr m c (by show 8 * p.val + (b + 1) - 1 = 8 * p.val + b; omega) _ (pt p ⟨b, by omega⟩).isLt]

/-! ## The arrays after the run -/

theorem gate_point (p : Fin 2) (b : Fin 8) (r : Fin 512) (j : Fin 1408) : (outsAt0 m c (pt p b).val (pt p b).isLt).1 (ix2 r j)
    = gateGrad (back (dIn m c) (wIn m c) (row b r) (col p j)) (gateIn m c (ix2 (row b r) (col p j))) (upIn m c (ix2 (row b r) (col p j))) := by
  rw [gate_at, gate_apply]
  simp only [d_block, gate_block, up_block, w_block]
  rfl

theorem up_point (p : Fin 2) (b : Fin 8) (r : Fin 512) (j : Fin 1408) : (outsAt0 m c (pt p b).val (pt p b).isLt).2.1 (ix2 r j)
    = upGrad (back (dIn m c) (wIn m c) (row b r) (col p j)) (gateIn m c (ix2 (row b r) (col p j))) := by
  rw [up_at, up_apply]
  simp only [d_block, gate_block, w_block]
  rfl

theorem final_gate : (dats m 0 c).arrAt 4 cfg0.N = (fun i => gateGrad (back (dIn m c) (wIn m c) (i 0) (i 1)) (gateIn m c (ix2 (i 0) (i 1)))
    (upIn m c (ix2 (i 0) (i 1))) : Vec Ideal S4096x2816 .bf16) := by
  refine (dats m 0 c).arrAt_eq_of_covers 4 _ (by decide +kernel) fun t hf y => ?_
  obtain ⟨p, b, rfl⟩ := pt_surj t
  blk_simp
  rw [after0_4]
  refine (congrArg _ (eq_ix2 y)).trans ((gate_point m c p b (y 0) (y 1)).trans ?_)
  have e : (((cfg0.win 4).blk (pt p b)).view.emb y) = (ix2 (row b (y 0)) (col p (y 1)) : S4096x2816.Idx) := by
    blk_ext [index4, pt, row, col]
  blk_simp at e
  rw [e]
  rfl

theorem final_up : (dats m 0 c).arrAt 5 cfg0.N = (fun i => upGrad (back (dIn m c) (wIn m c) (i 0) (i 1)) (gateIn m c (ix2 (i 0) (i 1)))
    : Vec Ideal S4096x2816 .bf16) := by
  refine (dats m 0 c).arrAt_eq_of_covers 5 _ (by decide +kernel) fun t hf y => ?_
  obtain ⟨p, b, rfl⟩ := pt_surj t
  blk_simp
  rw [after0_5]
  refine (congrArg _ (eq_ix2 y)).trans ((up_point m c p b (y 0) (y 1)).trans ?_)
  have e : (((cfg0.win 5).blk (pt p b)).view.emb y) = (ix2 (row b (y 0)) (col p (y 1)) : S4096x2816.Idx) := by
    blk_ext [index5, pt, row, col]
  blk_simp at e
  rw [e]
  rfl

theorem final_w : (dats m 0 c).arrAt 6 cfg0.N = (fun i => prod (gateIn m c) (upIn m c) (dIn m c) (i 0) (i 1) : Vec Ideal S2816x1024 .bf16) := by
  refine (dats m 0 c).arrAt_eq_of_covers 6 _ (by decide +kernel) fun t hf y => ?_
  obtain ⟨p, rfl⟩ : ∃ p : Fin 2, t = pt p 7 := by
    have h7 : t.val % 8 = 7 := (by decide +kernel : ∀ t : Fin cfg0.N, (cfg0.win 6).flush t = true → t.val % 8 = 7) t hf
    exact ⟨⟨t.val / 8, by have := lt_of_lt_of_eq t.isLt N_0; omega⟩, Fin.ext (by show t.val = 8 * (t.val / 8) + 7; omega)⟩
  blk_simp
  rw [after0_6, last m c _ (pt_mod ..)]
  refine (congrArg _ (eq_ix2 y)).trans ((out_apply _ (y 0) (y 1)).trans ((acc m c p (y 0) (y 1)).trans ?_))
  have e : (((cfg0.win 6).blk (pt p 7)).view.emb y) = (ix2 (col p (y 0)) (y 1) : S2816x1024.Idx) := by
    blk_ext [index6, pt, col]
  blk_simp at e
  rw [e]
  rfl

/-! ## The operands as the host makes them -/

theorem d_eq : V m c main_v0 = (shapeCast S4096x1024 (m ((c.tc : Thread nD τ).loc main_arg0) : Vec Ideal S1x4096x1024 .f32)
    shapeCasts_S1x4096x1024_S4096x1024 : Vec Ideal S4096x1024 .f32) := by
  unfold_abbrev_sides
  after_results_simp
  rfl

theorem gate_eq : V m c main_v2 = (truncf (F := Ideal) .bf16 (shapeCast S4096x2816 (m ((c.tc : Thread nD τ).loc main_arg1) : Vec Ideal S1x4096x2816 .f32)
    shapeCasts_S1x4096x2816_S4096x2816) bitsLt_bf16_f32 : Vec Ideal S4096x2816 .bf16) := by
  unfold_abbrev_sides
  after_results_simp
  rfl

theorem up_eq : V m c main_v4 = (truncf (F := Ideal) .bf16 (shapeCast S4096x2816 (m ((c.tc : Thread nD τ).loc main_arg2) : Vec Ideal S1x4096x2816 .f32)
    shapeCasts_S1x4096x2816_S4096x2816) bitsLt_bf16_f32 : Vec Ideal S4096x2816 .bf16) := by
  unfold_abbrev_sides
  after_results_simp
  rfl

theorem w_eq : V m c main_v5 = (truncf (F := Ideal) .bf16 (m ((c.tc : Thread nD τ).loc main_arg3) : Vec Ideal S2816x1024 .f32)
    bitsLt_bf16_f32 : Vec Ideal S2816x1024 .bf16) := by
  unfold_abbrev_sides
  after_results_simp

theorem d_rows (x : Vec Ideal S1x4096x1024 .f32) (r : Fin 4096) (k : Fin 1024) :
    shapeCast S4096x1024 x shapeCasts_S1x4096x1024_S4096x1024 (ix2 r k) = x (ix3 0 r k) := by
  pointwise

theorem pre_rows (x : Vec Ideal S1x4096x2816 .f32) (r : Fin 4096) (j : Fin 2816) :
    truncf (F := Ideal) .bf16 (shapeCast S4096x2816 x shapeCasts_S1x4096x2816_S4096x2816) bitsLt_bf16_f32 (ix2 r j) = x (ix3 0 r j) := by
  pointwise

theorem w_rows (x : Vec Ideal S2816x1024 .f32) (j : Fin 2816) (k : Fin 1024) :
    truncf (F := Ideal) .bf16 x bitsLt_bf16_f32 (ix2 j k) = x (ix2 j k) := by
  pointwise

theorem back_rows (d : Vec Ideal S1x4096x1024 .f32) (w : Vec Ideal S2816x1024 .f32) (r : Fin 4096) (j : Fin 2816) :
    back (shapeCast S4096x1024 d shapeCasts_S1x4096x1024_S4096x1024) (truncf (F := Ideal) .bf16 w bitsLt_bf16_f32) r j
      = ∑ k : Fin 1024, d (ix3 0 r k) * w (ix2 j k) := by
  unfold back
  exact Finset.sum_congr rfl fun k _ => congrArg₂ (· * ·) (d_rows d r k) (w_rows w j k)

theorem prod_rows (g u : Vec Ideal S1x4096x2816 .f32) (d : Vec Ideal S1x4096x1024 .f32) (j : Fin 2816) (k : Fin 1024) :
    prod (truncf (F := Ideal) .bf16 (shapeCast S4096x2816 g shapeCasts_S1x4096x2816_S4096x2816) bitsLt_bf16_f32)
      (truncf (F := Ideal) .bf16 (shapeCast S4096x2816 u shapeCasts_S1x4096x2816_S4096x2816) bitsLt_bf16_f32)
      (shapeCast S4096x1024 d shapeCasts_S1x4096x1024_S4096x1024) j k
      = ∑ r : Fin 4096, act (g (ix3 0 r j)) (u (ix3 0 r j)) * d (ix3 0 r k) := by
  unfold prod
  exact Finset.sum_congr rfl fun r _ => congrArg₂ (· * ·) (congrArg₂ act (pre_rows g r j) (pre_rows u r j)) (d_rows d r k)

end kernel

/-! ## The reference -/

section reference

open Cert.Reference3Ideal Cert.Reference3Ideal.Read

theorem ref_gate (d : Vec Ideal S1x4096x1024 .f32) (g u : Vec Ideal S1x4096x2816 .f32) (w : Vec Ideal S2816x1024 .f32) (r : Fin 4096) (j : Fin 2816) :
    val_main_v10 (F := Ideal) d g u w (ix2 r j)
      = (∑ k : Fin 1024, d (ix3 0 r k) * w (ix2 j k)) * u (ix3 0 r j) * Ideal.logistic (g (ix3 0 r j))
        + g (ix3 0 r j) * ((∑ k : Fin 1024, d (ix3 0 r k) * w (ix2 j k)) * u (ix3 0 r j))
          * (Ideal.logistic (g (ix3 0 r j)) * (1 - Ideal.logistic (g (ix3 0 r j)))) := by
  unfold Ideal.logistic
  pointwise [val_main_v10, val_main_v9, val_main_v8, val_main_call1_v2, val_main_call1_v1, val_main_call1_v0, val_main_v7, val_main_v5,
    val_main_v0_1, val_main_call0_v7, val_main_call0_v6, val_main_call0_cst_1, val_main_v0_2, val_main_call0_v4, val_main_call0_cst_0,
    val_main_call0_v3, val_main_call0_v2, val_main_call0_cst, val_main_call0_v1, val_main_call0_v0]

theorem ref_up (d : Vec Ideal S1x4096x1024 .f32) (g : Vec Ideal S1x4096x2816 .f32) (w : Vec Ideal S2816x1024 .f32) (r : Fin 4096) (j : Fin 2816) :
    val_main_v12 (F := Ideal) d g w (ix2 r j) = upGrad (∑ k : Fin 1024, d (ix3 0 r k) * w (ix2 j k)) (g (ix3 0 r j)) := by
  refine Eq.trans ?_ (mul_comm _ _)
  unfold Ideal.logistic
  pointwise [val_main_v12, val_main_v11, val_main_v6, val_main_v5,
    val_main_v0_0, val_main_v0_2, val_main_call0_v4, val_main_call0_cst_0,
    val_main_call0_v3, val_main_call0_v2, val_main_call0_cst, val_main_call0_v1, val_main_call0_v0]

theorem ref_w (d : Vec Ideal S1x4096x1024 .f32) (g u : Vec Ideal S1x4096x2816 .f32) (j : Fin 2816) (k : Fin 1024) :
    val_main_v13 (F := Ideal) d g u (ix2 j k) = ∑ r : Fin 4096, act (g (ix3 0 r j)) (u (ix3 0 r j)) * d (ix3 0 r k) := by
  refine Eq.trans ?_ (Finset.sum_congr rfl fun r _ => mul_comm (d (ix3 0 r k) : EReal) _)
  unfold act Ideal.logistic
  pointwise [val_main_v13, val_main_v4, val_main_v3, val_main_v1,
    val_main_v0_0, val_main_v0_2, val_main_call0_v4, val_main_call0_cst_0,
    val_main_call0_v3, val_main_call0_v2, val_main_call0_cst, val_main_call0_v1, val_main_call0_v0, Fin.sum_univ_one]

end reference

/-! ## The precondition -/

theorem facts : Cert.Pre_finite3.Facts where
  bcast_S_S1x4096x1024 := by decide
  bcast_S_S1x4096x2816 := by decide
  bcast_S_S2816x1024 := by decide

section finite

open Cert.Kernel3Ideal

variable (m : (ℓ : Loc nD τ sig) → Buf (Elt Ideal) ℓ)

/-- Every entry of the four arguments is a real number. -/
structure Real (c : Dev nD) : Prop where
  d : ∀ i, ((EReal.toReal ((m ((c.tc : Thread nD τ).loc main_arg0) : Vec Ideal S1x4096x1024 .f32) i) : ℝ) : EReal) = (m ((c.tc : Thread nD τ).loc main_arg0) : Vec Ideal S1x4096x1024 .f32) i
  gate : ∀ i, ((EReal.toReal ((m ((c.tc : Thread nD τ).loc main_arg1) : Vec Ideal S1x4096x2816 .f32) i) : ℝ) : EReal) = (m ((c.tc : Thread nD τ).loc main_arg1) : Vec Ideal S1x4096x2816 .f32) i
  up : ∀ i, ((EReal.toReal ((m ((c.tc : Thread nD τ).loc main_arg2) : Vec Ideal S1x4096x2816 .f32) i) : ℝ) : EReal) = (m ((c.tc : Thread nD τ).loc main_arg2) : Vec Ideal S1x4096x2816 .f32) i
  w : ∀ i, ((EReal.toReal ((m ((c.tc : Thread nD τ).loc main_arg3) : Vec Ideal S2816x1024 .f32) i) : ℝ) : EReal) = (m ((c.tc : Thread nD τ).loc main_arg3) : Vec Ideal S2816x1024 .f32) i

theorem real_of_pre (c : Dev nD) (hpre : @Cert.Pre_Kernel3Ideal_finite3 facts m) : Real m c := by
  obtain ⟨h0, h1, h2, h3⟩ := hpre c
  exact ⟨fun i => Finite.real _ _ _ _ (congrFun h0 i), fun i => Finite.real _ _ _ _ (congrFun h1 i),
    fun i => Finite.real _ _ _ _ (congrFun h2 i), fun i => Finite.real _ _ _ _ (congrFun h3 i)⟩

end finite

/-! ## The claims -/

theorem gateGrad_of_real {t g u : EReal} (ht : ((t.toReal : ℝ) : EReal) = t) (hg : ((g.toReal : ℝ) : EReal) = g)
    (hu : ((u.toReal : ℝ) : EReal) = u) :
    t * u * Ideal.logistic g + g * (t * u) * (Ideal.logistic g * (1 - Ideal.logistic g)) = gateGrad t g u := by
  rw [← ht, ← hg, ← hu]
  exact (gateGrad_real _ _ _).symm

set_option maxHeartbeats 1600000 in
theorem algebraic : @Cert.algebraic_Kernel3Ideal_Reference3Ideal_pre_finite3 Cert.Kernel3Ideal.Gen.facts Cert.Reference3Ideal.Gen.facts facts := by
  intro m g m' g' hpre hagree
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨r0, r1, r2, rest⟩ := h c
  obtain ⟨a0, a1, a2, a3⟩ := hagree c
  have R := real_of_pre m c hpre
  refine ⟨r0.trans ?_, r1.trans ?_, r2.trans ?_, rest⟩
  · refine Eq.trans ?_ (final_gate m c).symm
    rw [Cert.Reference3Ideal.Read.val_main_v10_eq, a0, a1, a2, a3]
    unfold dIn gateIn upIn wIn
    rw [d_eq, gate_eq, up_eq, w_eq]
    funext i
    idx_vars i
    refine (ref_gate _ _ _ _ _ _).trans ((gateGrad_of_real (Finite.sum_real _ _ fun k => Finite.mul_real (R.d _) (R.w _)) (R.gate _) (R.up _)).trans ?_)
    exact congr (congrArg₂ gateGrad (back_rows _ _ _ _).symm (pre_rows _ _ _).symm) (pre_rows _ _ _).symm
  · refine Eq.trans ?_ (final_up m c).symm
    rw [Cert.Reference3Ideal.Read.val_main_v12_eq, a0, a1, a3]
    unfold dIn gateIn wIn
    rw [d_eq, gate_eq, w_eq]
    funext i
    idx_vars i
    exact (ref_up _ _ _ _ _).trans (congrArg₂ upGrad (back_rows _ _ _ _).symm (pre_rows _ _ _).symm)
  · refine Eq.trans ?_ (final_w m c).symm
    rw [Cert.Reference3Ideal.Read.val_main_v13_eq, a0, a1, a2]
    unfold dIn gateIn upIn
    rw [d_eq, gate_eq, up_eq]
    funext i
    idx_vars i
    exact (ref_w _ _ _ _ _).trans (prod_rows _ _ _ _ _).symm

theorem frame_reference : @Cert.quiescent_Reference3Ideal Cert.Reference3Ideal.Gen.facts := fun m g _ =>
  (θ_run Cert.Reference3Ideal.defs _ _).mono (fun r h => ⟨fun c => (h c).2.2.2, sem_eq_zero_of_no_sems (by decide) r.2⟩)
    (Cert.Reference3Ideal.Value.run (F := Ideal) m g)

end Cert.Proof.Hidden

end
-- ==== Proof.FfnIn.lean ====
/-
  The gradient of the feed-forward layer in front of its two first products: behind the two products with the transposed
  weights stands the gradient of the root mean square norm. The call goes over eight blocks of 512 rows; the gradient of
  the norm's weights is added up over the blocks in the result itself.
-/
module

public import proofs.«01_k».proof.Defs
public import proofs.«01_k».proof.Proof.Norm
public import proofs.«01_k».proof.Proof.Sums
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.FfnIn

open Idealize.ShloMosaic
open Cert.Proof.Norm
open scoped BigOperators

/-- The gradient of the normed row: both first products' gradients through their weights. -/
def hRow (p q : Fin 2816 → EReal) (w v : Fin 1024 → Fin 2816 → EReal) (j : Fin 1024) : EReal :=
  ∑ f, p f * w j f + ∑ f, q f * v j f

/-- A normed row. -/
def normRow (x g : Fin 1024 → EReal) (j : Fin 1024) : EReal := x j * scale inv1024 x * g j

/-- A row's part of the gradient of the norm's weights. -/
def part (x h : Fin 1024 → EReal) (j : Fin 1024) : EReal := h j * x j * scale inv1024 x

section kernel

open Cert.Kernel4Ideal Cert.Kernel4Ideal.Gen

/-! ## The values in the body -/

theorem h_apply (P : Vec Ideal S512x2816 .bf16) (W : Vec Ideal S2816x1024 .bf16) (Q : Vec Ideal S512x2816 .bf16) (U : Vec Ideal S2816x1024 .bf16)
    (r : Fin 512) (j : Fin 1024) :
    k0_pay6 P W Q U (ix2 r j) = hRow (fun f => P (ix2 r f)) (fun f => Q (ix2 r f)) (fun j f => W (ix2 f j)) (fun j f => U (ix2 f j)) j := by
  unfold hRow
  pointwise [k0_pay6]

theorem scale_apply (X : Vec Ideal S512x1024 .f32) (r : Fin 512) : k0_pay7 X (ix2 r 0) = scale inv1024 (fun j => X (ix2 r j)) := by
  unfold scale
  pointwise [k0_pay7, k0_pay4]

theorem norm_apply (X : Vec Ideal S512x1024 .f32) (G : Vec Ideal S1x1024 .f32) (r : Fin 512) (j : Fin 1024) :
    k0_pay8 X G (ix2 r j) = normRow (fun j => X (ix2 r j)) (fun j => G (ix2 0 j)) j := by
  unfold normRow
  simp only [← scale_apply]
  pointwise [k0_pay8, k0_pay5, k0_pay4]

theorem grad_apply (X : Vec Ideal S512x1024 .f32) (G : Vec Ideal S1x1024 .f32) (P : Vec Ideal S512x2816 .bf16) (W : Vec Ideal S2816x1024 .bf16)
    (Q : Vec Ideal S512x2816 .bf16) (U : Vec Ideal S2816x1024 .bf16) (D : Vec Ideal S512x1024 .f32) (r : Fin 512) (j : Fin 1024) :
    k0_pay1 (k0_pay4 X) (k0_pay7 X) (k0_pay9 G P W Q U) (k0_pay10 X G P W Q U) D (ix2 r j)
      = gradRow (D (ix2 r j)) (fun j => X (ix2 r j)) (fun j => G (ix2 0 j))
        (hRow (fun f => P (ix2 r f)) (fun f => Q (ix2 r f)) (fun j f => W (ix2 f j)) (fun j f => U (ix2 f j))) j := by
  unfold gradRow
  simp only [← scale_apply, ← h_apply]
  pointwise [k0_pay1, k0_pay9, k0_pay10, k0_pay5, k0_pay4]

theorem part_apply (X : Vec Ideal S512x1024 .f32) (P : Vec Ideal S512x2816 .bf16) (W : Vec Ideal S2816x1024 .bf16)
    (Q : Vec Ideal S512x2816 .bf16) (U : Vec Ideal S2816x1024 .bf16) (A : Vec Ideal S1x1024 .f32) (j : Fin 1024) :
    k0_pay2 (k0_pay4 X) (k0_pay6 P W Q U) (k0_pay7 X) A (ix2 0 j) = A (ix2 0 j) + ∑ r : Fin 512, part (fun j => X (ix2 r j))
        (hRow (fun f => P (ix2 r f)) (fun f => Q (ix2 r f)) (fun j f => W (ix2 f j)) (fun j f => U (ix2 f j))) j := by
  unfold part
  simp only [← scale_apply, ← h_apply]
  pointwise [k0_pay2, k0_pay4]

theorem start_apply (j : Fin 1024) : k0_pay3 (F := Ideal) (ix2 0 j) = (0 : EReal) := by
  pointwise [k0_pay3]

variable (m : (ℓ : Loc nD τ sig) → Buf (Elt Ideal) ℓ) (c : Dev nD)

/-! ## What a point leaves -/

theorem grad_at (t : Fin cfg0.N) :
    (outsAt0 m c t.val t.isLt).1 = k0_pay1 (k0_pay4 (iblk m c 1 t)) (k0_pay7 (iblk m c 1 t))
      (k0_pay9 (iblk m c 4 t) (iblk m c 2 t) (iblk m c 5 t) (iblk m c 3 t) (iblk m c 6 t))
      (k0_pay10 (iblk m c 1 t) (iblk m c 4 t) (iblk m c 2 t) (iblk m c 5 t) (iblk m c 3 t) (iblk m c 6 t)) (iblk m c 0 t) := by
  by_cases h0 : t.val % 8 = 0
  · rw [outsAt0_A m c t h0]
    dsimp only
    frame_out
  · rw [outsAt0_B m c t h0]
    dsimp only
    frame_out

theorem norm_at (t : Fin cfg0.N) : (outsAt0 m c t.val t.isLt).2.1 = k0_pay8 (iblk m c 1 t) (iblk m c 4 t) := by
  by_cases h0 : t.val % 8 = 0
  · rw [outsAt0_A m c t h0]
    dsimp only
    frame_out
  · rw [outsAt0_B m c t h0]
    dsimp only
    frame_out

theorem first (t : Fin cfg0.N) (h0 : t.val % 8 = 0) :
    (outsAt0 m c t.val t.isLt).2.2 = k0_pay2 (k0_pay4 (iblk m c 1 t)) (k0_pay6 (iblk m c 2 t) (iblk m c 5 t) (iblk m c 3 t) (iblk m c 6 t))
      (k0_pay7 (iblk m c 1 t)) (k0_pay3 (F := Ideal)) := by
  rw [outsAt0_A m c t h0]
  dsimp only
  frame_out

theorem next (t : Fin cfg0.N) (h0 : ¬ t.val % 8 = 0) :
    (outsAt0 m c t.val t.isLt).2.2 = k0_pay2 (k0_pay4 (iblk m c 1 t)) (k0_pay6 (iblk m c 2 t) (iblk m c 5 t) (iblk m c 3 t) (iblk m c 6 t))
      (k0_pay7 (iblk m c 1 t)) (outsAt0 m c (t.val - 1) (Nat.lt_of_le_of_lt (Nat.sub_le _ _) t.isLt)).2.2 := by
  rw [outsAt0_B m c t h0]
  dsimp only
  frame_out

/-! ## The blocks of the operands -/

/-- The operands: the gradient coming in, the rows, both products' gradients, the norm's weights, both transposed weights. -/
abbrev dIn : Vec Ideal S4096x1024 .f32 := V m c main_v0
abbrev xIn : Vec Ideal S4096x1024 .f32 := V m c main_v1
abbrev pIn : Vec Ideal S4096x2816 .bf16 := V m c main_v3
abbrev qIn : Vec Ideal S4096x2816 .bf16 := V m c main_v5
abbrev gIn : Vec Ideal S1x1024 .f32 := V m c main_v6
abbrev wIn : Vec Ideal S2816x1024 .bf16 := V m c main_v8
abbrev uIn : Vec Ideal S2816x1024 .bf16 := V m c main_v10

/-- The grid point of row block `b`, and its row `r`. -/
def pt (b : Fin 8) : Fin cfg0.N := ⟨b.val, lt_of_lt_of_eq b.isLt N_0.symm⟩
def row (b : Fin 8) (r : Fin 512) : Fin 4096 := ⟨512 * b.val + r.val, by omega⟩

theorem pt_surj (t : Fin cfg0.N) : ∃ b : Fin 8, t = pt b := ⟨⟨t.val, lt_of_lt_of_eq t.isLt N_0⟩, rfl⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])
theorem index9 : ∀ t : Fin cfg0.N, win0_9.index t = ![0, 0] :=
  (by decide +kernel : ∀ t : Fin grid0.N, win0_9.index t = ![0, 0])

theorem d_block (b : Fin 8) (r : Fin 512) (j : Fin 1024) :
    (iblk m c 0 (pt b) : Vec Ideal S512x1024 .f32) (ix2 r j) = dIn m c (ix2 (row b r) j) := by
  blk_simp [iblk]
  congr 1
  blk_ext [index0, pt, row]

theorem x_block (b : Fin 8) (r : Fin 512) (j : Fin 1024) :
    (iblk m c 1 (pt b) : Vec Ideal S512x1024 .f32) (ix2 r j) = xIn m c (ix2 (row b r) j) := by
  blk_simp [iblk]
  congr 1
  blk_ext [index1, pt, row]

theorem p_block (b : Fin 8) (r : Fin 512) (f : Fin 2816) :
    (iblk m c 2 (pt b) : Vec Ideal S512x2816 .bf16) (ix2 r f) = pIn m c (ix2 (row b r) f) := by
  blk_simp [iblk]
  congr 1
  blk_ext [index2, pt, row]

theorem q_block (b : Fin 8) (r : Fin 512) (f : Fin 2816) :
    (iblk m c 3 (pt b) : Vec Ideal S512x2816 .bf16) (ix2 r f) = qIn m c (ix2 (row b r) f) := by
  blk_simp [iblk]
  congr 1
  blk_ext [index3, pt, row]

theorem g_block (b : Fin 8) (j : Fin 1024) : (iblk m c 4 (pt b) : Vec Ideal S1x1024 .f32) (ix2 0 j) = gIn m c (ix2 0 j) := by
  blk_simp [iblk]
  congr 1
  blk_ext [index4]

theorem w_block (b : Fin 8) (f : Fin 2816) (j : Fin 1024) : (iblk m c 5 (pt b) : Vec Ideal S2816x1024 .bf16) (ix2 f j) = wIn m c (ix2 f j) := by
  blk_simp [iblk]
  congr 1
  blk_ext [index5]

theorem u_block (b : Fin 8) (f : Fin 2816) (j : Fin 1024) : (iblk m c 6 (pt b) : Vec Ideal S2816x1024 .bf16) (ix2 f j) = uIn m c (ix2 f j) := by
  blk_simp [iblk]
  congr 1
  blk_ext [index6]

/-! ## The rows of the operands -/

/-- The gradient of the normed row `r`, and its part of the gradient of the norm's weights. -/
def hOf (P Q : Vec Ideal S4096x2816 .bf16) (W U : Vec Ideal S2816x1024 .bf16) (r : Fin 4096) : Fin 1024 → EReal :=
  hRow (fun f => P (ix2 r f)) (fun f => Q (ix2 r f)) (fun j f => W (ix2 f j)) (fun j f => U (ix2 f j))

def gOf (X : Vec Ideal S4096x1024 .f32) (P Q : Vec Ideal S4096x2816 .bf16) (W U : Vec Ideal S2816x1024 .bf16) (j : Fin 1024) : EReal :=
  ∑ r : Fin 4096, part (fun j => X (ix2 r j)) (hOf P Q W U r) j

theorem gOf_blocks (X : Vec Ideal S4096x1024 .f32) (P Q : Vec Ideal S4096x2816 .bf16) (W U : Vec Ideal S2816x1024 .bf16) (j : Fin 1024) :
    gOf X P Q W U j = ∑ b : Fin 8, ∑ r : Fin 512, part (fun j => X (ix2 (row b r) j)) (hOf P Q W U (row b r)) j := by
  unfold gOf
  rw [Sums.sum_blocks 8 512 (fun r : Fin 4096 => part (fun j => X (ix2 r j)) (hOf P Q W U r) j)]
  refine Finset.sum_congr rfl fun b _ => Finset.sum_congr rfl fun r _ => ?_
  have e : (finProdFinEquiv (b, r) : Fin (8 * 512)) = row b r := Fin.ext (by show r.val + 512 * b.val = 512 * b.val + r.val; omega)
  rw [e]

theorem outsAt0_congr {n n' : ℕ} (e : n = n') (hn : n < cfg0.N) (hn' : n' < cfg0.N) : outsAt0 m c n hn = outsAt0 m c n' hn' := by
  subst e; rfl

theorem acc (j : Fin 1024) :
    (outsAt0 m c (pt 7).val (pt 7).isLt).2.2 (ix2 0 j) = gOf (xIn m c) (pIn m c) (qIn m c) (wIn m c) (uIn m c) j := by
  rw [gOf_blocks]
  refine Sums.accumulate 8 (fun b hb => (outsAt0 m c (pt ⟨b, hb⟩).val (pt ⟨b, hb⟩).isLt).2.2 (ix2 0 j))
    (fun b hb => ∑ r : Fin 512, part (fun j => xIn m c (ix2 (row ⟨b, hb⟩ r) j)) (hOf (pIn m c) (qIn m c) (wIn m c) (uIn m c) (row ⟨b, hb⟩ r)) j)
    (fun hb => ?_) (fun b hb => ?_) 7 (by decide)
  · rw [first m c (pt ⟨0, hb⟩) rfl, part_apply, start_apply, zero_add]
    simp only [x_block, p_block, q_block, w_block, u_block]
    rfl
  · rw [next m c (pt ⟨b + 1, hb⟩) (by show ¬ (b + 1) % 8 = 0; omega), part_apply]
    simp only [x_block, p_block, q_block, w_block, u_block]
    rfl

/-! ## The arrays after the run -/

theorem d_point (b : Fin 8) (r : Fin 512) (j : Fin 1024) : (outsAt0 m c (pt b).val (pt b).isLt).1 (ix2 r j)
    = gradRow (dIn m c (ix2 (row b r) j)) (fun j => xIn m c (ix2 (row b r) j)) (fun j => gIn m c (ix2 0 j))
      (hOf (pIn m c) (qIn m c) (wIn m c) (uIn m c) (row b r)) j := by
  rw [grad_at, grad_apply]
  simp only [d_block, x_block, p_block, q_block, g_block, w_block, u_block]
  rfl

theorem h_point (b : Fin 8) (r : Fin 512) (j : Fin 1024) : (outsAt0 m c (pt b).val (pt b).isLt).2.1 (ix2 r j)
    = normRow (fun j => xIn m c (ix2 (row b r) j)) (fun j => gIn m c (ix2 0 j)) j := by
  rw [norm_at, norm_apply]
  simp only [x_block, g_block]

theorem final_d : (dats m 0 c).arrAt 7 cfg0.N = (fun i => gradRow (dIn m c (ix2 (i 0) (i 1))) (fun j => xIn m c (ix2 (i 0) j)) (fun j => gIn m c (ix2 0 j))
    (hOf (pIn m c) (qIn m c) (wIn m c) (uIn m c) (i 0)) (i 1) : Vec Ideal S4096x1024 .f32) := by
  refine (dats m 0 c).arrAt_eq_of_covers 7 _ (by decide +kernel) fun t hf y => ?_
  obtain ⟨b, rfl⟩ := pt_surj t
  blk_simp
  rw [after0_7]
  refine (congrArg _ (eq_ix2 y)).trans ((d_point m c b (y 0) (y 1)).trans ?_)
  have e : (((cfg0.win 7).blk (pt b)).view.emb y) = (ix2 (row b (y 0)) (y 1) : S4096x1024.Idx) := by
    blk_ext [index7, pt, row]
  blk_simp at e
  rw [e]
  rfl

theorem final_h : (dats m 0 c).arrAt 8 cfg0.N = (fun i => normRow (fun j => xIn m c (ix2 (i 0) j)) (fun j => gIn m c (ix2 0 j)) (i 1)
    : Vec Ideal S4096x1024 .bf16) := by
  refine (dats m 0 c).arrAt_eq_of_covers 8 _ (by decide +kernel) fun t hf y => ?_
  obtain ⟨b, rfl⟩ := pt_surj t
  blk_simp
  rw [after0_8]
  refine (congrArg _ (eq_ix2 y)).trans ((h_point m c b (y 0) (y 1)).trans ?_)
  have e : (((cfg0.win 8).blk (pt b)).view.emb y) = (ix2 (row b (y 0)) (y 1) : S4096x1024.Idx) := by
    blk_ext [index8, pt, row]
  blk_simp at e
  rw [e]
  rfl

theorem acc' (i : Fin 1) (j : Fin 1024) :
    (outsAt0 m c (pt 7).val (pt 7).isLt).2.2 (ix2 i j) = gOf (xIn m c) (pIn m c) (qIn m c) (wIn m c) (uIn m c) j := by
  obtain rfl : i = 0 := Subsingleton.elim _ _
  exact acc m c j

theorem final_g : (dats m 0 c).arrAt 9 cfg0.N = (fun i => gOf (xIn m c) (pIn m c) (qIn m c) (wIn m c) (uIn m c) (i 1) : Vec Ideal S1x1024 .f32) := by
  refine (dats m 0 c).arrAt_eq_of_covers 9 _ (by decide +kernel) fun t hf y => ?_
  obtain rfl : t = pt 7 := by
    have h7 : t.val % 8 = 7 := (flush0_9 t).mp hf
    exact Fin.ext (by have := lt_of_lt_of_eq t.isLt N_0; show t.val = 7; omega)
  blk_simp
  rw [after0_9]
  refine (congrArg _ (eq_ix2 y)).trans ((acc' m c (y 0) (y 1)).trans ?_)
  have e : (((cfg0.win 9).blk (pt 7)).view.emb y) = (ix2 (y 0) (y 1) : S1x1024.Idx) := by
    blk_ext [index9, pt]
  blk_simp at e
  rw [e]
  rfl

/-! ## The operands as the host makes them -/

theorem d_eq : V m c main_v0 = (shapeCast S4096x1024 (m ((c.tc : Thread nD τ).loc main_arg0) : Vec Ideal S1x4096x1024 .f32)
    shapeCasts_S1x4096x1024_S4096x1024 : Vec Ideal S4096x1024 .f32) := by
  unfold_abbrev_sides
  after_results_simp
  rfl

theorem x_eq : V m c main_v1 = (shapeCast S4096x1024 (m ((c.tc : Thread nD τ).loc main_arg1) : Vec Ideal S1x4096x1024 .f32)
    shapeCasts_S1x4096x1024_S4096x1024 : Vec Ideal S4096x1024 .f32) := by
  unfold_abbrev_sides
  after_results_simp
  rfl

theorem p_eq : V m c main_v3 = (truncf (F := Ideal) .bf16 (shapeCast S4096x2816 (m ((c.tc : Thread nD τ).loc main_arg2) : Vec Ideal S1x4096x2816 .f32)
    shapeCasts_S1x4096x2816_S4096x2816) bitsLt_bf16_f32 : Vec Ideal S4096x2816 .bf16) := by
  unfold_abbrev_sides
  after_results_simp
  rfl

theorem q_eq : V m c main_v5 = (truncf (F := Ideal) .bf16 (shapeCast S4096x2816 (m ((c.tc : Thread nD τ).loc main_arg3) : Vec Ideal S1x4096x2816 .f32)
    shapeCasts_S1x4096x2816_S4096x2816) bitsLt_bf16_f32 : Vec Ideal S4096x2816 .bf16) := by
  unfold_abbrev_sides
  after_results_simp
  rfl

theorem g_eq : V m c main_v6 = (shapeCast S1x1024 (m ((c.tc : Thread nD τ).loc main_arg4) : Vec Ideal S1024 .f32)
    shapeCasts_S1024_S1x1024 : Vec Ideal S1x1024 .f32) := by
  unfold_abbrev_sides
  after_results_simp
  rfl

theorem w_eq : V m c main_v8 = (truncf (F := Ideal) .bf16 (transpose S2816x1024 [1, 0] (m ((c.tc : Thread nD τ).loc main_arg5) : Vec Ideal S1024x2816 .f32)
    transposes_S1024x2816_S2816x1024_1_0) bitsLt_bf16_f32 : Vec Ideal S2816x1024 .bf16) := by
  unfold_abbrev_sides
  after_results_simp

theorem u_eq : V m c main_v10 = (truncf (F := Ideal) .bf16 (transpose S2816x1024 [1, 0] (m ((c.tc : Thread nD τ).loc main_arg6) : Vec Ideal S1024x2816 .f32)
    transposes_S1024x2816_S2816x1024_1_0) bitsLt_bf16_f32 : Vec Ideal S2816x1024 .bf16) := by
  unfold_abbrev_sides
  after_results_simp

theorem x_rows (x : Vec Ideal S1x4096x1024 .f32) (r : Fin 4096) (k : Fin 1024) :
    shapeCast S4096x1024 x shapeCasts_S1x4096x1024_S4096x1024 (ix2 r k) = x (ix3 0 r k) := by
  pointwise

theorem g_row (g : Vec Ideal S1024 .f32) (k : Fin 1024) : shapeCast S1x1024 g shapeCasts_S1024_S1x1024 (ix2 0 k) = g (ix1 k) := by
  pointwise

theorem p_rows (x : Vec Ideal S1x4096x2816 .f32) (r : Fin 4096) (j : Fin 2816) :
    truncf (F := Ideal) .bf16 (shapeCast S4096x2816 x shapeCasts_S1x4096x2816_S4096x2816) bitsLt_bf16_f32 (ix2 r j) = x (ix3 0 r j) := by
  pointwise

theorem w_rows (w : Vec Ideal S1024x2816 .f32) (f : Fin 2816) (j : Fin 1024) :
    truncf (F := Ideal) .bf16 (transpose S2816x1024 [1, 0] w transposes_S1024x2816_S2816x1024_1_0) bitsLt_bf16_f32 (ix2 f j) = w (ix2 j f) := by
  pointwise

theorem h_rows (p q : Vec Ideal S1x4096x2816 .f32) (w u : Vec Ideal S1024x2816 .f32) (r : Fin 4096) :
    hOf (truncf (F := Ideal) .bf16 (shapeCast S4096x2816 p shapeCasts_S1x4096x2816_S4096x2816) bitsLt_bf16_f32)
      (truncf (F := Ideal) .bf16 (shapeCast S4096x2816 q shapeCasts_S1x4096x2816_S4096x2816) bitsLt_bf16_f32)
      (truncf (F := Ideal) .bf16 (transpose S2816x1024 [1, 0] w transposes_S1024x2816_S2816x1024_1_0) bitsLt_bf16_f32)
      (truncf (F := Ideal) .bf16 (transpose S2816x1024 [1, 0] u transposes_S1024x2816_S2816x1024_1_0) bitsLt_bf16_f32) r
      = hRow (fun f => p (ix3 0 r f)) (fun f => q (ix3 0 r f)) (fun j f => w (ix2 j f)) (fun j f => u (ix2 j f)) := by
  unfold hOf
  exact congr (congr (congrArg₂ hRow (funext fun f => p_rows p r f) (funext fun f => p_rows q r f))
    (funext fun j => funext fun f => w_rows w f j)) (funext fun j => funext fun f => w_rows u f j)

end kernel

/-! ## The reference -/

section reference

open Cert.Reference4Ideal Cert.Reference4Ideal.Read

variable (d x : Vec Ideal S1x4096x1024 .f32) (p q : Vec Ideal S1x4096x2816 .f32) (g : Vec Ideal S1024 .f32) (w u : Vec Ideal S1024x2816 .f32)

theorem ref_h (r : Fin 4096) (j : Fin 1024) : val_main_v20 (F := Ideal) p q w u (ix3 0 r j)
    = hRow (fun f => p (ix3 0 r f)) (fun f => q (ix3 0 r f)) (fun j f => w (ix2 j f)) (fun j f => u (ix2 j f)) j := by
  unfold hRow
  refine Eq.trans ?_ (add_comm _ _)
  pointwise [val_main_v20, val_main_v19, val_main_v18]

theorem ref_mean (r : Fin 4096) : val_main_v6 (F := Ideal) x (ix3 0 r 0) = (∑ k, x (ix3 0 r k) * x (ix3 0 r k)) * inv1024 + eps := by
  pointwise [val_main_v6, val_main_v5, val_main_v4, val_main_v3, val_main_v2, val_main_v1, val_main_v0, val_main_cst, val_main_cst_0, val_main_cst_1]
  rw [div1024]

theorem ref_scale (r : Fin 4096) : val_main_v7 (F := Ideal) x (ix3 0 r 0) = scale inv1024 (fun k => x (ix3 0 r k)) := by
  unfold scale
  rw [← ref_mean]
  pointwise [val_main_v7]

theorem ref_norm (r : Fin 4096) (j : Fin 1024) :
    val_main_v58 (F := Ideal) x g (ix2 r j) = normRow (fun k => x (ix3 0 r k)) (fun k => g (ix1 k)) j := by
  unfold normRow scale
  pointwise [val_main_v58, val_main_v57, val_main_v56, val_main_v55, val_main_v54, val_main_v53, val_main_v52, val_main_v51, val_main_v50,
    val_main_v49, val_main_v48, val_main_v47, val_main_v46, val_main_v45, val_main_v44, val_main_cst_8, val_main_cst_9, val_main_cst_10]
  rw [div1024]

/-- A host sum in which a single entry goes to the index asked for. -/
theorem sum_single {s t : Shape} {axes : List (Fin s.rank)} (h : s.ReducesTo axes t) (y : s.Idx → EReal) (j : t.Idx) (k : s.Idx)
    (hk : ∀ i, h.drop i = j ↔ i = k) : Ideal.hostReduceAdd h y 0 j = y k := by
  have e : Finset.univ.filter (fun i => h.drop i = j) = {k} := by
    ext i
    simp [hk]
  unfold Ideal.hostReduceAdd
  rw [e, Finset.sum_singleton, zero_add]

/-- Summing a column over its axes of size 1. -/
theorem sum_column (y : Vec Ideal S1x4096x1 .f32) (r : Fin 4096) :
    Host.reduceAdd (F := Ideal) (φ := .f32) y (val_main_cst_7 (F := Ideal)) Gen.reducesTo_S1x4096x1_S4096_d0_2 Gen.h_S_ (ix1 r) = y (ix3 0 r 0) := by
  have z : val_main_cst_7 (F := Ideal) (Shape.Idx.first Gen.h_S_) = (0 : EReal) := by
    show Ideal.ofBits .f32 0x00000000#32 = _
    exact Ideal.ofBits_zero_f32
  show Ideal.hostReduceAdd Gen.reducesTo_S1x4096x1_S4096_d0_2 y (val_main_cst_7 (F := Ideal) (Shape.Idx.first Gen.h_S_)) (ix1 r) = _
  rw [z]
  refine sum_single _ y _ _ fun i => ?_
  have e1 : ((Gen.reducesTo_S1x4096x1_S4096_d0_2).drop i 0 : Nat) = i 1 :=
    Shape.ReducesTo.drop_apply_val_of_eq _ i 0 1
  constructor
  · intro h
    rw [h] at e1
    funext a
    match a with
    | ⟨0, _⟩ => exact Subsingleton.elim (α := Fin 1) _ _
    | ⟨1, _⟩ => exact Fin.ext e1.symm
    | ⟨2, _⟩ => exact Subsingleton.elim (α := Fin 1) _ _
  · rintro rfl
    funext a
    match a with
    | ⟨0, _⟩ => exact Fin.ext e1

/-- The same for a row. -/
theorem sum_row (y : Vec Ideal S1x1x1024 .f32) (j : Fin 1024) :
    Host.reduceAdd (F := Ideal) (φ := .f32) y (val_main_cst_4 (F := Ideal)) Gen.reducesTo_S1x1x1024_S1024_d0_1 Gen.h_S_ (ix1 j) = y (ix3 0 0 j) := by
  have z : val_main_cst_4 (F := Ideal) (Shape.Idx.first Gen.h_S_) = (0 : EReal) := by
    show Ideal.ofBits .f32 0x00000000#32 = _
    exact Ideal.ofBits_zero_f32
  show Ideal.hostReduceAdd Gen.reducesTo_S1x1x1024_S1024_d0_1 y (val_main_cst_4 (F := Ideal) (Shape.Idx.first Gen.h_S_)) (ix1 j) = _
  rw [z]
  refine sum_single _ y _ _ fun i => ?_
  have e1 : ((Gen.reducesTo_S1x1x1024_S1024_d0_1).drop i 0 : Nat) = i 2 :=
    Shape.ReducesTo.drop_apply_val_of_eq _ i 0 2
  constructor
  · intro h
    rw [h] at e1
    funext a
    match a with
    | ⟨0, _⟩ => exact Subsingleton.elim (α := Fin 1) _ _
    | ⟨1, _⟩ => exact Subsingleton.elim (α := Fin 1) _ _
    | ⟨2, _⟩ => exact Fin.ext e1.symm
  · rintro rfl
    funext a
    match a with
    | ⟨0, _⟩ => exact Fin.ext e1

theorem ref_g (j : Fin 1024) : val_main_v59 (F := Ideal) x p q w u (ix2 0 j) = ∑ r : Fin 4096, part (fun k => x (ix3 0 r k))
    (hRow (fun f => p (ix3 0 r f)) (fun f => q (ix3 0 r f)) (fun j f => w (ix2 j f)) (fun j f => u (ix2 j f))) j := by
  unfold part
  simp only [← ref_h, ← ref_scale]
  refine Eq.trans ?_ (Finset.sum_congr rfl fun r _ =>
    show x (ix3 0 r j) * val_main_v7 (F := Ideal) x (ix3 0 r 0) * val_main_v20 (F := Ideal) p q w u (ix3 0 r j) = _ from by
      rw [mul_comm, mul_assoc])
  have e : val_main_v59 (F := Ideal) x p q w u (ix2 0 j) = val_main_v26 (F := Ideal) x p q w u (ix1 j) := by
    pointwise [val_main_v59]
  rw [e]
  refine (sum_row (val_main_v23 (F := Ideal) x p q w u) j).trans ?_
  pointwise [val_main_v23, val_main_v22, val_main_v21, val_main_v12, val_main_v11, val_main_cst_3, Fin.sum_univ_one]

theorem ref_chain (r : Fin 4096) : val_main_v35 (F := Ideal) x p q g w u (ix3 0 r 0) = chain (fun k => x (ix3 0 r k)) (fun k => g (ix1 k))
        (hRow (fun f => p (ix3 0 r f)) (fun f => q (ix3 0 r f)) (fun j f => w (ix2 j f)) (fun j f => u (ix2 j f))) := by
  unfold chain
  simp only [← ref_h, ← ref_scale]
  rw [← div1024]
  pointwise [val_main_v35, val_main_v34, val_main_v33, val_main_v29, val_main_v28, val_main_v27, val_main_v25, val_main_v24,
    val_main_v13, val_main_v10, val_main_v9, val_main_v8, val_main_cst_2, val_main_cst_5, val_main_cst_6]
  rw [ref_mean]

theorem ref_spread (r : Fin 4096) (j : Fin 1024) : val_main_v38 (F := Ideal) x p q g w u (ix3 0 r j)
    = chain (fun k => x (ix3 0 r k)) (fun k => g (ix1 k))
        (hRow (fun f => p (ix3 0 r f)) (fun f => q (ix3 0 r f)) (fun j f => w (ix2 j f)) (fun j f => u (ix2 j f))) := by
  rw [← ref_chain]
  refine Eq.trans ?_ (sum_column (val_main_v35 (F := Ideal) x p q g w u) r)
  have e : val_main_v38 (F := Ideal) x p q g w u (ix3 0 r j) = val_main_v36 (F := Ideal) x p q g w u (ix1 r) := by
    pointwise [val_main_v38, val_main_v37]
  exact e

theorem ref_d (r : Fin 4096) (j : Fin 1024) : val_main_v43 (F := Ideal) d x p q g w u (ix2 r j)
    = d (ix3 0 r j) + hRow (fun f => p (ix3 0 r f)) (fun f => q (ix3 0 r f)) (fun j f => w (ix2 j f)) (fun j f => u (ix2 j f)) j * g (ix1 j)
        * scale inv1024 (fun k => x (ix3 0 r k))
      + x (ix3 0 r j) * chain (fun k => x (ix3 0 r k)) (fun k => g (ix1 k))
        (hRow (fun f => p (ix3 0 r f)) (fun f => q (ix3 0 r f)) (fun j f => w (ix2 j f)) (fun j f => u (ix2 j f)))
      + chain (fun k => x (ix3 0 r k)) (fun k => g (ix1 k))
        (hRow (fun f => p (ix3 0 r f)) (fun f => q (ix3 0 r f)) (fun j f => w (ix2 j f)) (fun j f => u (ix2 j f))) * x (ix3 0 r j) := by
  rw [← ref_spread x p q g w u r j, ← ref_h, ← ref_scale]
  pointwise [val_main_v43, val_main_v42, val_main_v41, val_main_v40, val_main_v39, val_main_v32, val_main_v31, val_main_v30, val_main_v25, val_main_v24,
    val_main_v13]

theorem ref_g_rows (i : Fin 1) (j : Fin 1024) : val_main_v59 (F := Ideal) x p q w u (ix2 i j)
    = gOf (shapeCast Cert.Kernel4Ideal.S4096x1024 x Cert.Kernel4Ideal.Gen.shapeCasts_S1x4096x1024_S4096x1024)
      (truncf (F := Ideal) .bf16 (shapeCast Cert.Kernel4Ideal.S4096x2816 p Cert.Kernel4Ideal.Gen.shapeCasts_S1x4096x2816_S4096x2816) Cert.Kernel4Ideal.Gen.bitsLt_bf16_f32)
      (truncf (F := Ideal) .bf16 (shapeCast Cert.Kernel4Ideal.S4096x2816 q Cert.Kernel4Ideal.Gen.shapeCasts_S1x4096x2816_S4096x2816) Cert.Kernel4Ideal.Gen.bitsLt_bf16_f32)
      (truncf (F := Ideal) .bf16 (transpose Cert.Kernel4Ideal.S2816x1024 [1, 0] w Cert.Kernel4Ideal.Gen.transposes_S1024x2816_S2816x1024_1_0) Cert.Kernel4Ideal.Gen.bitsLt_bf16_f32)
      (truncf (F := Ideal) .bf16 (transpose Cert.Kernel4Ideal.S2816x1024 [1, 0] u Cert.Kernel4Ideal.Gen.transposes_S1024x2816_S2816x1024_1_0) Cert.Kernel4Ideal.Gen.bitsLt_bf16_f32) j := by
  obtain rfl : i = 0 := Subsingleton.elim _ _
  refine (ref_g x p q w u j).trans (Finset.sum_congr rfl fun r _ => ?_)
  exact congrFun (congrArg₂ part (funext fun k => (x_rows x r k).symm) (h_rows p q w u r).symm) j

end reference

/-! ## The claims -/

set_option maxHeartbeats 1600000 in
theorem algebraic : @Cert.algebraic_Kernel4Ideal_Reference4Ideal Cert.Kernel4Ideal.Gen.facts Cert.Reference4Ideal.Gen.facts := by
  intro m g m' g' _ hagree
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨r0, r1, r2, rest⟩ := h c
  obtain ⟨a0, a1, a2, a3, a4, a5, a6⟩ := hagree c
  refine ⟨r0.trans ?_, r1.trans ?_, r2.trans ?_, rest⟩
  · refine Eq.trans ?_ (final_d m c).symm
    rw [Cert.Reference4Ideal.Read.val_main_v43_eq, a0, a1, a2, a3, a4, a5, a6]
    unfold dIn xIn pIn qIn gIn wIn uIn
    rw [d_eq, x_eq, p_eq, q_eq, g_eq, w_eq, u_eq]
    funext i
    idx_vars i
    refine (ref_d _ _ _ _ _ _ _ _ _).trans ((gradRow_chain (m (c.tc.loc Cert.Kernel4Ideal.main_arg0) (ix3 0 i0 i1))
      (fun k => m (c.tc.loc Cert.Kernel4Ideal.main_arg1) (ix3 0 i0 k)) (fun k => m (c.tc.loc Cert.Kernel4Ideal.main_arg4) (ix1 k))
      (hRow (fun f => m (c.tc.loc Cert.Kernel4Ideal.main_arg2) (ix3 0 i0 f)) (fun f => m (c.tc.loc Cert.Kernel4Ideal.main_arg3) (ix3 0 i0 f))
        (fun j f => m (c.tc.loc Cert.Kernel4Ideal.main_arg5) (ix2 j f)) (fun j f => m (c.tc.loc Cert.Kernel4Ideal.main_arg6) (ix2 j f))) i1).trans ?_)
    exact congrFun (congr (congr (congrArg₂ gradRow (x_rows _ _ _).symm (funext fun k => (x_rows _ _ k).symm))
      (funext fun k => (g_row _ k).symm)) (h_rows _ _ _ _ _).symm) _
  · refine Eq.trans ?_ (final_h m c).symm
    rw [Cert.Reference4Ideal.Read.val_main_v58_eq, a1, a4]
    unfold xIn gIn
    rw [x_eq, g_eq]
    funext i
    idx_vars i
    exact (ref_norm _ _ _ _).trans (congrFun (congrArg₂ normRow (funext fun k => (x_rows _ _ k).symm) (funext fun k => (g_row _ k).symm)) _)
  · refine Eq.trans ?_ (final_g m c).symm
    rw [Cert.Reference4Ideal.Read.val_main_v59_eq, a1, a2, a3, a5, a6]
    unfold xIn pIn qIn wIn uIn
    rw [x_eq, p_eq, q_eq, w_eq, u_eq]
    funext i
    idx_vars i
    exact ref_g_rows _ _ _ _ _ _ _

theorem frame_reference : @Cert.quiescent_Reference4Ideal Cert.Reference4Ideal.Gen.facts := fun m g _ =>
  (θ_run Cert.Reference4Ideal.defs _ _).mono (fun r h => ⟨fun c => (h c).2.2.2, sem_eq_zero_of_no_sems (by decide) r.2⟩)
    (Cert.Reference4Ideal.Value.run (F := Ideal) m g)

end Cert.Proof.FfnIn

end
-- ==== Proof.Weights.lean ====
/-
  The gradients of the gate and up weights: each is a product of the normed input with the gradient of a first product, over
  the rows. The call goes over two blocks of the input's columns and, inside, four blocks of 1,024 rows, and adds one block's
  product at a time to two buffers, which it writes out transposed behind the last.
-/
module

public import proofs.«01_k».proof.Defs
public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.Weights

open Idealize.ShloMosaic
open scoped BigOperators

section kernel

open Cert.Kernel5Ideal Cert.Kernel5Ideal.Gen

/-! ## The values in the body -/

theorem start1_apply (i : Fin 512) (j : Fin 2816) : k0_pay1 (F := Ideal) (ix2 i j) = (0 : EReal) := by
  pointwise [k0_pay1]

theorem start2_apply (i : Fin 512) (j : Fin 2816) : k0_pay2 (F := Ideal) (ix2 i j) = (0 : EReal) := by
  pointwise [k0_pay2]

theorem add1_apply (a : Vec Ideal S1024x512 .bf16) (x : Vec Ideal S512x2816 .f32) (b : Vec Ideal S1024x2816 .bf16) (i : Fin 512) (j : Fin 2816) :
    k0_pay4 a x b (ix2 i j) = x (ix2 i j) + ∑ r : Fin 1024, a (ix2 r i) * b (ix2 r j) := by
  pointwise [k0_pay4, k0_pay3]

theorem add2_apply (a : Vec Ideal S1024x512 .bf16) (x : Vec Ideal S512x2816 .f32) (b : Vec Ideal S1024x2816 .bf16) (i : Fin 512) (j : Fin 2816) :
    k0_pay5 a x b (ix2 i j) = x (ix2 i j) + ∑ r : Fin 1024, a (ix2 r i) * b (ix2 r j) := by
  pointwise [k0_pay5, k0_pay3]

theorem out1_apply (x : Vec Ideal S512x2816 .f32) (j : Fin 2816) (i : Fin 512) : k0_pay6 x (ix2 j i) = x (ix2 i j) := by
  pointwise [k0_pay6]

theorem out2_apply (x : Vec Ideal S512x2816 .f32) (j : Fin 2816) (i : Fin 512) : k0_pay7 x (ix2 j i) = x (ix2 i j) := by
  pointwise [k0_pay7]

variable (m : (ℓ : Loc nD τ sig) → Buf (Elt Ideal) ℓ) (c : Dev nD)

/-! ## What a point leaves -/

theorem first1 (t : Fin cfg0.N) (h0 : t.val % 4 = 0) (h1 : ¬ t.val % 4 = 3) :
    (outsAt0 m c t.val t.isLt).2.2.1 = k0_pay4 (iblk m c 0 t) (k0_pay1 (F := Ideal)) (iblk m c 1 t) := by
  rw [outsAt0_A m c t h0 h1]
  dsimp only
  frame_out

theorem first2 (t : Fin cfg0.N) (h0 : t.val % 4 = 0) (h1 : ¬ t.val % 4 = 3) :
    (outsAt0 m c t.val t.isLt).2.2.2 = k0_pay5 (iblk m c 0 t) (k0_pay2 (F := Ideal)) (iblk m c 2 t) := by
  rw [outsAt0_A m c t h0 h1]
  dsimp only
  frame_out

theorem next1 (t : Fin cfg0.N) (h0 : ¬ t.val % 4 = 0) :
    (outsAt0 m c t.val t.isLt).2.2.1 = k0_pay4 (iblk m c 0 t)
      (outsAt0 m c (t.val - 1) (Nat.lt_of_le_of_lt (Nat.sub_le _ _) t.isLt)).2.2.1 (iblk m c 1 t) := by
  by_cases h1 : t.val % 4 = 3
  · rw [outsAt0_C m c t h0 h1]
    dsimp only
    frame_out
    simp only [read_unread_whole, View.readCov_cons_toLoadRect]
  · rw [outsAt0_B m c t h0 h1]
    dsimp only
    frame_out
    simp only [read_unread_whole, View.readCov_cons_toLoadRect]

theorem next2 (t : Fin cfg0.N) (h0 : ¬ t.val % 4 = 0) :
    (outsAt0 m c t.val t.isLt).2.2.2 = k0_pay5 (iblk m c 0 t)
      (outsAt0 m c (t.val - 1) (Nat.lt_of_le_of_lt (Nat.sub_le _ _) t.isLt)).2.2.2 (iblk m c 2 t) := by
  by_cases h1 : t.val % 4 = 3
  · rw [outsAt0_C m c t h0 h1]
    dsimp only
    frame_out
    simp only [read_unread_whole, View.readCov_cons_toLoadRect]
  · rw [outsAt0_B m c t h0 h1]
    dsimp only
    frame_out
    simp only [read_unread_whole, View.readCov_cons_toLoadRect]

theorem last1 (t : Fin cfg0.N) (h1 : t.val % 4 = 3) :
    (outsAt0 m c t.val t.isLt).1 = k0_pay6 (outsAt0 m c t.val t.isLt).2.2.1 := by
  have h0 : ¬ t.val % 4 = 0 := by omega
  rw [next1 m c t h0, outsAt0_C m c t h0 h1]
  dsimp only
  frame_out
  simp only [View.readCov_cons_toLoadRect, read_unread_whole]

theorem last2 (t : Fin cfg0.N) (h1 : t.val % 4 = 3) :
    (outsAt0 m c t.val t.isLt).2.1 = k0_pay7 (outsAt0 m c t.val t.isLt).2.2.2 := by
  have h0 : ¬ t.val % 4 = 0 := by omega
  rw [next2 m c t h0, outsAt0_C m c t h0 h1]
  dsimp only
  frame_out
  simp only [View.readCov_cons_toLoadRect, read_unread_whole]

/-! ## The blocks of the operands -/

/-- The three operands: the normed input and the two gradients. -/
abbrev input : Vec Ideal S4096x1024 .bf16 := V m c main_v1
abbrev grad1 : Vec Ideal S4096x2816 .bf16 := V m c main_v3
abbrev grad2 : Vec Ideal S4096x2816 .bf16 := V m c main_v5

/-- The grid point of column block `p` and row block `b`. -/
def pt (p : Fin 2) (b : Fin 4) : Fin cfg0.N := ⟨4 * p.val + b.val, lt_of_lt_of_eq (by omega : 4 * p.val + b.val < 8) N_0.symm⟩

/-- Row `r` of row block `b`, column `i` of column block `p`. -/
def row (b : Fin 4) (r : Fin 1024) : Fin 4096 := ⟨1024 * b.val + r.val, by omega⟩
def col (p : Fin 2) (i : Fin 512) : Fin 1024 := ⟨512 * p.val + i.val, by omega⟩

theorem index0 : ∀ t : Fin cfg0.N, win0_0.index t = ![t.val % 4, t.val / 4] :=
  (by decide +kernel : ∀ t : Fin grid0.N, win0_0.index t = ![t.val % 4, t.val / 4])
theorem index1 : ∀ t : Fin cfg0.N, win0_1.index t = ![t.val % 4, 0] :=
  (by decide +kernel : ∀ t : Fin grid0.N, win0_1.index t = ![t.val % 4, 0])
theorem index2 : ∀ t : Fin cfg0.N, win0_2.index t = ![t.val % 4, 0] :=
  (by decide +kernel : ∀ t : Fin grid0.N, win0_2.index t = ![t.val % 4, 0])
theorem index3 : ∀ t : Fin cfg0.N, win0_3.index t = ![0, t.val / 4] :=
  (by decide +kernel : ∀ t : Fin grid0.N, win0_3.index t = ![0, t.val / 4])
theorem index4 : ∀ t : Fin cfg0.N, win0_4.index t = ![0, t.val / 4] :=
  (by decide +kernel : ∀ t : Fin grid0.N, win0_4.index t = ![0, t.val / 4])

theorem input_block (p : Fin 2) (b : Fin 4) (r : Fin 1024) (i : Fin 512) :
    (iblk m c 0 (pt p b) : Vec Ideal S1024x512 .bf16) (ix2 r i) = input m c (ix2 (row b r) (col p i)) := by
  blk_simp [iblk]
  congr 1
  blk_ext [index0, pt, row, col]

theorem grad1_block (p : Fin 2) (b : Fin 4) (r : Fin 1024) (j : Fin 2816) :
    (iblk m c 1 (pt p b) : Vec Ideal S1024x2816 .bf16) (ix2 r j) = grad1 m c (ix2 (row b r) j) := by
  blk_simp [iblk]
  congr 1
  blk_ext [index1, pt, row]

theorem grad2_block (p : Fin 2) (b : Fin 4) (r : Fin 1024) (j : Fin 2816) :
    (iblk m c 2 (pt p b) : Vec Ideal S1024x2816 .bf16) (ix2 r j) = grad2 m c (ix2 (row b r) j) := by
  blk_simp [iblk]
  congr 1
  blk_ext [index2, pt, row]

/-! ## The accumulated products -/

/-- The product over all rows. -/
def prod (x : Vec Ideal S4096x1024 .bf16) (y : Vec Ideal S4096x2816 .bf16) (i : Fin 1024) (j : Fin 2816) : EReal :=
  ∑ r : Fin 4096, x (ix2 r i) * y (ix2 r j)

theorem prod_blocks (x : Vec Ideal S4096x1024 .bf16) (y : Vec Ideal S4096x2816 .bf16) (i : Fin 1024) (j : Fin 2816) :
    prod x y i j = ∑ b : Fin 4, ∑ r : Fin 1024, x (ix2 (row b r) i) * y (ix2 (row b r) j) := by
  unfold prod
  rw [Sums.sum_blocks 4 1024 (fun r : Fin 4096 => x (ix2 r i) * y (ix2 r j))]
  refine Finset.sum_congr rfl fun b _ => Finset.sum_congr rfl fun r _ => ?_
  have e : (finProdFinEquiv (b, r) : Fin (4 * 1024)) = row b r := Fin.ext (by show r.val + 1024 * b.val = 1024 * b.val + r.val; omega)
  rw [e]

theorem pt_mod (p : Fin 2) (b : Fin 4) : (pt p b).val % 4 = b.val := by show (4 * p.val + b.val) % 4 = b.val; omega

theorem outsAt0_congr {n n' : ℕ} (e : n = n') (hn : n < cfg0.N) (hn' : n' < cfg0.N) : outsAt0 m c n hn = outsAt0 m c n' hn' := by
  subst e; rfl

theorem acc1 (p : Fin 2) (i : Fin 512) (j : Fin 2816) :
    (outsAt0 m c (pt p 3).val (pt p 3).isLt).2.2.1 (ix2 i j) = prod (input m c) (grad1 m c) (col p i) j := by
  rw [prod_blocks]
  refine Sums.accumulate 4 (fun b hb => (outsAt0 m c (pt p ⟨b, hb⟩).val (pt p ⟨b, hb⟩).isLt).2.2.1 (ix2 i j))
    (fun b hb => ∑ r : Fin 1024, input m c (ix2 (row ⟨b, hb⟩ r) (col p i)) * grad1 m c (ix2 (row ⟨b, hb⟩ r) j)) (fun hb => ?_) (fun b hb => ?_) 3 (by decide)
  · rw [first1 m c (pt p ⟨0, hb⟩) (by rw [pt_mod]) (by rw [pt_mod]; simp), add1_apply, start1_apply, zero_add]
    simp only [input_block, grad1_block]
  · rw [next1 m c (pt p ⟨b + 1, hb⟩) (by rw [pt_mod]; simp), add1_apply]
    simp only [input_block, grad1_block]
    rw [outsAt0_congr m c (by show 4 * p.val + (b + 1) - 1 = 4 * p.val + b; omega) _ (pt p ⟨b, by omega⟩).isLt]

theorem acc2 (p : Fin 2) (i : Fin 512) (j : Fin 2816) :
    (outsAt0 m c (pt p 3).val (pt p 3).isLt).2.2.2 (ix2 i j) = prod (input m c) (grad2 m c) (col p i) j := by
  rw [prod_blocks]
  refine Sums.accumulate 4 (fun b hb => (outsAt0 m c (pt p ⟨b, hb⟩).val (pt p ⟨b, hb⟩).isLt).2.2.2 (ix2 i j))
    (fun b hb => ∑ r : Fin 1024, input m c (ix2 (row ⟨b, hb⟩ r) (col p i)) * grad2 m c (ix2 (row ⟨b, hb⟩ r) j)) (fun hb => ?_) (fun b hb => ?_) 3 (by decide)
  · rw [first2 m c (pt p ⟨0, hb⟩) (by rw [pt_mod]) (by rw [pt_mod]; simp), add2_apply, start2_apply, zero_add]
    simp only [input_block, grad2_block]
  · rw [next2 m c (pt p ⟨b + 1, hb⟩) (by rw [pt_mod]; simp), add2_apply]
    simp only [input_block, grad2_block]
    rw [outsAt0_congr m c (by show 4 * p.val + (b + 1) - 1 = 4 * p.val + b; omega) _ (pt p ⟨b, by omega⟩).isLt]

/-! ## The arrays after the run -/

theorem final1 : (dats m 0 c).arrAt 3 cfg0.N = (fun i => prod (input m c) (grad1 m c) (i 1) (i 0) : Vec Ideal S2816x1024 .bf16) := by
  refine (dats m 0 c).arrAt_eq_of_covers 3 _ (by decide +kernel) fun t hf y => ?_
  obtain ⟨p, rfl⟩ : ∃ p : Fin 2, t = pt p 3 := by
    have h3 : t.val % 4 = 3 := (by decide +kernel : ∀ t : Fin cfg0.N, (cfg0.win 3).flush t = true → t.val % 4 = 3) t hf
    exact ⟨⟨t.val / 4, by have := lt_of_lt_of_eq t.isLt N_0; omega⟩, Fin.ext (by show t.val = 4 * (t.val / 4) + 3; omega)⟩
  blk_simp
  rw [after0_3, last1 m c _ (pt_mod ..)]
  refine (congrArg _ (eq_ix2 y)).trans ((out1_apply _ (y 0) (y 1)).trans ((acc1 m c p (y 1) (y 0)).trans ?_))
  have e : (((cfg0.win 3).blk (pt p 3)).view.emb y) = (ix2 (y 0) (col p (y 1)) : S2816x1024.Idx) := by
    blk_ext [index3, pt, col]
  blk_simp at e
  rw [e]
  rfl

theorem final2 : (dats m 0 c).arrAt 4 cfg0.N = (fun i => prod (input m c) (grad2 m c) (i 1) (i 0) : Vec Ideal S2816x1024 .bf16) := by
  refine (dats m 0 c).arrAt_eq_of_covers 4 _ (by decide +kernel) fun t hf y => ?_
  obtain ⟨p, rfl⟩ : ∃ p : Fin 2, t = pt p 3 := by
    have h3 : t.val % 4 = 3 := (by decide +kernel : ∀ t : Fin cfg0.N, (cfg0.win 4).flush t = true → t.val % 4 = 3) t hf
    exact ⟨⟨t.val / 4, by have := lt_of_lt_of_eq t.isLt N_0; omega⟩, Fin.ext (by show t.val = 4 * (t.val / 4) + 3; omega)⟩
  blk_simp
  rw [after0_4, last2 m c _ (pt_mod ..)]
  refine (congrArg _ (eq_ix2 y)).trans ((out2_apply _ (y 0) (y 1)).trans ((acc2 m c p (y 1) (y 0)).trans ?_))
  have e : (((cfg0.win 4).blk (pt p 3)).view.emb y) = (ix2 (y 0) (col p (y 1)) : S2816x1024.Idx) := by
    blk_ext [index4, pt, col]
  blk_simp at e
  rw [e]
  rfl

/-! ## The operands as the host makes them -/

theorem input_eq : V m c main_v1 = (truncf (F := Ideal) .bf16 (shapeCast S4096x1024 (m ((c.tc : Thread nD τ).loc main_arg0) : Vec Ideal S1x4096x1024 .f32)
    shapeCasts_S1x4096x1024_S4096x1024) bitsLt_bf16_f32 : Vec Ideal S4096x1024 .bf16) := by
  unfold_abbrev_sides
  after_results_simp
  rfl

theorem grad1_eq : V m c main_v3 = (truncf (F := Ideal) .bf16 (shapeCast S4096x2816 (m ((c.tc : Thread nD τ).loc main_arg1) : Vec Ideal S1x4096x2816 .f32)
    shapeCasts_S1x4096x2816_S4096x2816) bitsLt_bf16_f32 : Vec Ideal S4096x2816 .bf16) := by
  unfold_abbrev_sides
  after_results_simp
  rfl

theorem grad2_eq : V m c main_v5 = (truncf (F := Ideal) .bf16 (shapeCast S4096x2816 (m ((c.tc : Thread nD τ).loc main_arg2) : Vec Ideal S1x4096x2816 .f32)
    shapeCasts_S1x4096x2816_S4096x2816) bitsLt_bf16_f32 : Vec Ideal S4096x2816 .bf16) := by
  unfold_abbrev_sides
  after_results_simp
  rfl

theorem input_rows (x : Vec Ideal S1x4096x1024 .f32) (r : Fin 4096) (i : Fin 1024) :
    truncf (F := Ideal) .bf16 (shapeCast S4096x1024 x shapeCasts_S1x4096x1024_S4096x1024) bitsLt_bf16_f32 (ix2 r i) = x (ix3 0 r i) := by
  pointwise

theorem grad_rows (x : Vec Ideal S1x4096x2816 .f32) (r : Fin 4096) (j : Fin 2816) :
    truncf (F := Ideal) .bf16 (shapeCast S4096x2816 x shapeCasts_S1x4096x2816_S4096x2816) bitsLt_bf16_f32 (ix2 r j) = x (ix3 0 r j) := by
  pointwise

theorem prod_rows (x : Vec Ideal S1x4096x1024 .f32) (y : Vec Ideal S1x4096x2816 .f32) (i : Fin 1024) (j : Fin 2816) :
    prod (truncf (F := Ideal) .bf16 (shapeCast S4096x1024 x shapeCasts_S1x4096x1024_S4096x1024) bitsLt_bf16_f32)
      (truncf (F := Ideal) .bf16 (shapeCast S4096x2816 y shapeCasts_S1x4096x2816_S4096x2816) bitsLt_bf16_f32) i j
      = ∑ r : Fin 4096, y (ix3 0 r j) * x (ix3 0 r i) := by
  unfold prod
  refine Finset.sum_congr rfl fun r _ => ?_
  rw [input_rows, grad_rows]
  exact mul_comm _ _

end kernel

/-! ## The reference -/

section reference

open Cert.Reference5Ideal Cert.Reference5Ideal.Read

theorem ref1_apply (x : Vec Ideal S1x4096x1024 .f32) (y : Vec Ideal S1x4096x2816 .f32) (j : Fin 2816) (i : Fin 1024) :
    val_main_v8 (F := Ideal) x y (ix2 j i) = ∑ r : Fin 4096, y (ix3 0 r j) * x (ix3 0 r i) := by
  pointwise [val_main_v8, val_main_v7, val_main_v6, val_main_v5, Fin.sum_univ_one]

theorem ref2_apply (x : Vec Ideal S1x4096x1024 .f32) (y : Vec Ideal S1x4096x2816 .f32) (j : Fin 2816) (i : Fin 1024) :
    val_main_v10 (F := Ideal) x y (ix2 j i) = ∑ r : Fin 4096, y (ix3 0 r j) * x (ix3 0 r i) := by
  pointwise [val_main_v10, val_main_v9, val_main_v4, val_main_v3, Fin.sum_univ_one]

end reference

/-! ## The claims -/

theorem algebraic : @Cert.algebraic_Kernel5Ideal_Reference5Ideal Cert.Kernel5Ideal.Gen.facts Cert.Reference5Ideal.Gen.facts := by
  intro m g m' g' _ hagree
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨r0, r1, rest⟩ := h c
  obtain ⟨a0, a1, a2⟩ := hagree c
  refine ⟨r0.trans ?_, r1.trans ?_, rest⟩
  · refine Eq.trans ?_ (final1 m c).symm
    rw [Cert.Reference5Ideal.Read.val_main_v8_eq, a0, a1]
    unfold input grad1
    rw [input_eq, grad1_eq]
    funext i
    idx_vars i
    exact (ref1_apply _ _ _ _).trans (prod_rows _ _ _ _).symm
  · refine Eq.trans ?_ (final2 m c).symm
    rw [Cert.Reference5Ideal.Read.val_main_v10_eq, a0, a2]
    unfold input grad2
    rw [input_eq, grad2_eq]
    funext i
    idx_vars i
    exact (ref2_apply _ _ _ _).trans (prod_rows _ _ _ _).symm

theorem frame_reference : @Cert.quiescent_Reference5Ideal Cert.Reference5Ideal.Gen.facts := fun m g _ =>
  (θ_run Cert.Reference5Ideal.defs _ _).mono (fun r h => ⟨fun c => (h c).2.2, sem_eq_zero_of_no_sems (by decide) r.2⟩)
    (Cert.Reference5Ideal.Value.run (F := Ideal) m g)

end Cert.Proof.Weights

end
-- ==== Proof.Attn.lean ====
/-
  The attention's forward call. A grid point has 2,048 query rows of one head, treated in eight groups of 256, and leaves
  the weighted means of the value rows in two types. The queries and keys are real numbers here, the values are anything:
  the kernel multiplies the sum over the value rows by one over the row's sum of weights, which is positive and finite, so
  it may be moved into the sum, where the reference has it.
-/
module

public import proofs.«01_k».proof.Defs
public import proofs.«01_k».proof.Proof.Host
public import proofs.«01_k».proof.Proof.Finite
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx

@[expose] public section

set_option maxRecDepth 16384

noncomputable section

namespace Cert.Proof.Attn

open Idealize.ShloMosaic
open Cert.Proof.Math hiding c
open Cert.Proof.Ops (rowScores)
open Cert.Proof.Accum (lane)
open scoped BigOperators

/-! ## Numbers -/

/-- A finite factor that is not negative may be moved into a sum of any terms. -/
theorem sum_factor {ι : Type} (s : Finset ι) (p : ι → ℝ) (x : ι → EReal) (a : ℝ) (ha : 0 ≤ a) :
    (∑ j ∈ s, (p j : EReal) * x j) * (a : EReal) = ∑ j ∈ s, x j * ((p j * a : ℝ) : EReal) := by
  classical
  induction s using Finset.induction_on with
  | empty => simp
  | insert i s hi ih =>
    rw [Finset.sum_insert hi, Finset.sum_insert hi, mul_comm,
      EReal.left_distrib_of_nonneg_of_ne_top (EReal.coe_nonneg.2 ha) (EReal.coe_ne_top a), mul_comm (a : EReal) (∑ j ∈ s, _), ih]
    refine congrArg (· + _) ?_
    rw [EReal.coe_mul, mul_comm (a : EReal), mul_comm (p i : EReal), mul_assoc]

/-- A weighted mean of `x`, the weights those of the scores `s`. -/
def mean (s : Fin 4096 → ℝ) (x : Fin 4096 → EReal) : EReal := ∑ j, x j * ((wt s j * (den s)⁻¹ : ℝ) : EReal)

section kernel

open Cert.Kernel6Ideal Cert.Kernel6Ideal.Gen

/-- The base-2 exponential of a scaled difference of real numbers. -/
theorem exp2_scaled {a b s : EReal} {x y z : ℝ} (ha : a = (x : EReal)) (hb : b = (y : EReal)) (hs : s = (z : EReal)) :
    Ideal.exp2 ((a - b) * s) = ((Real.rpow 2 ((x - y) * z) : ℝ) : EReal) := by
  rw [ha, hb, hs, ← EReal.coe_sub, ← EReal.coe_mul, Ideal.exp2_coe]

/-! ## One group of 256 query rows -/

section group

variable (Q : Vec Ideal S1x256x256 .bf16) (K : Vec Ideal S1x4096x256 .bf16) (V : Vec Ideal S1x4096x128 .bf16)
  (q : Fin 256 → Fin 256 → ℝ) (k : Fin 4096 → Fin 256 → ℝ)

theorem scale2_value : (Named.named (F := Ideal) κ "scale2" (φ := .f32) 0x3DD53B95#32 : EReal)
    = (((Real.sqrt 192)⁻¹ * (Real.log 2)⁻¹ : ℝ) : EReal) :=
  IdealRules.named_const.ideal_named_scalar _ _ _ _ rfl

theorem values_apply (r : Fin 256) (d : Fin 128) : k0_pay24 Q K V (ix2 r d) = ∑ j, k0_pay23 Q K (ix2 r j) * V (ix3 0 j d) := by
  pointwise [k0_pay24]

variable (hQ : ∀ r d, Q (ix3 0 r d) = (q r d : EReal)) (hK : ∀ j d, K (ix3 0 j d) = (k j d : EReal))
include hQ hK

theorem scores_apply (r : Fin 256) (j : Fin 4096) : k0_pay5 Q K (ix2 r j) = (rowScores q k r j : EReal) := by
  have e : k0_pay5 Q K (ix2 r j) = ∑ d, Q (ix3 0 r d) * K (ix3 0 j d) := by
    pointwise [k0_pay5]
  rw [e]
  exact sum_mul_eq_coe (hQ r) (hK j)

theorem weights_apply (r : Fin 256) (j : Fin 4096) : k0_pay23 Q K (ix2 r j) = (wt (rowScores q k r) j : EReal) := by
  have hM := (Ops.spread4096_apply _ r j).trans (Ops.rowMax_apply (k0_pay5 Q K) (rowScores q k) (scores_apply Q K q k hQ hK) r 0)
  have e := exp2_scaled (scores_apply Q K q k hQ hK r j) hM scale2_value
  exact e.trans (congrArg _ (exp2_eq_wt (rowScores q k r) j))

theorem inv_apply (r : Fin 256) (d : Fin 128) : k0_pay25 Q K (ix2 r d) = (((den (rowScores q k r))⁻¹ : ℝ) : EReal) := by
  have hS := Ops.rowSum_apply (k0_pay23 Q K) (fun r => wt (rowScores q k r)) (weights_apply Q K q k hQ hK) r 0
  have hD : ∀ s : FVec Ideal S256x1 .f32, s (ix2 r 0) = (den (rowScores q k r) : EReal) →
      broadcastTo S256x128 (divf (broadcast S256x1 (Scalar.ofBits (F := Ideal) .f32 0x3F800000#32)) s) broadcasts_S256x1_S256x128 (ix2 r d)
        = (((den (rowScores q k r))⁻¹ : ℝ) : EReal) := fun s hs => by
    refine (Ops.spread128_apply _ r d).trans ((congrArg₂ Ideal.div Ops.one_f32 hs).trans ?_)
    refine (div_coe 1 _ (den_ne_zero _)).trans ?_
    rw [one_mul]
  exact hD _ hS

theorem group_apply (r : Fin 256) (d : Fin 128) : k0_pay3 Q K V (ix2 r d) = mean (rowScores q k r) (fun j => V (ix3 0 j d)) := by
  show k0_pay24 Q K V (ix2 r d) * k0_pay25 Q K (ix2 r d) = _
  rw [values_apply, inv_apply Q K q k hQ hK, Finset.sum_congr rfl fun j _ => congrArg (· * V (ix3 0 j d)) (weights_apply Q K q k hQ hK r j)]
  exact sum_factor _ _ _ _ (inv_nonneg.2 (den_pos _).le)

end group

/-! ## The eight groups compute the same function -/

section same

variable (Q : Vec Ideal S1x256x256 .bf16) (K : Vec Ideal S1x4096x256 .bf16) (V : Vec Ideal S1x4096x128 .bf16)

theorem pay6_eq : k0_pay6 (k0_pay5 Q K) V = k0_pay3 Q K V := rfl
theorem pay11_eq : k0_pay11 (k0_pay9 Q K) (k0_pay10 Q K) V = k0_pay3 Q K V := rfl
theorem pay13_eq : k0_pay13 Q K V = k0_pay3 Q K V := rfl
theorem pay15_eq : k0_pay15 Q K V = k0_pay3 Q K V := rfl
theorem pay18_eq : k0_pay18 (k0_pay17 Q) K V = k0_pay3 Q K V := rfl
theorem pay21_eq : k0_pay21 (k0_pay20 Q K) V = k0_pay3 Q K V := rfl
theorem pay1_eq : k0_pay1 (k0_pay24 Q K V) (k0_pay25 Q K) = k0_pay3 Q K V := rfl
theorem pay7_eq : k0_pay7 (k0_pay5 Q K) V = k0_pay4 Q K V := rfl
theorem pay12_eq : k0_pay12 (k0_pay9 Q K) (k0_pay10 Q K) V = k0_pay4 Q K V := rfl
theorem pay14_eq : k0_pay14 Q K V = k0_pay4 Q K V := rfl
theorem pay16_eq : k0_pay16 Q K V = k0_pay4 Q K V := rfl
theorem pay19_eq : k0_pay19 (k0_pay17 Q) K V = k0_pay4 Q K V := rfl
theorem pay22_eq : k0_pay22 (k0_pay20 Q K) V = k0_pay4 Q K V := rfl
theorem pay2_eq : k0_pay2 (k0_pay24 Q K V) (k0_pay25 Q K) = k0_pay4 Q K V := rfl

end same

/-! ## A grid point -/

/-- The row at place `r` of the group that starts at row `o`. -/
def grp (o : ℕ) (ho : o + 256 ≤ 2048) (r : Fin 256) : Fin 2048 := ⟨o + r.val, by omega⟩

/-- A row of a result's block is a row of the group it belongs to. -/
theorem filled {e : EltTy} (w0 w1 w2 w3 w4 w5 w6 w7 : Vec Ideal S256x128 e) (G : Fin 2048 → Fin 128 → Elt Ideal e)
    (g0 : ∀ r j, w0 (ix2 r j) = G (grp 0 (by decide) r) j) (g1 : ∀ r j, w1 (ix2 r j) = G (grp 256 (by decide) r) j)
    (g2 : ∀ r j, w2 (ix2 r j) = G (grp 512 (by decide) r) j) (g3 : ∀ r j, w3 (ix2 r j) = G (grp 768 (by decide) r) j)
    (g4 : ∀ r j, w4 (ix2 r j) = G (grp 1024 (by decide) r) j) (g5 : ∀ r j, w5 (ix2 r j) = G (grp 1280 (by decide) r) j)
    (g6 : ∀ r j, w6 (ix2 r j) = G (grp 1536 (by decide) r) j) (g7 : ∀ r j, w7 (ix2 r j) = G (grp 1792 (by decide) r) j)
    (r : Fin 2048) (j : Fin 128) :
    View.canon (Val := Elt Ideal) (s := S2048x128) (e := e)
      [⟨Rect.unit ![1792, 0] ![256, 128] inb_S2048x128_S256x128_1792_0, w7⟩,
       ⟨Rect.unit ![1536, 0] ![256, 128] inb_S2048x128_S256x128_1536_0, w6⟩,
       ⟨Rect.unit ![1280, 0] ![256, 128] inb_S2048x128_S256x128_1280_0, w5⟩,
       ⟨Rect.unit ![1024, 0] ![256, 128] inb_S2048x128_S256x128_1024_0, w4⟩,
       ⟨Rect.unit ![768, 0] ![256, 128] inb_S2048x128_S256x128_768_0, w3⟩,
       ⟨Rect.unit ![512, 0] ![256, 128] inb_S2048x128_S256x128_512_0, w2⟩,
       ⟨Rect.unit ![256, 0] ![256, 128] inb_S2048x128_S256x128_256_0, w1⟩,
       ⟨Rect.unit ![0, 0] ![256, 128] inb_S2048x128_S256x128_0_0, w0⟩] (ix2 r j) = G r j := by
  canon_tiles x h
  · rw [eq_ix2 x]; exact (g7 _ _).trans (congrArg₂ G (Fin.ext h0.symm) (Fin.ext h1.symm))
  · rw [eq_ix2 x]; exact (g6 _ _).trans (congrArg₂ G (Fin.ext h0.symm) (Fin.ext h1.symm))
  · rw [eq_ix2 x]; exact (g5 _ _).trans (congrArg₂ G (Fin.ext h0.symm) (Fin.ext h1.symm))
  · rw [eq_ix2 x]; exact (g4 _ _).trans (congrArg₂ G (Fin.ext h0.symm) (Fin.ext h1.symm))
  · rw [eq_ix2 x]; exact (g3 _ _).trans (congrArg₂ G (Fin.ext h0.symm) (Fin.ext h1.symm))
  · rw [eq_ix2 x]; exact (g2 _ _).trans (congrArg₂ G (Fin.ext h0.symm) (Fin.ext h1.symm))
  · rw [eq_ix2 x]; exact (g1 _ _).trans (congrArg₂ G (Fin.ext h0.symm) (Fin.ext h1.symm))
  · rw [eq_ix2 x]; exact (g0 _ _).trans (congrArg₂ G (Fin.ext ((Nat.zero_add _).trans h0.symm)) (Fin.ext h1.symm))

section point

variable (x0 : Vec Ideal S1x2048x256 .bf16) (x1 : Vec Ideal S1x4096x256 .bf16) (x2 : Vec Ideal S1x4096x128 .bf16)
  (q : Fin 2048 → Fin 256 → ℝ) (k : Fin 4096 → Fin 256 → ℝ)
  (hq : ∀ r d, x0 (ix3 0 r d) = (q r d : EReal)) (hk : ∀ j d, x1 (ix3 0 j d) = (k j d : EReal))

include hq hk in
theorem group_rows (s : ℕ) (hs : s + 256 ≤ 2048) (inb) (r : Fin 256) (d : Fin 128) :
    k0_pay3 (View.ld x0 (Rect.unit ![0, s, 0] ![1, 256, 256] inb) : Vec Ideal S1x256x256 .bf16) x1 x2 (ix2 r d)
      = mean (rowScores q k (grp s hs r)) (fun j => x2 (ix3 0 j d)) := by
  refine group_apply _ x1 x2 (fun r => q (grp s hs r)) k (fun r d => ?_) hk r d
  rw [← hq]
  refine View.ld_unit_apply_of x0 _ _ inb (ix3 0 r d) (ix3 0 (grp s hs r) d) fun a => ?_
  match a with
  | ⟨0, _⟩ => rfl
  | ⟨1, _⟩ => rfl
  | ⟨2, _⟩ => exact (Nat.zero_add _).symm

include hq hk in
theorem group_rows' (s : ℕ) (hs : s + 256 ≤ 2048) (inb) (r : Fin 256) (d : Fin 128) :
    k0_pay4 (View.ld x0 (Rect.unit ![0, s, 0] ![1, 256, 256] inb) : Vec Ideal S1x256x256 .bf16) x1 x2 (ix2 r d)
      = mean (rowScores q k (grp s hs r)) (fun j => x2 (ix3 0 j d)) :=
  group_rows x0 x1 x2 q k hq hk s hs inb r d

include hq hk

/-- The point's rows of the result in f32. -/
theorem wide (c : Dev nD) (i : grid0.Coords) (arg2 : Memref sig .tc .vmem S1x2048x256 .bf16) (harg2 : arg2.IsWhole)
    (arg3 : Memref sig .tc .vmem S1x4096x256 .bf16) (harg3 : arg3.IsWhole) (arg4 : Memref sig .tc .vmem S1x4096x128 .bf16) (harg4 : arg4.IsWhole)
    (arg6 : Memref sig .tc .vmem S2048x128 .bf16) (harg6 : arg6.IsWhole) (arg7 : Memref sig .tc .vmem S2048x128 .f32) (harg7 : arg7.IsWhole)
    (r : Fin 2048) (d : Fin 128) :
    out0_A_4 c i arg2 harg2 arg3 harg3 arg4 harg4 arg6 harg6 arg7 harg7 x0 x1 x2 (ix2 r d) = mean (rowScores q k r) (fun j => x2 (ix3 0 j d)) := by
  frame_out
  simp only [pay6_eq, pay11_eq, pay13_eq, pay15_eq, pay18_eq, pay21_eq, pay1_eq]
  exact filled (e := .f32) _ _ _ _ _ _ _ _ (fun (r : Fin 2048) (d : Fin 128) => mean (rowScores q k r) (fun j => x2 (ix3 0 j d)))
    (group_rows x0 x1 x2 q k hq hk 0 _ _) (group_rows x0 x1 x2 q k hq hk 256 _ _) (group_rows x0 x1 x2 q k hq hk 512 _ _)
    (group_rows x0 x1 x2 q k hq hk 768 _ _) (group_rows x0 x1 x2 q k hq hk 1024 _ _) (group_rows x0 x1 x2 q k hq hk 1280 _ _)
    (group_rows x0 x1 x2 q k hq hk 1536 _ _) (group_rows x0 x1 x2 q k hq hk 1792 _ _) r d

/-- The point's rows of the result in bf16. -/
theorem narrow (c : Dev nD) (i : grid0.Coords) (arg2 : Memref sig .tc .vmem S1x2048x256 .bf16) (harg2 : arg2.IsWhole)
    (arg3 : Memref sig .tc .vmem S1x4096x256 .bf16) (harg3 : arg3.IsWhole) (arg4 : Memref sig .tc .vmem S1x4096x128 .bf16) (harg4 : arg4.IsWhole)
    (arg6 : Memref sig .tc .vmem S2048x128 .bf16) (harg6 : arg6.IsWhole) (arg7 : Memref sig .tc .vmem S2048x128 .f32) (harg7 : arg7.IsWhole)
    (r : Fin 2048) (d : Fin 128) :
    out0_A_3 c i arg2 harg2 arg3 harg3 arg4 harg4 arg6 harg6 arg7 harg7 x0 x1 x2 (ix2 r d) = mean (rowScores q k r) (fun j => x2 (ix3 0 j d)) := by
  frame_out
  simp only [pay7_eq, pay12_eq, pay14_eq, pay16_eq, pay19_eq, pay22_eq, pay2_eq]
  exact filled (e := .bf16) _ _ _ _ _ _ _ _ (fun (r : Fin 2048) (d : Fin 128) => mean (rowScores q k r) (fun j => x2 (ix3 0 j d)))
    (group_rows' x0 x1 x2 q k hq hk 0 _ _) (group_rows' x0 x1 x2 q k hq hk 256 _ _) (group_rows' x0 x1 x2 q k hq hk 512 _ _)
    (group_rows' x0 x1 x2 q k hq hk 768 _ _) (group_rows' x0 x1 x2 q k hq hk 1024 _ _) (group_rows' x0 x1 x2 q k hq hk 1280 _ _)
    (group_rows' x0 x1 x2 q k hq hk 1536 _ _) (group_rows' x0 x1 x2 q k hq hk 1792 _ _) r d

end point

/-! ## The blocks of the operands -/

variable (m : (ℓ : Loc nD τ sig) → Buf (Elt Ideal) ℓ) (c : Dev nD)

/-- The three operands: queries, keys and values by heads. -/
abbrev qIn : Vec Ideal S4x4096x256 .bf16 := V m c main_v3
abbrev kIn : Vec Ideal S4x4096x256 .bf16 := V m c main_v7
abbrev vIn : Vec Ideal S4x4096x128 .bf16 := V m c main_v11

/-- The grid point of head `h` and row block `b`. -/
def pt (h : Fin 4) (b : Fin 2) : Fin cfg0.N := ⟨2 * h.val + b.val, lt_of_lt_of_eq (by omega : 2 * h.val + b.val < 8) N_0.symm⟩

theorem pt_surj (t : Fin cfg0.N) : ∃ (h : Fin 4) (b : Fin 2), t = pt h b := by
  have h := lt_of_lt_of_eq t.isLt N_0
  exact ⟨⟨t.val / 2, by omega⟩, ⟨t.val % 2, by omega⟩, Fin.ext (by show t.val = 2 * (t.val / 2) + t.val % 2; omega)⟩

/-- Row `r` of row block `b`. -/
def row (b : Fin 2) (r : Fin 2048) : Fin 4096 := ⟨2048 * b.val + r.val, by omega⟩

theorem index0 : ∀ t : Fin cfg0.N, win0_0.index t = ![t.val / 2, t.val % 2, 0] :=
  (by decide +kernel : ∀ t : Fin grid0.N, win0_0.index t = ![t.val / 2, t.val % 2, 0])
theorem index1 : ∀ t : Fin cfg0.N, win0_1.index t = ![t.val / 2, 0, 0] :=
  (by decide +kernel : ∀ t : Fin grid0.N, win0_1.index t = ![t.val / 2, 0, 0])
theorem index2 : ∀ t : Fin cfg0.N, win0_2.index t = ![t.val / 2, 0, 0] :=
  (by decide +kernel : ∀ t : Fin grid0.N, win0_2.index t = ![t.val / 2, 0, 0])
theorem index3 : ∀ t : Fin cfg0.N, win0_3.index t = ![t.val % 2, t.val / 2] :=
  (by decide +kernel : ∀ t : Fin grid0.N, win0_3.index t = ![t.val % 2, t.val / 2])
theorem index4 : ∀ t : Fin cfg0.N, win0_4.index t = ![t.val % 2, t.val / 2] :=
  (by decide +kernel : ∀ t : Fin grid0.N, win0_4.index t = ![t.val % 2, t.val / 2])

theorem q_block (h : Fin 4) (b : Fin 2) (r : Fin 2048) (d : Fin 256) :
    (iblk m c 0 (pt h b) : Vec Ideal S1x2048x256 .bf16) (ix3 0 r d) = qIn m c (ix3 h (row b r) d) := by
  blk_simp [iblk]
  congr 1
  blk_ext [index0, pt, row]

theorem k_block (h : Fin 4) (b : Fin 2) (j : Fin 4096) (d : Fin 256) :
    (iblk m c 1 (pt h b) : Vec Ideal S1x4096x256 .bf16) (ix3 0 j d) = kIn m c (ix3 h j d) := by
  blk_simp [iblk]
  congr 1
  blk_ext [index1, pt]

theorem v_block (h : Fin 4) (b : Fin 2) (j : Fin 4096) (d : Fin 128) :
    (iblk m c 2 (pt h b) : Vec Ideal S1x4096x128 .bf16) (ix3 0 j d) = vIn m c (ix3 h j d) := by
  blk_simp [iblk]
  congr 1
  blk_ext [index2, pt]

/-! ## The operands as the host makes them -/

theorem q_eq : V m c main_v3 = Host.byHeads (m ((c.tc : Thread nD τ).loc main_arg0)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem k_eq : V m c main_v7 = Host.byHeads (m ((c.tc : Thread nD τ).loc main_arg1)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem v_eq : V m c main_v11 = Host.valuesByHeads (m ((c.tc : Thread nD τ).loc main_arg2)) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

/-! ## The arrays after the run -/

/-- Every entry of the queries and the keys is a real number. -/
structure Holds (q k : Fin 4 → Fin 4096 → Fin 192 → ℝ) : Prop where
  query : ∀ h i d, (m ((c.tc : Thread nD τ).loc main_arg0) : Vec Ideal S1x4096x4x192 .f32) (ix4 0 i h d) = (q h i d : EReal)
  key : ∀ h i d, (m ((c.tc : Thread nD τ).loc main_arg1) : Vec Ideal S1x4096x4x192 .f32) (ix4 0 i h d) = (k h i d : EReal)

/-- The attention's output, at a row and a lane of the heads side by side. -/
def result (q k : Fin 4 → Fin 4096 → Fin 192 → ℝ) (v : Vec Ideal S1x4096x4x128 .f32) (i : Fin 4096) (l : Fin 512) : EReal :=
  mean (sc (q ⟨l.val / 128, by omega⟩) (k ⟨l.val / 128, by omega⟩) i) (fun j => v (ix4 0 j ⟨l.val / 128, by omega⟩ ⟨l.val % 128, by omega⟩))

theorem result_lane (q k : Fin 4 → Fin 4096 → Fin 192 → ℝ) (v : Vec Ideal S1x4096x4x128 .f32) (i : Fin 4096) (h : Fin 4) (d : Fin 128) :
    result q k v i (lane h d) = mean (sc (q h) (k h) i) (fun j => v (ix4 0 j h d)) := by
  have e1 : (⟨(lane h d).val / 128, by omega⟩ : Fin 4) = h := Fin.ext (by show (128 * h.val + d.val) / 128 = h.val; omega)
  have e2 : (⟨(lane h d).val % 128, by omega⟩ : Fin 128) = d := Fin.ext (by show (128 * h.val + d.val) % 128 = d.val; omega)
  unfold result
  rw [e1, e2]

variable {m c} {q k : Fin 4 → Fin 4096 → Fin 192 → ℝ} (R : Holds m c q k)

theorem by_heads (x : Vec Ideal S1x4096x4x192 .f32) (r : Fin 4 → Fin 4096 → Fin 192 → ℝ) (hx : ∀ h i d, x (ix4 0 i h d) = (r h i d : EReal))
    (h : Fin 4) (i : Fin 4096) (d : Fin 256) : Host.byHeads x (ix3 h i d) = (fill (r h i) d : EReal) := by
  rw [Host.byHeads_apply, fill]
  split
  · exact hx h i _
  · rfl

include R

theorem Holds.q_rows (h : Fin 4) (b : Fin 2) (r : Fin 2048) (d : Fin 256) :
    (iblk m c 0 (pt h b) : Vec Ideal S1x2048x256 .bf16) (ix3 0 r d) = (fill (q h (row b r)) d : EReal) := by
  rw [q_block, qIn, q_eq]
  exact by_heads _ q R.query h _ d

theorem Holds.k_rows (h : Fin 4) (b : Fin 2) (j : Fin 4096) (d : Fin 256) :
    (iblk m c 1 (pt h b) : Vec Ideal S1x4096x256 .bf16) (ix3 0 j d) = (fill (k h j) d : EReal) := by
  rw [k_block, kIn, k_eq]
  exact by_heads _ k R.key h _ d

omit R in
theorem v_rows (h : Fin 4) (b : Fin 2) (j : Fin 4096) (d : Fin 128) :
    (iblk m c 2 (pt h b) : Vec Ideal S1x4096x128 .bf16) (ix3 0 j d) = (m ((c.tc : Thread nD τ).loc main_arg2) : Vec Ideal S1x4096x4x128 .f32) (ix4 0 j h d) := by
  rw [v_block, vIn, v_eq]
  exact Host.valuesByHeads_apply _ h j d

omit R in
theorem rows_eq (q k : Fin 4 → Fin 4096 → Fin 192 → ℝ) (h : Fin 4) (b : Fin 2) (r : Fin 2048) (d : Fin 128) :
    mean (rowScores (fun r => fill (q h (row b r))) (fun j => fill (k h j)) r) (fun j => (iblk m c 2 (pt h b) : Vec Ideal S1x4096x128 .bf16) (ix3 0 j d))
      = result q k (m ((c.tc : Thread nD τ).loc main_arg2)) (row b r) (lane h d) := by
  rw [result_lane, ← sc_fill]
  exact congrArg (mean _) (funext fun j => v_rows h b j d)

theorem Holds.wide_point (h : Fin 4) (b : Fin 2) (r : Fin 2048) (d : Fin 128) : (outsAt0 m c (pt h b)).2 (ix2 r d)
    = result q k (m ((c.tc : Thread nD τ).loc main_arg2)) (row b r) (lane h d) := by
  exact (wide _ _ _ (fun r => fill (q h (row b r))) (fun j => fill (k h j)) (R.q_rows h b) (R.k_rows h b) c (grid0.coords (pt h b))
    (ms0_0 _) (hs0_0 _) (ms0_1 _) (hs0_1 _) (ms0_2 _) (hs0_2 _) (ms0_3 (pt h b)) (hs0_3 _) (ms0_4 (pt h b)) (hs0_4 _) r d).trans (rows_eq q k h b r d)

theorem Holds.narrow_point (h : Fin 4) (b : Fin 2) (r : Fin 2048) (d : Fin 128) : (outsAt0 m c (pt h b)).1 (ix2 r d)
    = result q k (m ((c.tc : Thread nD τ).loc main_arg2)) (row b r) (lane h d) := by
  exact (narrow _ _ _ (fun r => fill (q h (row b r))) (fun j => fill (k h j)) (R.q_rows h b) (R.k_rows h b) c (grid0.coords (pt h b))
    (ms0_0 _) (hs0_0 _) (ms0_1 _) (hs0_1 _) (ms0_2 _) (hs0_2 _) (ms0_3 (pt h b)) (hs0_3 _) (ms0_4 (pt h b)) (hs0_4 _) r d).trans (rows_eq q k h b r d)

theorem Holds.final_narrow : (dats m 0 c).arrAt 3 cfg0.N
    = (fun i => result q k (m ((c.tc : Thread nD τ).loc main_arg2)) (i 0) (i 1) : Vec Ideal S4096x512 .bf16) := by
  refine (dats m 0 c).arrAt_eq_of_covers 3 _ (by decide +kernel) fun t hf y => ?_
  obtain ⟨h, b, rfl⟩ := pt_surj t
  blk_simp
  rw [after0_3]
  refine (congrArg _ (eq_ix2 y)).trans ((R.narrow_point h b (y 0) (y 1)).trans ?_)
  have e : (((cfg0.win 3).blk (pt h b)).view.emb y) = (ix2 (row b (y 0)) (lane h (y 1)) : S4096x512.Idx) := by
    blk_ext [index3, pt, row, lane]
  blk_simp at e
  rw [e]
  rfl

theorem Holds.final_wide : (dats m 0 c).arrAt 4 cfg0.N
    = (fun i => result q k (m ((c.tc : Thread nD τ).loc main_arg2)) (i 0) (i 1) : Vec Ideal S4096x512 .f32) := by
  refine (dats m 0 c).arrAt_eq_of_covers 4 _ (by decide +kernel) fun t hf y => ?_
  obtain ⟨h, b, rfl⟩ := pt_surj t
  blk_simp
  rw [after0_4]
  refine (congrArg _ (eq_ix2 y)).trans ((R.wide_point h b (y 0) (y 1)).trans ?_)
  have e : (((cfg0.win 4).blk (pt h b)).view.emb y) = (ix2 (row b (y 0)) (lane h (y 1)) : S4096x512.Idx) := by
    blk_ext [index4, pt, row, lane]
  blk_simp at e
  rw [e]
  rfl

end kernel

/-! ## The reference -/

section reference

open Cert.Reference6Ideal Cert.Reference6Ideal.Read

theorem output_apply (w : Vec Ideal S1x4x4096x4096 .f32) (z : Vec Ideal S1x4096x4x128 .f32) (σ : Fin 4 → Fin 4096 → Fin 4096 → ℝ)
    (hw : ∀ h i j, w (ix4 0 h i j) = (wt (σ h i) j : EReal)) (h : Fin 4) (i : Fin 4096) (d : Fin 128) :
    Host.output w z (ix2 i (lane h d)) = mean (σ h i) (fun j => z (ix4 0 j h d)) := by
  have hd : ∀ j, Ideal.div (w (ix4 0 h i j)) (Host.spread (Host.sums w) (ix4 0 h i j)) = ((wt (σ h i) j * (den (σ h i))⁻¹ : ℝ) : EReal) := fun j => by
    rw [Host.spread_apply, Host.sums_apply w σ hw, hw, div_coe _ _ (den_ne_zero _)]
  unfold mean
  refine Eq.trans ?_ (Finset.sum_congr rfl fun j _ => congrArg (z (ix4 0 j h d) * ·) (hd j))
  unfold lane
  pointwise [Host.output]

theorem ref_apply (x y : Vec Ideal S1x4096x4x192 .f32) (z : Vec Ideal S1x4096x4x128 .f32) (q k : Fin 4 → Fin 4096 → Fin 192 → ℝ)
    (hx : ∀ h i d, x (ix4 0 i h d) = (q h i d : EReal)) (hy : ∀ h i d, y (ix4 0 i h d) = (k h i d : EReal))
    (i : Fin 4096) (l : Fin 512) : val_main_v19 (F := Ideal) x y z (ix2 i l) = result q k z i l := by
  obtain ⟨h, d, rfl⟩ : ∃ (h : Fin 4) (d : Fin 128), l = lane h d :=
    ⟨⟨l.val / 128, by omega⟩, ⟨l.val % 128, by omega⟩, Fin.ext (by show l.val = 128 * (l.val / 128) + l.val % 128; omega)⟩
  rw [result_lane]
  exact output_apply (Host.weights (Host.scores x y)) z (fun h => sc (q h) (k h)) (Host.weights_apply _ _ (Host.scores_apply x y q k hx hy)) h i d

end reference

/-! ## The precondition -/

theorem facts : Cert.Pre_finite6.Facts where
  bcast_S_S1x4096x4x192 := by decide

section finite

open Cert.Kernel6Ideal

variable (m : (ℓ : Loc nD τ sig) → Buf (Elt Ideal) ℓ) (c : Dev nD)

def queries (h : Fin 4) (i : Fin 4096) (d : Fin 192) : ℝ :=
  EReal.toReal ((m ((c.tc : Thread nD τ).loc main_arg0) : Vec Ideal S1x4096x4x192 .f32) (ix4 0 i h d))
def keys (h : Fin 4) (i : Fin 4096) (d : Fin 192) : ℝ :=
  EReal.toReal ((m ((c.tc : Thread nD τ).loc main_arg1) : Vec Ideal S1x4096x4x192 .f32) (ix4 0 i h d))

theorem real_of_pre (hpre : @Cert.Pre_Kernel6Ideal_finite6 facts m) : Holds m c (queries m c) (keys m c) := by
  obtain ⟨h0, h1⟩ := hpre c
  exact ⟨fun h i d => (Finite.real _ _ _ _ (congrFun h0 (ix4 0 i h d))).symm, fun h i d => (Finite.real _ _ _ _ (congrFun h1 (ix4 0 i h d))).symm⟩

end finite

/-! ## The claims -/

theorem preserves : Cert.preserves_Kernel6_Kernel6Ideal :=
  IdealRules.named_const.statement Cert.Kernel6Ideal.κ "scale2" .f32 _ _ rfl

set_option maxHeartbeats 1600000 in
theorem algebraic : @Cert.algebraic_Kernel6Ideal_Reference6Ideal_pre_finite6 Cert.Kernel6Ideal.Gen.facts Cert.Reference6Ideal.Gen.facts facts := by
  intro m g m' g' hpre hagree
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨r0, r1, rest⟩ := h c
  obtain ⟨a0, a1, a2⟩ := hagree c
  have R := real_of_pre m c hpre
  refine ⟨r0.trans ?_, r1.trans ?_, rest⟩
  · refine Eq.trans ?_ R.final_narrow.symm
    rw [Cert.Reference6Ideal.Read.val_main_v20_eq, a0, a1, a2]
    funext i
    idx_vars i
    exact ref_apply _ _ _ _ _ R.query R.key _ _
  · refine Eq.trans ?_ R.final_wide.symm
    rw [Cert.Reference6Ideal.Read.val_main_v19_eq, a0, a1, a2]
    funext i
    idx_vars i
    exact ref_apply _ _ _ _ _ R.query R.key _ _

theorem frame_reference : @Cert.quiescent_Reference6Ideal Cert.Reference6Ideal.Gen.facts := fun m g _ =>
  (θ_run Cert.Reference6Ideal.defs _ _).mono (fun r h => ⟨fun c => (h c).2.2, sem_eq_zero_of_no_sems (by decide) r.2⟩)
    (Cert.Reference6Ideal.Value.run (F := Ideal) m g)

end Cert.Proof.Attn

end
-- ==== Proof.InWeights.lean ====
/-
  The gradient of the in-projection's weights: the product of the normed input with the gradient of the projection, over the
  rows, in six pieces of columns, the last of which is filled up with zeros. The call goes over four blocks of 1,024 rows,
  adds one block's products at a time to six buffers, and writes them out transposed behind the last.
-/
module

public import proofs.«01_k».proof.Defs
public import proofs.«01_k».proof.Proof.Sums
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.InWeights

open Idealize.ShloMosaic
open scoped BigOperators

/-- Row `r` of row block `b`. -/
def row (b : Fin 4) (r : Fin 1024) : Fin 4096 := ⟨1024 * b.val + r.val, by omega⟩

/-- A number that has one block's products added at a time is the product over all rows. -/
theorem fold (A : (b : ℕ) → b < 4 → EReal) (x y : Fin 4096 → EReal)
    (h0 : ∀ h, A 0 h = 0 + ∑ r : Fin 1024, x (row ⟨0, h⟩ r) * y (row ⟨0, h⟩ r))
    (hs : ∀ b (h : b + 1 < 4), A (b + 1) h = A b (by omega) + ∑ r : Fin 1024, x (row ⟨b + 1, h⟩ r) * y (row ⟨b + 1, h⟩ r)) :
    A 3 (by decide) = ∑ r, x r * y r := by
  rw [Sums.sum_blocks 4 1024 (fun r : Fin 4096 => x r * y r)]
  refine (Sums.accumulate 4 A (fun b hb => ∑ r : Fin 1024, x (row ⟨b, hb⟩ r) * y (row ⟨b, hb⟩ r)) (fun h => by rw [h0, zero_add]) hs 3 (by decide)).trans ?_
  refine Finset.sum_congr rfl fun b _ => Finset.sum_congr rfl fun r _ => ?_
  have e : (finProdFinEquiv (b, r) : Fin (4 * 1024)) = row b r := Fin.ext (by show r.val + 1024 * b.val = 1024 * b.val + r.val; omega)
  rw [e]

section kernel

open Cert.Kernel7Ideal Cert.Kernel7Ideal.Gen

/-! ## The values in the body -/

theorem start_apply (i : Fin 1024) (j : Fin 512) : k0_pay10 (F := Ideal) (ix2 i j) = (0 : EReal) := by
  pointwise [k0_pay10]

theorem start6_apply (i : Fin 1024) (j : Fin 640) : k0_pay15 (F := Ideal) (ix2 i j) = (0 : EReal) := by
  pointwise [k0_pay15]

theorem add_apply (a : Vec Ideal S1024x1024 .bf16) (x : Vec Ideal S1024x512 .f32) (b : Vec Ideal S1024x512 .bf16) (i : Fin 1024) (j : Fin 512) :
    k0_pay17 a x b (ix2 i j) = x (ix2 i j) + ∑ r : Fin 1024, a (ix2 r i) * b (ix2 r j) := by
  pointwise [k0_pay17, k0_pay16]

theorem add6_apply (a : Vec Ideal S1024x1024 .bf16) (x : Vec Ideal S1024x640 .f32) (b : Vec Ideal S1024x640 .bf16) (i : Fin 1024) (j : Fin 640) :
    k0_pay3 (k0_pay16 a) x b (ix2 i j) = x (ix2 i j) + ∑ r : Fin 1024, a (ix2 r i) * b (ix2 r j) := by
  pointwise [k0_pay3, k0_pay16]

theorem out_apply (x : Vec Ideal S1024x512 .f32) (j : Fin 512) (i : Fin 1024) : k0_pay4 x (ix2 j i) = x (ix2 i j) := by
  pointwise [k0_pay4]

theorem out6_apply (x : Vec Ideal S1024x640 .f32) (j : Fin 640) (i : Fin 1024) : k0_pay9 x (ix2 j i) = x (ix2 i j) := by
  pointwise [k0_pay9]

/-! ## What a point leaves -/

/-- The six buffers, and the six pieces of a block of the gradient. -/
abbrev Bufs : Type := Vec Ideal S1024x512 .f32 × Vec Ideal S1024x512 .f32 × Vec Ideal S1024x512 .f32 × Vec Ideal S1024x512 .f32 × Vec Ideal S1024x512 .f32 × Vec Ideal S1024x640 .f32
abbrev Outs : Type := Vec Ideal S512x1024 .bf16 × Vec Ideal S512x1024 .bf16 × Vec Ideal S512x1024 .bf16 × Vec Ideal S512x1024 .bf16 × Vec Ideal S512x1024 .bf16 × Vec Ideal S640x1024 .bf16

variable (m : (ℓ : Loc nD τ sig) → Buf (Elt Ideal) ℓ) (c : Dev nD)

/-- The buffers with a point's products added. -/
def add (t : Fin cfg0.N) (s : Bufs) : Bufs :=
  (k0_pay17 (iblk m c 0 t) s.1 (iblk m c 1 t), k0_pay18 (iblk m c 0 t) s.2.1 (iblk m c 2 t), k0_pay19 (iblk m c 0 t) s.2.2.1 (iblk m c 3 t),
    k0_pay1 (k0_pay16 (iblk m c 0 t)) s.2.2.2.1 (iblk m c 4 t), k0_pay2 (k0_pay16 (iblk m c 0 t)) s.2.2.2.2.1 (iblk m c 5 t),
    k0_pay3 (k0_pay16 (iblk m c 0 t)) s.2.2.2.2.2 (iblk m c 6 t))

/-- The buffers at the start, and what is written out of them. -/
def zeros : Bufs := (k0_pay10 (F := Ideal), k0_pay11 (F := Ideal), k0_pay12 (F := Ideal), k0_pay13 (F := Ideal), k0_pay14 (F := Ideal),
  k0_pay15 (F := Ideal))
def turned (s : Bufs) : Outs := (k0_pay4 s.1, k0_pay5 s.2.1, k0_pay6 s.2.2.1, k0_pay7 s.2.2.2.1, k0_pay8 s.2.2.2.2.1, k0_pay9 s.2.2.2.2.2)

/-- The buffers behind a point, and what it leaves in the results' blocks. -/
def bufs (t : Fin cfg0.N) : Bufs := (outsAt0 m c t.val t.isLt).2.2.2.2.2.2
def outs (t : Fin cfg0.N) : Outs :=
  ((outsAt0 m c t.val t.isLt).1, (outsAt0 m c t.val t.isLt).2.1, (outsAt0 m c t.val t.isLt).2.2.1, (outsAt0 m c t.val t.isLt).2.2.2.1,
    (outsAt0 m c t.val t.isLt).2.2.2.2.1, (outsAt0 m c t.val t.isLt).2.2.2.2.2.1)

theorem first (t : Fin cfg0.N) (h0 : t.val % 4 = 0) : bufs m c t = add m c t zeros := by
  unfold bufs add zeros
  rw [outsAt0_A m c t h0 (by omega)]
  dsimp only
  simp only [Prod.mk.injEq]
  refine ⟨?_, ?_, ?_, ?_, ?_, ?_⟩ <;> frame_out

theorem next (t : Fin cfg0.N) (h0 : ¬ t.val % 4 = 0) :
    bufs m c t = add m c t (outsAt0 m c (t.val - 1) (Nat.lt_of_le_of_lt (Nat.sub_le _ _) t.isLt)).2.2.2.2.2.2 := by
  unfold bufs add
  by_cases h1 : t.val % 4 = 3
  · rw [outsAt0_C m c t h0 h1]
    dsimp only
    simp only [Prod.mk.injEq]
    refine ⟨?_, ?_, ?_, ?_, ?_, ?_⟩ <;> frame_out <;> simp only [read_unread_whole, View.readCov_cons_toLoadRect]
  · rw [outsAt0_B m c t h0 h1]
    dsimp only
    simp only [Prod.mk.injEq]
    refine ⟨?_, ?_, ?_, ?_, ?_, ?_⟩ <;> frame_out <;> simp only [read_unread_whole, View.readCov_cons_toLoadRect]

theorem last (t : Fin cfg0.N) (h1 : t.val % 4 = 3) : outs m c t = turned (bufs m c t) := by
  have h0 : ¬ t.val % 4 = 0 := by omega
  rw [next m c t h0]
  unfold outs turned add
  rw [outsAt0_C m c t h0 h1]
  dsimp only
  simp only [Prod.mk.injEq]
  refine ⟨?_, ?_, ?_, ?_, ?_, ?_⟩ <;> frame_out <;> simp only [read_unread_whole, View.readCov_cons_toLoadRect]

/-! ## The operands as the host makes them -/

/-- The arguments: the normed input and the gradient of the projection. -/
abbrev arg0 : Vec Ideal S1x4096x1024 .f32 := m ((c.tc : Thread nD τ).loc main_arg0)
abbrev arg1 : Vec Ideal S1x4096x3136 .f32 := m ((c.tc : Thread nD τ).loc main_arg1)

/-- Column `j` of the piece of 512 columns that starts at `off`. -/
def lane (off : ℕ) (h : off ≤ 2624) (j : Fin 512) : Fin 3136 := ⟨off + j.val, by omega⟩

theorem op0 : V m c main_v1 = (truncf (F := Ideal) .bf16 (shapeCast S4096x1024 (arg0 m c) shapeCasts_S1x4096x1024_S4096x1024) bitsLt_bf16_f32
    : Vec Ideal S4096x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

/-- The gradient as a table, rounded. -/
abbrev table : Vec Ideal S4096x3136 .bf16 :=
  truncf (F := Ideal) .bf16 (shapeCast S4096x3136 (arg1 m c) shapeCasts_S1x4096x3136_S4096x3136) bitsLt_bf16_f32

theorem op1 : V m c main_v4 = (extractStridedSlice S4096x512 ![0, 576] (table m c) slices_S4096x3136_S4096x512_0_576 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op2 : V m c main_v5 = (extractStridedSlice S4096x512 ![0, 1088] (table m c) slices_S4096x3136_S4096x512_0_1088 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op3 : V m c main_v6 = (extractStridedSlice S4096x512 ![0, 1600] (table m c) slices_S4096x3136_S4096x512_0_1600 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op4 : V m c main_v7 = (extractStridedSlice S4096x512 ![0, 2112] (table m c) slices_S4096x3136_S4096x512_0_2112 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op5 : V m c main_v8 = (extractStridedSlice S4096x512 ![0, 2624] (table m c) slices_S4096x3136_S4096x512_0_2624 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op6 : V m c main_v10 = (pad S4096x640 ![0, 0] ![0, 64] ![0, 0] (extractStridedSlice S4096x576 ![0, 0] (table m c) slices_S4096x3136_S4096x576_0_0)
    (sitofp (F := Ideal) .bf16 (constantI S_ 32 0#32)) pads_S4096x576_S4096x640_000_0640 h_S_ : Vec Ideal S4096x640 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem read0 (x : Vec Ideal S1x4096x1024 .f32) (r : Fin 4096) (i : Fin 1024) :
    truncf (F := Ideal) .bf16 (shapeCast S4096x1024 x shapeCasts_S1x4096x1024_S4096x1024) bitsLt_bf16_f32 (ix2 r i) = x (ix3 0 r i) := by
  pointwise

theorem read_table (x : Vec Ideal S1x4096x3136 .f32) (r : Fin 4096) (j : Fin 3136) :
    truncf (F := Ideal) .bf16 (shapeCast S4096x3136 x shapeCasts_S1x4096x3136_S4096x3136) bitsLt_bf16_f32 (ix2 r j) = x (ix3 0 r j) := by
  pointwise

theorem read_piece (off : ℕ) (h : off ≤ 2624) (x : Vec Ideal S4096x3136 .bf16) (hs : S4096x3136.Slices ![0, off] S4096x512) (r : Fin 4096) (j : Fin 512) :
    extractStridedSlice S4096x512 ![0, off] x hs (ix2 r j) = x (ix2 r (lane off h j)) :=
  extractStridedSlice_apply _ _ _ _ _ fun a => by fin_cases a <;> simp [lane]

theorem zero_int : (FloatOps.sitofp (F := Ideal) FTy.bf16 (0#32 : BitVec 32) : EReal) = 0 := by
  show (((0#32 : BitVec 32).toInt : ℝ) : EReal) = 0
  simp

theorem read6 (x : Vec Ideal S4096x3136 .bf16) (r : Fin 4096) (j : Fin 640) :
    pad S4096x640 ![0, 0] ![0, 64] ![0, 0] (extractStridedSlice S4096x576 ![0, 0] x slices_S4096x3136_S4096x576_0_0)
      (sitofp (F := Ideal) .bf16 (constantI S_ 32 0#32)) pads_S4096x576_S4096x640_000_0640 h_S_ (ix2 r j)
      = if h : j.val < 576 then x (ix2 r ⟨j.val, by omega⟩) else 0 := by
  pointwise
  rw [zero_int]

/-! ## The blocks of the operands -/

/-- The grid point of row block `b`. -/
def pt (b : Fin 4) : Fin cfg0.N := ⟨b.val, lt_of_lt_of_eq b.isLt N_0.symm⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])

theorem block0 (b : Fin 4) (r : Fin 1024) (i : Fin 1024) : (iblk m c 0 (pt b) : Vec Ideal S1024x1024 .bf16) (ix2 r i) = arg0 m c (ix3 0 (row b r) i) := by
  refine Eq.trans ?_ ((congrFun (op0 m c) _).trans (read0 _ _ _))
  blk_simp [iblk]
  congr 1
  blk_ext [index0, pt, row]

theorem block1 (b : Fin 4) (r : Fin 1024) (j : Fin 512) :
    (iblk m c 1 (pt b) : Vec Ideal S1024x512 .bf16) (ix2 r j) = arg1 m c (ix3 0 (row b r) (lane 576 (by decide) j)) := by
  refine Eq.trans ?_ ((congrFun (op1 m c) (ix2 (row b r) j)).trans ((read_piece 576 (by decide) _ _ _ _).trans (read_table _ _ _)))
  blk_simp [iblk]
  congr 1
  blk_ext [index1, pt, row]

theorem block2 (b : Fin 4) (r : Fin 1024) (j : Fin 512) :
    (iblk m c 2 (pt b) : Vec Ideal S1024x512 .bf16) (ix2 r j) = arg1 m c (ix3 0 (row b r) (lane 1088 (by decide) j)) := by
  refine Eq.trans ?_ ((congrFun (op2 m c) (ix2 (row b r) j)).trans ((read_piece 1088 (by decide) _ _ _ _).trans (read_table _ _ _)))
  blk_simp [iblk]
  congr 1
  blk_ext [index2, pt, row]

theorem block3 (b : Fin 4) (r : Fin 1024) (j : Fin 512) :
    (iblk m c 3 (pt b) : Vec Ideal S1024x512 .bf16) (ix2 r j) = arg1 m c (ix3 0 (row b r) (lane 1600 (by decide) j)) := by
  refine Eq.trans ?_ ((congrFun (op3 m c) (ix2 (row b r) j)).trans ((read_piece 1600 (by decide) _ _ _ _).trans (read_table _ _ _)))
  blk_simp [iblk]
  congr 1
  blk_ext [index3, pt, row]

theorem block4 (b : Fin 4) (r : Fin 1024) (j : Fin 512) :
    (iblk m c 4 (pt b) : Vec Ideal S1024x512 .bf16) (ix2 r j) = arg1 m c (ix3 0 (row b r) (lane 2112 (by decide) j)) := by
  refine Eq.trans ?_ ((congrFun (op4 m c) (ix2 (row b r) j)).trans ((read_piece 2112 (by decide) _ _ _ _).trans (read_table _ _ _)))
  blk_simp [iblk]
  congr 1
  blk_ext [index4, pt, row]

theorem block5 (b : Fin 4) (r : Fin 1024) (j : Fin 512) :
    (iblk m c 5 (pt b) : Vec Ideal S1024x512 .bf16) (ix2 r j) = arg1 m c (ix3 0 (row b r) (lane 2624 (by decide) j)) := by
  refine Eq.trans ?_ ((congrFun (op5 m c) (ix2 (row b r) j)).trans ((read_piece 2624 (by decide) _ _ _ _).trans (read_table _ _ _)))
  blk_simp [iblk]
  congr 1
  blk_ext [index5, pt, row]

theorem block6 (b : Fin 4) (r : Fin 1024) (j : Fin 640) : (iblk m c 6 (pt b) : Vec Ideal S1024x640 .bf16) (ix2 r j)
    = if h : j.val < 576 then arg1 m c (ix3 0 (row b r) ⟨j.val, by omega⟩) else 0 := by
  refine Eq.trans ?_ ((congrFun (op6 m c) (ix2 (row b r) j)).trans ((read6 _ _ _).trans ?_))
  · blk_simp [iblk]
    congr 1
    blk_ext [index6, pt, row]
  · simp only [read_table]

/-! ## The accumulated products -/

/-- The gradient of the weight of input `i` and projection column `j`. -/
def grad (x : Vec Ideal S1x4096x1024 .f32) (y : Vec Ideal S1x4096x3136 .f32) (j : Fin 3136) (i : Fin 1024) : EReal :=
  ∑ r : Fin 4096, y (ix3 0 r j) * x (ix3 0 r i)

theorem first_pt (h : 0 < 4) : bufs m c (pt ⟨0, h⟩) = add m c (pt ⟨0, h⟩) zeros := first m c _ rfl

theorem next_pt (b : ℕ) (h : b + 1 < 4) : bufs m c (pt ⟨b + 1, h⟩) = add m c (pt ⟨b + 1, h⟩) (bufs m c (pt ⟨b, by omega⟩)) :=
  next m c _ (by show ¬ (b + 1) % 4 = 0; omega)

/-- Any of the five buffers of 512 columns. -/
theorem acc (buf : Bufs → Vec Ideal S1024x512 .f32) (blk : Fin cfg0.N → Vec Ideal S1024x512 .bf16) (off : ℕ) (ho : off ≤ 2624)
    (hadd : ∀ t s, buf (add m c t s) = k0_pay17 (iblk m c 0 t) (buf s) (blk t)) (hz : buf zeros = k0_pay10 (F := Ideal))
    (hblk : ∀ b r j, blk (pt b) (ix2 r j) = arg1 m c (ix3 0 (row b r) (lane off ho j))) (i : Fin 1024) (j : Fin 512) :
    buf (bufs m c (pt 3)) (ix2 i j) = grad (arg0 m c) (arg1 m c) (lane off ho j) i := by
  refine (fold (fun b hb => buf (bufs m c (pt ⟨b, hb⟩)) (ix2 i j)) (fun r => arg0 m c (ix3 0 r i)) (fun r => arg1 m c (ix3 0 r (lane off ho j)))
    (fun h => ?_) (fun b h => ?_)).trans (Finset.sum_congr rfl fun r _ => mul_comm _ _)
  · show buf (bufs m c (pt ⟨0, h⟩)) (ix2 i j) = _
    rw [first_pt m c h, hadd, hz, add_apply, start_apply]
    simp only [block0, hblk]
  · show buf (bufs m c (pt ⟨b + 1, h⟩)) (ix2 i j) = _
    rw [next_pt m c b h, hadd, add_apply]
    simp only [block0, hblk]

/-- The gradients of the last piece, whose columns behind the 576th are filled up with zeros. -/
def grad6 (x : Vec Ideal S1x4096x1024 .f32) (y : Vec Ideal S1x4096x3136 .f32) (j : Fin 640) (i : Fin 1024) : EReal :=
  if h : j.val < 576 then grad x y ⟨j.val, by omega⟩ i else 0

theorem acc6 (i : Fin 1024) (j : Fin 640) : (bufs m c (pt 3)).2.2.2.2.2 (ix2 i j) = grad6 (arg0 m c) (arg1 m c) j i := by
  refine (fold (fun b hb => (bufs m c (pt ⟨b, hb⟩)).2.2.2.2.2 (ix2 i j)) (fun r => arg0 m c (ix3 0 r i))
    (fun r => if h : j.val < 576 then arg1 m c (ix3 0 r ⟨j.val, by omega⟩) else 0) (fun h => ?_) (fun b h => ?_)).trans ?_
  · show (bufs m c (pt ⟨0, h⟩)).2.2.2.2.2 (ix2 i j) = _
    rw [first_pt m c h]
    refine (add6_apply _ _ _ _ _).trans ?_
    simp only [block0, block6]
    exact congrArg (· + _) (start6_apply i j)
  · show (bufs m c (pt ⟨b + 1, h⟩)).2.2.2.2.2 (ix2 i j) = _
    rw [next_pt m c b h]
    refine (add6_apply _ _ _ _ _).trans ?_
    simp only [block0, block6]
  · unfold grad6 grad
    by_cases h : j.val < 576
    · simp only [dif_pos h]
      exact Finset.sum_congr rfl fun r _ => mul_comm _ _
    · simp only [dif_neg h, mul_zero, Finset.sum_const_zero]

/-! ## The arrays after the run -/

theorem last1 (t : Fin cfg0.N) (h : t.val % 4 = 3) : (outsAt0 m c t.val t.isLt).1 = k0_pay4 (bufs m c t).1 := by
  have e := last m c t h
  unfold outs turned at e
  simp only [Prod.mk.injEq] at e
  exact e.1

theorem last2 (t : Fin cfg0.N) (h : t.val % 4 = 3) : (outsAt0 m c t.val t.isLt).2.1 = k0_pay5 (bufs m c t).2.1 := by
  have e := last m c t h
  unfold outs turned at e
  simp only [Prod.mk.injEq] at e
  exact e.2.1

theorem last3 (t : Fin cfg0.N) (h : t.val % 4 = 3) : (outsAt0 m c t.val t.isLt).2.2.1 = k0_pay6 (bufs m c t).2.2.1 := by
  have e := last m c t h
  unfold outs turned at e
  simp only [Prod.mk.injEq] at e
  exact e.2.2.1

theorem last4 (t : Fin cfg0.N) (h : t.val % 4 = 3) : (outsAt0 m c t.val t.isLt).2.2.2.1 = k0_pay7 (bufs m c t).2.2.2.1 := by
  have e := last m c t h
  unfold outs turned at e
  simp only [Prod.mk.injEq] at e
  exact e.2.2.2.1

theorem last5 (t : Fin cfg0.N) (h : t.val % 4 = 3) : (outsAt0 m c t.val t.isLt).2.2.2.2.1 = k0_pay8 (bufs m c t).2.2.2.2.1 := by
  have e := last m c t h
  unfold outs turned at e
  simp only [Prod.mk.injEq] at e
  exact e.2.2.2.2.1

theorem last6 (t : Fin cfg0.N) (h : t.val % 4 = 3) : (outsAt0 m c t.val t.isLt).2.2.2.2.2.1 = k0_pay9 (bufs m c t).2.2.2.2.2 := by
  have e := last m c t h
  unfold outs turned at e
  simp only [Prod.mk.injEq] at e
  exact e.2.2.2.2.2

theorem point1 (j : Fin 512) (i : Fin 1024) : k0_pay4 (bufs m c (pt 3)).1 (ix2 j i) = grad (arg0 m c) (arg1 m c) (lane 576 (by decide) j) i :=
  (out_apply _ j i).trans (acc m c (fun s => s.1) (iblk m c 1) 576 (by decide) (fun _ _ => rfl) rfl (block1 m c) i j)

theorem point2 (j : Fin 512) (i : Fin 1024) : k0_pay5 (bufs m c (pt 3)).2.1 (ix2 j i) = grad (arg0 m c) (arg1 m c) (lane 1088 (by decide) j) i :=
  (out_apply _ j i).trans (acc m c (fun s => s.2.1) (iblk m c 2) 1088 (by decide) (fun _ _ => rfl) rfl (block2 m c) i j)

theorem point3 (j : Fin 512) (i : Fin 1024) : k0_pay6 (bufs m c (pt 3)).2.2.1 (ix2 j i) = grad (arg0 m c) (arg1 m c) (lane 1600 (by decide) j) i :=
  (out_apply _ j i).trans (acc m c (fun s => s.2.2.1) (iblk m c 3) 1600 (by decide) (fun _ _ => rfl) rfl (block3 m c) i j)

theorem point4 (j : Fin 512) (i : Fin 1024) : k0_pay7 (bufs m c (pt 3)).2.2.2.1 (ix2 j i) = grad (arg0 m c) (arg1 m c) (lane 2112 (by decide) j) i :=
  (out_apply _ j i).trans (acc m c (fun s => s.2.2.2.1) (iblk m c 4) 2112 (by decide) (fun _ _ => rfl) rfl (block4 m c) i j)

theorem point5 (j : Fin 512) (i : Fin 1024) : k0_pay8 (bufs m c (pt 3)).2.2.2.2.1 (ix2 j i) = grad (arg0 m c) (arg1 m c) (lane 2624 (by decide) j) i :=
  (out_apply _ j i).trans (acc m c (fun s => s.2.2.2.2.1) (iblk m c 5) 2624 (by decide) (fun _ _ => rfl) rfl (block5 m c) i j)

theorem point6 (j : Fin 640) (i : Fin 1024) : k0_pay9 (bufs m c (pt 3)).2.2.2.2.2 (ix2 j i) = grad6 (arg0 m c) (arg1 m c) j i :=
  (out6_apply _ j i).trans (acc6 m c i j)

theorem at_last (t : Fin cfg0.N) (h : t.val % 4 = 3) : t = pt 3 :=
  Fin.ext (by have := lt_of_lt_of_eq t.isLt N_0; show t.val = 3; omega)

theorem final1 : (dats m 0 c).arrAt 7 cfg0.N = (fun i => grad (arg0 m c) (arg1 m c) (lane 576 (by decide) (i 0)) (i 1) : Vec Ideal S512x1024 .bf16) := by
  refine (dats m 0 c).arrAt_eq_of_covers 7 _ (by decide +kernel) fun t hf y => ?_
  obtain rfl := at_last t ((by decide +kernel : ∀ t : Fin cfg0.N, (cfg0.win 7).flush t = true → t.val % 4 = 3) t hf)
  blk_simp
  rw [after0_7, last1 m c _ rfl]
  refine (congrArg _ (eq_ix2 y)).trans ((point1 m c (y 0) (y 1)).trans ?_)
  have e : (((cfg0.win 7).blk (pt 3)).view.emb y) = (ix2 (y 0) (y 1) : S512x1024.Idx) := by
    blk_ext [index7, pt]
  blk_simp at e
  rw [e]
  rfl

theorem final2 : (dats m 0 c).arrAt 8 cfg0.N = (fun i => grad (arg0 m c) (arg1 m c) (lane 1088 (by decide) (i 0)) (i 1) : Vec Ideal S512x1024 .bf16) := by
  refine (dats m 0 c).arrAt_eq_of_covers 8 _ (by decide +kernel) fun t hf y => ?_
  obtain rfl := at_last t ((by decide +kernel : ∀ t : Fin cfg0.N, (cfg0.win 8).flush t = true → t.val % 4 = 3) t hf)
  blk_simp
  rw [after0_8, last2 m c _ rfl]
  refine (congrArg _ (eq_ix2 y)).trans ((point2 m c (y 0) (y 1)).trans ?_)
  have e : (((cfg0.win 8).blk (pt 3)).view.emb y) = (ix2 (y 0) (y 1) : S512x1024.Idx) := by
    blk_ext [index8, pt]
  blk_simp at e
  rw [e]
  rfl

theorem final3 : (dats m 0 c).arrAt 9 cfg0.N = (fun i => grad (arg0 m c) (arg1 m c) (lane 1600 (by decide) (i 0)) (i 1) : Vec Ideal S512x1024 .bf16) := by
  refine (dats m 0 c).arrAt_eq_of_covers 9 _ (by decide +kernel) fun t hf y => ?_
  obtain rfl := at_last t ((by decide +kernel : ∀ t : Fin cfg0.N, (cfg0.win 9).flush t = true → t.val % 4 = 3) t hf)
  blk_simp
  rw [after0_9, last3 m c _ rfl]
  refine (congrArg _ (eq_ix2 y)).trans ((point3 m c (y 0) (y 1)).trans ?_)
  have e : (((cfg0.win 9).blk (pt 3)).view.emb y) = (ix2 (y 0) (y 1) : S512x1024.Idx) := by
    blk_ext [index9, pt]
  blk_simp at e
  rw [e]
  rfl

theorem final4 : (dats m 0 c).arrAt 10 cfg0.N = (fun i => grad (arg0 m c) (arg1 m c) (lane 2112 (by decide) (i 0)) (i 1) : Vec Ideal S512x1024 .bf16) := by
  refine (dats m 0 c).arrAt_eq_of_covers 10 _ (by decide +kernel) fun t hf y => ?_
  obtain rfl := at_last t ((by decide +kernel : ∀ t : Fin cfg0.N, (cfg0.win 10).flush t = true → t.val % 4 = 3) t hf)
  blk_simp
  rw [after0_10, last4 m c _ rfl]
  refine (congrArg _ (eq_ix2 y)).trans ((point4 m c (y 0) (y 1)).trans ?_)
  have e : (((cfg0.win 10).blk (pt 3)).view.emb y) = (ix2 (y 0) (y 1) : S512x1024.Idx) := by
    blk_ext [index10, pt]
  blk_simp at e
  rw [e]
  rfl

theorem final5 : (dats m 0 c).arrAt 11 cfg0.N = (fun i => grad (arg0 m c) (arg1 m c) (lane 2624 (by decide) (i 0)) (i 1) : Vec Ideal S512x1024 .bf16) := by
  refine (dats m 0 c).arrAt_eq_of_covers 11 _ (by decide +kernel) fun t hf y => ?_
  obtain rfl := at_last t ((by decide +kernel : ∀ t : Fin cfg0.N, (cfg0.win 11).flush t = true → t.val % 4 = 3) t hf)
  blk_simp
  rw [after0_11, last5 m c _ rfl]
  refine (congrArg _ (eq_ix2 y)).trans ((point5 m c (y 0) (y 1)).trans ?_)
  have e : (((cfg0.win 11).blk (pt 3)).view.emb y) = (ix2 (y 0) (y 1) : S512x1024.Idx) := by
    blk_ext [index11, pt]
  blk_simp at e
  rw [e]
  rfl

theorem final6 : (dats m 0 c).arrAt 12 cfg0.N = (fun i => grad6 (arg0 m c) (arg1 m c) (i 0) (i 1) : Vec Ideal S640x1024 .bf16) := by
  refine (dats m 0 c).arrAt_eq_of_covers 12 _ (by decide +kernel) fun t hf y => ?_
  obtain rfl := at_last t ((by decide +kernel : ∀ t : Fin cfg0.N, (cfg0.win 12).flush t = true → t.val % 4 = 3) t hf)
  blk_simp
  rw [after0_12, last6 m c _ rfl]
  refine (congrArg _ (eq_ix2 y)).trans ((point6 m c (y 0) (y 1)).trans ?_)
  have e : (((cfg0.win 12).blk (pt 3)).view.emb y) = (ix2 (y 0) (y 1) : S640x1024.Idx) := by
    blk_ext [index12, pt]
  blk_simp at e
  rw [e]
  rfl

end kernel

/-! ## The reference -/

section reference

open Cert.Reference7Ideal Cert.Reference7Ideal.Read

variable (x : Vec Ideal S1x4096x1024 .f32) (y : Vec Ideal S1x4096x3136 .f32)

theorem ref_table (j : Fin 3136) (i : Fin 1024) : val_main_v5 (F := Ideal) x y (ix2 j i) = grad x y j i := by
  unfold grad
  pointwise [val_main_v5, val_main_v4, val_main_v3, val_main_v2, Fin.sum_univ_one]

theorem ref_piece (off : ℕ) (h : off ≤ 2624) (hs : S3136x1024.Slices ![off, 0] S512x1024) (j : Fin 512) (i : Fin 1024) :
    extractStridedSlice S512x1024 ![off, 0] (val_main_v5 (F := Ideal) x y) hs (ix2 j i) = grad x y (lane off h j) i :=
  (extractStridedSlice_apply _ _ _ _ (ix2 (lane off h j) i) fun a => by fin_cases a <;> simp [lane]).trans (ref_table x y _ _)

theorem ref6 (j : Fin 640) (i : Fin 1024) : val_main_v12 (F := Ideal) x y (ix2 j i) = grad6 x y j i := by
  unfold grad6
  simp only [← ref_table]
  pointwise [val_main_v12, val_main_v11, val_main_call0_v0, val_main_c]
  rw [zero_int]

end reference

/-! ## The claims -/

theorem algebraic : @Cert.algebraic_Kernel7Ideal_Reference7Ideal Cert.Kernel7Ideal.Gen.facts Cert.Reference7Ideal.Gen.facts := by
  intro m g m' g' _ hagree
  refine ⟨fun c => (Cert.Kernel7Ideal.Gen.dats m 0 c).arrAt 7 Cert.Kernel7Ideal.cfg0.N, fun c => (Cert.Kernel7Ideal.Gen.dats m 0 c).arrAt 8 Cert.Kernel7Ideal.cfg0.N,
    fun c => (Cert.Kernel7Ideal.Gen.dats m 0 c).arrAt 9 Cert.Kernel7Ideal.cfg0.N, fun c => (Cert.Kernel7Ideal.Gen.dats m 0 c).arrAt 10 Cert.Kernel7Ideal.cfg0.N,
    fun c => (Cert.Kernel7Ideal.Gen.dats m 0 c).arrAt 11 Cert.Kernel7Ideal.cfg0.N, fun c => (Cert.Kernel7Ideal.Gen.dats m 0 c).arrAt 12 Cert.Kernel7Ideal.cfg0.N,
    Cert.Kernel7Ideal.Value.run_blocks m g, ?_⟩
  refine (θ_run Cert.Reference7Ideal.defs _ _).mono (fun r h c => ?_) (Cert.Reference7Ideal.Value.run (F := Ideal) m' g')
  obtain ⟨r1, r2, r3, r4, r5, r6, rest⟩ := h c
  obtain ⟨a0, a1⟩ := hagree c
  refine ⟨r1.trans ?_, r2.trans ?_, r3.trans ?_, r4.trans ?_, r5.trans ?_, r6.trans ?_, rest⟩
  · refine Eq.trans ?_ (final1 m c).symm
    rw [Cert.Reference7Ideal.Read.val_main_v6_eq, a0, a1]
    funext i
    idx_vars i
    exact ref_piece _ _ 576 (by decide) _ _ _
  · refine Eq.trans ?_ (final2 m c).symm
    rw [Cert.Reference7Ideal.Read.val_main_v7_eq, a0, a1]
    funext i
    idx_vars i
    exact ref_piece _ _ 1088 (by decide) _ _ _
  · refine Eq.trans ?_ (final3 m c).symm
    rw [Cert.Reference7Ideal.Read.val_main_v8_eq, a0, a1]
    funext i
    idx_vars i
    exact ref_piece _ _ 1600 (by decide) _ _ _
  · refine Eq.trans ?_ (final4 m c).symm
    rw [Cert.Reference7Ideal.Read.val_main_v9_eq, a0, a1]
    funext i
    idx_vars i
    exact ref_piece _ _ 2112 (by decide) _ _ _
  · refine Eq.trans ?_ (final5 m c).symm
    rw [Cert.Reference7Ideal.Read.val_main_v10_eq, a0, a1]
    funext i
    idx_vars i
    exact ref_piece _ _ 2624 (by decide) _ _ _
  · refine Eq.trans ?_ (final6 m c).symm
    rw [Cert.Reference7Ideal.Read.val_main_v12_eq, a0, a1]
    funext i
    idx_vars i
    exact ref6 _ _ _ _

theorem frame_reference : @Cert.quiescent_Reference7Ideal Cert.Reference7Ideal.Gen.facts := fun m g _ =>
  (θ_run Cert.Reference7Ideal.defs _ _).mono (fun r h => ⟨fun c => (h c).2.2.2.2.2.2, sem_eq_zero_of_no_sems (by decide) r.2⟩)
    (Cert.Reference7Ideal.Value.run (F := Ideal) m g)

end Cert.Proof.InWeights

end
-- ==== Proof.MixIn.lean ====
/-
  The gradient of the mixer's input: the product of the projection's gradient with the projection's weights, and behind it
  the gradient of the root mean square norm. The call goes over eight blocks of 512 rows; the product comes in six pieces of
  columns, the last of which is filled up with zeros, with the weights' rows in the same order; the gradient of the norm's
  weights is added up over the blocks in the result itself.
-/
module

public import proofs.«01_k».proof.Defs
public import proofs.«01_k».proof.Proof.FfnIn
public import proofs.«01_k».proof.Proof.InWeights
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.MixIn

open Idealize.ShloMosaic
open Cert.Proof.Norm Cert.Proof.FfnIn
open Cert.Proof.InWeights (lane zero_int read_table read_piece read6)
open scoped BigOperators

/-- The gradient of the normed row: the projection's gradient through its weights. -/
def dRow (p : Fin 3136 → EReal) (w : Fin 1024 → Fin 3136 → EReal) (j : Fin 1024) : EReal := ∑ l, p l * w j l

/-- A sum over the columns of the projection is the sum over the five pieces of 512 columns and the one behind them, which is filled up with zeros. -/
theorem split (F : Fin 3136 → EReal) :
    ∑ f, F (lane 576 (by decide) f) + ∑ f, F (lane 1088 (by decide) f) + ∑ f, F (lane 1600 (by decide) f) + ∑ f, F (lane 2112 (by decide) f)
      + ∑ f, F (lane 2624 (by decide) f) + ∑ f : Fin 640, (if h : f.val < 576 then F ⟨f.val, by omega⟩ else 0) = ∑ l, F l := by
  have a : ∑ l, F l = ∑ f : Fin 576, F ⟨f.val, by omega⟩ + ∑ f : Fin 2560, F ⟨576 + f.val, by omega⟩ := Fin.sum_univ_add (a := 576) (b := 2560) F
  have b : ∑ f : Fin 2560, F ⟨576 + f.val, by omega⟩ = ∑ b : Fin 5, ∑ f : Fin 512, F ⟨576 + (f.val + 512 * b.val), by omega⟩ :=
    Sums.sum_blocks 5 512 (fun f : Fin 2560 => F ⟨576 + f.val, by omega⟩)
  have e : ∑ f : Fin 640, (if h : f.val < 576 then F ⟨f.val, by omega⟩ else 0) = ∑ f : Fin 576, F ⟨f.val, by omega⟩ := by
    refine (Fin.sum_univ_add (a := 576) (b := 64) (fun f : Fin 640 => if h : f.val < 576 then F ⟨f.val, by omega⟩ else 0)).trans ?_
    have z : ∑ f : Fin 64, (fun f : Fin 640 => if h : f.val < 576 then F ⟨f.val, by omega⟩ else 0) (Fin.natAdd 576 f) = 0 :=
      Finset.sum_eq_zero fun f _ => dif_neg (by show ¬ 576 + f.val < 576; omega)
    refine (congrArg₂ (· + ·) (Finset.sum_congr rfl fun f _ => dif_pos (show (Fin.castAdd 64 f).val < 576 from f.isLt)) z).trans (add_zero _)
  have p : ∀ (k : ℕ) (hk : k < 5) (o : ℕ) (ho : o ≤ 2624), o = 576 + 512 * k →
      ∑ f : Fin 512, F ⟨576 + (f.val + 512 * k), by omega⟩ = ∑ f, F (lane o ho f) := fun k hk o ho h =>
    Finset.sum_congr rfl fun f _ => congrArg F (Fin.ext (by show 576 + (f.val + 512 * k) = o + f.val; omega))
  rw [a, b, e, Fin.sum_univ_five, add_comm]
  rw [← p 0 (by decide) 576 (by decide) rfl, ← p 1 (by decide) 1088 (by decide) rfl, ← p 2 (by decide) 1600 (by decide) rfl,
    ← p 3 (by decide) 2112 (by decide) rfl, ← p 4 (by decide) 2624 (by decide) rfl]
  rfl

/-- The weights of one input as the call has them: the columns behind the 576th, the first 576, and zeros. -/
def wRow (w : Fin 3136 → EReal) (l : Fin 3200) : EReal :=
  if h : l.val < 3136 then (if h : l.val < 2560 then w ⟨576 + l.val, by omega⟩ else w ⟨l.val - 2560, by omega⟩) else 0

theorem wRow_lane (w : Fin 3136 → EReal) (k : ℕ) (hk : k < 5) (o : ℕ) (ho : o ≤ 2624) (h : o = 576 + 512 * k) (f : Fin 512) :
    wRow w ⟨512 * k + f.val, by omega⟩ = w (lane o ho f) := by
  unfold wRow
  rw [dif_pos (by show 512 * k + f.val < 3136; omega), dif_pos (by show 512 * k + f.val < 2560; omega)]
  exact congrArg w (Fin.ext (by show 576 + (512 * k + f.val) = o + f.val; omega))

theorem wRow_last (w : Fin 3136 → EReal) (f : Fin 640) :
    wRow w ⟨2560 + f.val, by omega⟩ = if h : f.val < 576 then w ⟨f.val, by omega⟩ else 0 := by
  unfold wRow
  by_cases h : f.val < 576
  · rw [dif_pos (by show 2560 + f.val < 3136; omega), dif_neg (by show ¬ 2560 + f.val < 2560; omega), dif_pos h]
    exact congrArg w (Fin.ext (by show 2560 + f.val - 2560 = f.val; omega))
  · rw [dif_neg (by show ¬ 2560 + f.val < 3136; omega), dif_neg h]

section kernel

open Cert.Kernel8Ideal Cert.Kernel8Ideal.Gen

theorem read_pad (x : Vec Ideal S3136x1024 .bf16) (l : Fin 3200) (j : Fin 1024) :
    pad S3200x1024 ![0, 0] ![64, 0] ![0, 0] x (sitofp (F := Ideal) .bf16 (constantI S_ 32 0#32)) pads_S3136x1024_S3200x1024_0640_000 h_S_ (ix2 l j)
      = if h : l.val < 3136 then x (ix2 ⟨l.val, h⟩ j) else 0 := by
  pointwise
  rw [zero_int]

theorem read_cat (a : Vec Ideal S2560x1024 .bf16) (b : Vec Ideal S576x1024 .bf16) (l : Fin 3136) (j : Fin 1024) :
    concatenate S3136x1024 0 [⟨S2560x1024, a⟩, ⟨S576x1024, b⟩] concatenates_S2560x1024_S576x1024_S3136x1024_d0 (ix2 l j)
      = if h : l.val < 2560 then a (ix2 ⟨l.val, h⟩ j) else b (ix2 ⟨l.val - 2560, by omega⟩ j) := by
  pointwise

theorem read_turned (w : Vec Ideal S1024x3136 .f32) (l : Fin 3136) (j : Fin 1024) :
    transpose S3136x1024 [1, 0] (truncf (F := Ideal) .bf16 w bitsLt_bf16_f32) transposes_S1024x3136_S3136x1024_1_0 (ix2 l j) = w (ix2 j l) := by
  pointwise

theorem read_back (x : Vec Ideal S3136x1024 .bf16) (l : Fin 2560) (j : Fin 1024) :
    extractStridedSlice S2560x1024 ![576, 0] x slices_S3136x1024_S2560x1024_576_0 (ix2 l j) = x (ix2 ⟨576 + l.val, by omega⟩ j) :=
  extractStridedSlice_apply _ _ _ _ _ fun a => by fin_cases a <;> simp

theorem read_front (x : Vec Ideal S3136x1024 .bf16) (l : Fin 576) (j : Fin 1024) :
    extractStridedSlice S576x1024 ![0, 0] x slices_S3136x1024_S576x1024_0_0 (ix2 l j) = x (ix2 ⟨l.val, by omega⟩ j) :=
  extractStridedSlice_apply _ _ _ _ _ fun a => by fin_cases a <;> simp

/-- The weights as the host orders them. -/
abbrev ordered (w : Vec Ideal S1024x3136 .f32) : Vec Ideal S3200x1024 .bf16 :=
  pad S3200x1024 ![0, 0] ![64, 0] ![0, 0] (concatenate S3136x1024 0
      [⟨S2560x1024, extractStridedSlice S2560x1024 ![576, 0] (transpose S3136x1024 [1, 0] (truncf (F := Ideal) .bf16 w bitsLt_bf16_f32)
          transposes_S1024x3136_S3136x1024_1_0) slices_S3136x1024_S2560x1024_576_0⟩,
        ⟨S576x1024, extractStridedSlice S576x1024 ![0, 0] (transpose S3136x1024 [1, 0] (truncf (F := Ideal) .bf16 w bitsLt_bf16_f32)
          transposes_S1024x3136_S3136x1024_1_0) slices_S3136x1024_S576x1024_0_0⟩] concatenates_S2560x1024_S576x1024_S3136x1024_d0)
      (sitofp (F := Ideal) .bf16 (constantI S_ 32 0#32)) pads_S3136x1024_S3200x1024_0640_000 h_S_

theorem read_w (w : Vec Ideal S1024x3136 .f32) (l : Fin 3200) (j : Fin 1024) : ordered w (ix2 l j) = wRow (fun l => w (ix2 j l)) l := by
  unfold wRow
  refine (read_pad _ _ _).trans (dite_congr rfl (fun h => (read_cat _ _ _ _).trans (dite_congr rfl (fun h => ?_) fun h => ?_)) fun _ => rfl)
  · exact (read_back _ _ _).trans (read_turned _ _ _)
  · exact (read_front _ _ _).trans (read_turned _ _ _)

/-! ## The values in the body -/

section body

variable (s0 s1 s2 s3 s4 : Vec Ideal S512x512 .bf16) (w0 w1 w2 w3 w4 : Vec Ideal S512x1024 .bf16) (s5 : Vec Ideal S512x640 .bf16) (w5 : Vec Ideal S640x1024 .bf16)
  (A B X : Vec Ideal S512x1024 .f32) (G : Vec Ideal S1x1024 .f32)

theorem h_apply (r : Fin 512) (j : Fin 1024) : k0_pay5 (k0_pay3 s0 w0 s1 w1 s2 w2 s3 w3) (k0_pay4 s4 w4) s5 w5 (ix2 r j)
    = ∑ f, s0 (ix2 r f) * w0 (ix2 f j) + ∑ f, s1 (ix2 r f) * w1 (ix2 f j) + ∑ f, s2 (ix2 r f) * w2 (ix2 f j) + ∑ f, s3 (ix2 r f) * w3 (ix2 f j)
      + ∑ f, s4 (ix2 r f) * w4 (ix2 f j) + ∑ f, s5 (ix2 r f) * w5 (ix2 f j) := by
  pointwise [k0_pay5, k0_pay3, k0_pay4]

theorem scale_apply (r : Fin 512) : k0_pay7 X (ix2 r 0) = scale inv1024 (fun j => X (ix2 r j)) := by
  unfold scale
  pointwise [k0_pay7, k0_pay6]

theorem grad_apply (D : Vec Ideal S512x1024 .f32) (r : Fin 512) (j : Fin 1024) : k0_pay9 A B s5 w5 X G D (ix2 r j)
    = gradRow (D (ix2 r j)) (fun j => X (ix2 r j)) (fun j => G (ix2 0 j)) (fun j => k0_pay5 A B s5 w5 (ix2 r j)) j := by
  unfold gradRow
  simp only [← scale_apply]
  pointwise [k0_pay9, k0_pay6]

theorem part_apply (D : Vec Ideal S1x1024 .f32) (j : Fin 1024) : k0_pay1 (k0_pay8 A B s5 w5 X) D (ix2 0 j)
    = D (ix2 0 j) + ∑ r : Fin 512, part (fun j => X (ix2 r j)) (fun j => k0_pay5 A B s5 w5 (ix2 r j)) j := by
  unfold part
  simp only [← scale_apply]
  pointwise [k0_pay1, k0_pay8, k0_pay6]

theorem start_apply (j : Fin 1024) : k0_pay2 (F := Ideal) (ix2 0 j) = (0 : EReal) := by
  pointwise [k0_pay2]

end body

variable (m : (ℓ : Loc nD τ sig) → Buf (Elt Ideal) ℓ) (c : Dev nD)

/-! ## What a point leaves -/

/-- The products of a block: of the first four pieces, of the fifth, and of all. -/
abbrev four (t : Fin cfg0.N) : Vec Ideal S512x1024 .f32 :=
  k0_pay3 (iblk m c 0 t) (X0_6 m c t) (iblk m c 1 t) (X0_7 m c t) (iblk m c 2 t) (X0_8 m c t) (iblk m c 3 t) (X0_9 m c t)
abbrev fifth (t : Fin cfg0.N) : Vec Ideal S512x1024 .f32 := k0_pay4 (iblk m c 4 t) (X0_10 m c t)

theorem grad_at (t : Fin cfg0.N) : (outsAt0 m c t.val t.isLt).1
    = k0_pay9 (four m c t) (fifth m c t) (iblk m c 5 t) (iblk m c 11 t) (iblk m c 12 t) (iblk m c 13 t) (iblk m c 14 t) := by
  by_cases h0 : t.val % 8 = 0
  · rw [outsAt0_A m c t h0]
    dsimp only
    frame_out
  · rw [outsAt0_B m c t h0]
    dsimp only
    frame_out

theorem first (t : Fin cfg0.N) (h0 : t.val % 8 = 0) : (outsAt0 m c t.val t.isLt).2
    = k0_pay1 (k0_pay8 (four m c t) (fifth m c t) (iblk m c 5 t) (iblk m c 11 t) (iblk m c 12 t)) (k0_pay2 (F := Ideal)) := by
  rw [outsAt0_A m c t h0]
  dsimp only
  frame_out

theorem next (t : Fin cfg0.N) (h0 : ¬ t.val % 8 = 0) : (outsAt0 m c t.val t.isLt).2
    = k0_pay1 (k0_pay8 (four m c t) (fifth m c t) (iblk m c 5 t) (iblk m c 11 t) (iblk m c 12 t))
      (outsAt0 m c (t.val - 1) (Nat.lt_of_le_of_lt (Nat.sub_le _ _) t.isLt)).2 := by
  rw [outsAt0_B m c t h0]
  dsimp only
  frame_out

/-! ## The operands as the host makes them -/

/-- The arguments: the projection's gradient, its weights, the rows, the norm's weights, the gradient coming in. -/
abbrev arg0 : Vec Ideal S1x4096x3136 .f32 := m ((c.tc : Thread nD τ).loc main_arg0)
abbrev arg1 : Vec Ideal S1024x3136 .f32 := m ((c.tc : Thread nD τ).loc main_arg1)
abbrev arg2 : Vec Ideal S1x4096x1024 .f32 := m ((c.tc : Thread nD τ).loc main_arg2)
abbrev arg3 : Vec Ideal S1024 .f32 := m ((c.tc : Thread nD τ).loc main_arg3)
abbrev arg4 : Vec Ideal S1x4096x1024 .f32 := m ((c.tc : Thread nD τ).loc main_arg4)

/-- The gradient as a table, rounded. -/
abbrev table : Vec Ideal S4096x3136 .bf16 :=
  truncf (F := Ideal) .bf16 (shapeCast S4096x3136 (arg0 m c) shapeCasts_S1x4096x3136_S4096x3136) bitsLt_bf16_f32

theorem op0 : V m c main_v2 = (extractStridedSlice S4096x512 ![0, 576] (table m c) slices_S4096x3136_S4096x512_0_576 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op1 : V m c main_v3 = (extractStridedSlice S4096x512 ![0, 1088] (table m c) slices_S4096x3136_S4096x512_0_1088 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op2 : V m c main_v4 = (extractStridedSlice S4096x512 ![0, 1600] (table m c) slices_S4096x3136_S4096x512_0_1600 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op3 : V m c main_v5 = (extractStridedSlice S4096x512 ![0, 2112] (table m c) slices_S4096x3136_S4096x512_0_2112 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op4 : V m c main_v6 = (extractStridedSlice S4096x512 ![0, 2624] (table m c) slices_S4096x3136_S4096x512_0_2624 : Vec Ideal S4096x512 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem op5 : V m c main_v8 = (pad S4096x640 ![0, 0] ![0, 64] ![0, 0] (extractStridedSlice S4096x576 ![0, 0] (table m c) slices_S4096x3136_S4096x576_0_0)
    (sitofp (F := Ideal) .bf16 (constantI S_ 32 0#32)) pads_S4096x576_S4096x640_000_0640 h_S_ : Vec Ideal S4096x640 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem opw : V m c main_v15 = (ordered (arg1 m c) : Vec Ideal S3200x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem opx : V m c main_v16 = (shapeCast S4096x1024 (arg2 m c) shapeCasts_S1x4096x1024_S4096x1024 : Vec Ideal S4096x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem opg : V m c main_v17 = (shapeCast S1x1024 (arg3 m c) shapeCasts_S1024_S1x1024 : Vec Ideal S1x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem opd : V m c main_v18 = (shapeCast S4096x1024 (arg4 m c) shapeCasts_S1x4096x1024_S4096x1024 : Vec Ideal S4096x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

/-! ## The blocks of the operands -/

/-- The grid point of row block `b`, and its row `r`. -/
def pt (b : Fin 8) : Fin cfg0.N := ⟨b.val, lt_of_lt_of_eq b.isLt N_0.symm⟩
def row (b : Fin 8) (r : Fin 512) : Fin 4096 := ⟨512 * b.val + r.val, by omega⟩

theorem pt_surj (t : Fin cfg0.N) : ∃ b : Fin 8, t = pt b := ⟨⟨t.val, lt_of_lt_of_eq t.isLt N_0⟩, rfl⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![0, 0] :=
  (by decide +kernel : ∀ t : Fin grid0.N, win0_6.index t = ![0, 0])
theorem index7 : ∀ t : Fin cfg0.N, win0_7.index t = ![1, 0] :=
  (by decide +kernel : ∀ t : Fin grid0.N, win0_7.index t = ![1, 0])
theorem index8 : ∀ t : Fin cfg0.N, win0_8.index t = ![2, 0] :=
  (by decide +kernel : ∀ t : Fin grid0.N, win0_8.index t = ![2, 0])
theorem index9 : ∀ t : Fin cfg0.N, win0_9.index t = ![3, 0] :=
  (by decide +kernel : ∀ t : Fin grid0.N, win0_9.index t = ![3, 0])
theorem index10 : ∀ t : Fin cfg0.N, win0_10.index t = ![4, 0] :=
  (by decide +kernel : ∀ t : Fin grid0.N, win0_10.index t = ![4, 0])
theorem index11 : ∀ t : Fin cfg0.N, win0_11.index t = ![4, 0] :=
  (by decide +kernel : ∀ t : Fin grid0.N, win0_11.index t = ![4, 0])
theorem index12 : ∀ t : Fin cfg0.N, win0_12.index t = ![t.val, 0] :=
  (by decide +kernel : ∀ t : Fin grid0.N, win0_12.index t = ![t.val, 0])
theorem index13 : ∀ t : Fin cfg0.N, win0_13.index t = ![0, 0] :=
  (by decide +kernel : ∀ t : Fin grid0.N, win0_13.index t = ![0, 0])
theorem index14 : ∀ t : Fin cfg0.N, win0_14.index t = ![t.val, 0] :=
  (by decide +kernel : ∀ t : Fin grid0.N, win0_14.index t = ![t.val, 0])
theorem index15 : ∀ t : Fin cfg0.N, win0_15.index t = ![t.val, 0] :=
  (by decide +kernel : ∀ t : Fin grid0.N, win0_15.index t = ![t.val, 0])
theorem index16 : ∀ t : Fin cfg0.N, win0_16.index t = ![0, 0] :=
  (by decide +kernel : ∀ t : Fin grid0.N, win0_16.index t = ![0, 0])

theorem s_block0 (b : Fin 8) (r : Fin 512) (f : Fin 512) :
    (iblk m c 0 (pt b) : Vec Ideal S512x512 .bf16) (ix2 r f) = arg0 m c (ix3 0 (row b r) (lane 576 (by decide) f)) := by
  refine Eq.trans ?_ ((congrFun (op0 m c) (ix2 (row b r) f)).trans ((read_piece 576 (by decide) _ _ _ _).trans (read_table _ _ _)))
  blk_simp [iblk]
  congr 1
  blk_ext [index0, pt, row]

theorem s_block1 (b : Fin 8) (r : Fin 512) (f : Fin 512) :
    (iblk m c 1 (pt b) : Vec Ideal S512x512 .bf16) (ix2 r f) = arg0 m c (ix3 0 (row b r) (lane 1088 (by decide) f)) := by
  refine Eq.trans ?_ ((congrFun (op1 m c) (ix2 (row b r) f)).trans ((read_piece 1088 (by decide) _ _ _ _).trans (read_table _ _ _)))
  blk_simp [iblk]
  congr 1
  blk_ext [index1, pt, row]

theorem s_block2 (b : Fin 8) (r : Fin 512) (f : Fin 512) :
    (iblk m c 2 (pt b) : Vec Ideal S512x512 .bf16) (ix2 r f) = arg0 m c (ix3 0 (row b r) (lane 1600 (by decide) f)) := by
  refine Eq.trans ?_ ((congrFun (op2 m c) (ix2 (row b r) f)).trans ((read_piece 1600 (by decide) _ _ _ _).trans (read_table _ _ _)))
  blk_simp [iblk]
  congr 1
  blk_ext [index2, pt, row]

theorem s_block3 (b : Fin 8) (r : Fin 512) (f : Fin 512) :
    (iblk m c 3 (pt b) : Vec Ideal S512x512 .bf16) (ix2 r f) = arg0 m c (ix3 0 (row b r) (lane 2112 (by decide) f)) := by
  refine Eq.trans ?_ ((congrFun (op3 m c) (ix2 (row b r) f)).trans ((read_piece 2112 (by decide) _ _ _ _).trans (read_table _ _ _)))
  blk_simp [iblk]
  congr 1
  blk_ext [index3, pt, row]

theorem s_block4 (b : Fin 8) (r : Fin 512) (f : Fin 512) :
    (iblk m c 4 (pt b) : Vec Ideal S512x512 .bf16) (ix2 r f) = arg0 m c (ix3 0 (row b r) (lane 2624 (by decide) f)) := by
  refine Eq.trans ?_ ((congrFun (op4 m c) (ix2 (row b r) f)).trans ((read_piece 2624 (by decide) _ _ _ _).trans (read_table _ _ _)))
  blk_simp [iblk]
  congr 1
  blk_ext [index4, pt, row]

theorem s_block5 (b : Fin 8) (r : Fin 512) (f : Fin 640) : (iblk m c 5 (pt b) : Vec Ideal S512x640 .bf16) (ix2 r f)
    = if h : f.val < 576 then arg0 m c (ix3 0 (row b r) ⟨f.val, by omega⟩) else 0 := by
  refine Eq.trans ?_ ((congrFun (op5 m c) (ix2 (row b r) f)).trans ((read6 _ _ _).trans ?_))
  · blk_simp [iblk]
    congr 1
    blk_ext [index5, pt, row]
  · exact dite_congr rfl (fun h => read_table _ _ _) fun _ => rfl

theorem w_block0 (b : Fin 8) (f : Fin 512) (j : Fin 1024) :
    (X0_6 m c (pt b) : Vec Ideal S512x1024 .bf16) (ix2 f j) = arg1 m c (ix2 j (lane 576 (by decide) f)) := by
  refine Eq.trans ?_ ((congrFun (opw m c) (ix2 ⟨512 * 0 + f.val, by omega⟩ j)).trans ((read_w _ _ _).trans
    (wRow_lane (fun l => arg1 m c (ix2 j l)) 0 (by decide) 576 (by decide) rfl f)))
  unfold X0_6 Pipeline.Window.fill
  rw [dif_pos (moved0_6 (pt b) _)]
  blk_simp [iblk]
  congr 1
  blk_ext [index6, pt]

theorem w_block1 (b : Fin 8) (f : Fin 512) (j : Fin 1024) :
    (X0_7 m c (pt b) : Vec Ideal S512x1024 .bf16) (ix2 f j) = arg1 m c (ix2 j (lane 1088 (by decide) f)) := by
  refine Eq.trans ?_ ((congrFun (opw m c) (ix2 ⟨512 * 1 + f.val, by omega⟩ j)).trans ((read_w _ _ _).trans
    (wRow_lane (fun l => arg1 m c (ix2 j l)) 1 (by decide) 1088 (by decide) rfl f)))
  unfold X0_7 Pipeline.Window.fill
  rw [dif_pos (moved0_7 (pt b) _)]
  blk_simp [iblk]
  congr 1
  blk_ext [index7, pt]

theorem w_block2 (b : Fin 8) (f : Fin 512) (j : Fin 1024) :
    (X0_8 m c (pt b) : Vec Ideal S512x1024 .bf16) (ix2 f j) = arg1 m c (ix2 j (lane 1600 (by decide) f)) := by
  refine Eq.trans ?_ ((congrFun (opw m c) (ix2 ⟨512 * 2 + f.val, by omega⟩ j)).trans ((read_w _ _ _).trans
    (wRow_lane (fun l => arg1 m c (ix2 j l)) 2 (by decide) 1600 (by decide) rfl f)))
  unfold X0_8 Pipeline.Window.fill
  rw [dif_pos (moved0_8 (pt b) _)]
  blk_simp [iblk]
  congr 1
  blk_ext [index8, pt]

theorem w_block3 (b : Fin 8) (f : Fin 512) (j : Fin 1024) :
    (X0_9 m c (pt b) : Vec Ideal S512x1024 .bf16) (ix2 f j) = arg1 m c (ix2 j (lane 2112 (by decide) f)) := by
  refine Eq.trans ?_ ((congrFun (opw m c) (ix2 ⟨512 * 3 + f.val, by omega⟩ j)).trans ((read_w _ _ _).trans
    (wRow_lane (fun l => arg1 m c (ix2 j l)) 3 (by decide) 2112 (by decide) rfl f)))
  unfold X0_9 Pipeline.Window.fill
  rw [dif_pos (moved0_9 (pt b) _)]
  blk_simp [iblk]
  congr 1
  blk_ext [index9, pt]

theorem w_block4 (b : Fin 8) (f : Fin 512) (j : Fin 1024) :
    (X0_10 m c (pt b) : Vec Ideal S512x1024 .bf16) (ix2 f j) = arg1 m c (ix2 j (lane 2624 (by decide) f)) := by
  refine Eq.trans ?_ ((congrFun (opw m c) (ix2 ⟨512 * 4 + f.val, by omega⟩ j)).trans ((read_w _ _ _).trans
    (wRow_lane (fun l => arg1 m c (ix2 j l)) 4 (by decide) 2624 (by decide) rfl f)))
  unfold X0_10 Pipeline.Window.fill
  rw [dif_pos (moved0_10 (pt b) _)]
  blk_simp [iblk]
  congr 1
  blk_ext [index10, pt]

theorem w_block5 (b : Fin 8) (f : Fin 640) (j : Fin 1024) : (iblk m c 11 (pt b) : Vec Ideal S640x1024 .bf16) (ix2 f j)
    = if h : f.val < 576 then arg1 m c (ix2 j ⟨f.val, by omega⟩) else 0 := by
  refine Eq.trans ?_ ((congrFun (opw m c) (ix2 ⟨2560 + f.val, by omega⟩ j)).trans ((read_w _ _ _).trans (wRow_last (fun l => arg1 m c (ix2 j l)) f)))
  blk_simp [iblk]
  congr 1
  blk_ext [index11, pt]

theorem x_block (b : Fin 8) (r : Fin 512) (j : Fin 1024) : (iblk m c 12 (pt b) : Vec Ideal S512x1024 .f32) (ix2 r j) = arg2 m c (ix3 0 (row b r) j) := by
  refine Eq.trans ?_ ((congrFun (opx m c) (ix2 (row b r) j)).trans (x_rows _ _ _))
  blk_simp [iblk]
  congr 1
  blk_ext [index12, pt, row]

theorem g_block (b : Fin 8) (j : Fin 1024) : (iblk m c 13 (pt b) : Vec Ideal S1x1024 .f32) (ix2 0 j) = arg3 m c (ix1 j) := by
  refine Eq.trans ?_ ((congrFun (opg m c) (ix2 0 j)).trans (g_row _ _))
  blk_simp [iblk]
  congr 1
  blk_ext [index13]

theorem d_block (b : Fin 8) (r : Fin 512) (j : Fin 1024) : (iblk m c 14 (pt b) : Vec Ideal S512x1024 .f32) (ix2 r j) = arg4 m c (ix3 0 (row b r) j) := by
  refine Eq.trans ?_ ((congrFun (opd m c) (ix2 (row b r) j)).trans (x_rows _ _ _))
  blk_simp [iblk]
  congr 1
  blk_ext [index14, pt, row]

/-! ## The rows -/

/-- The gradient of the normed row `r`. -/
def hOf (P : Vec Ideal S1x4096x3136 .f32) (W : Vec Ideal S1024x3136 .f32) (r : Fin 4096) : Fin 1024 → EReal :=
  dRow (fun l => P (ix3 0 r l)) (fun j l => W (ix2 j l))

/-- The gradient of the norm's weights. -/
def gOf (P : Vec Ideal S1x4096x3136 .f32) (W : Vec Ideal S1024x3136 .f32) (X : Vec Ideal S1x4096x1024 .f32) (j : Fin 1024) : EReal :=
  ∑ r : Fin 4096, part (fun k => X (ix3 0 r k)) (hOf P W r) j

theorem gOf_blocks (P : Vec Ideal S1x4096x3136 .f32) (W : Vec Ideal S1024x3136 .f32) (X : Vec Ideal S1x4096x1024 .f32) (j : Fin 1024) :
    gOf P W X j = ∑ b : Fin 8, ∑ r : Fin 512, part (fun k => X (ix3 0 (row b r) k)) (hOf P W (row b r)) j := by
  unfold gOf
  rw [Sums.sum_blocks 8 512 (fun r : Fin 4096 => part (fun k => X (ix3 0 r k)) (hOf P W r) j)]
  refine Finset.sum_congr rfl fun b _ => Finset.sum_congr rfl fun r _ => ?_
  have e : (finProdFinEquiv (b, r) : Fin (8 * 512)) = row b r := Fin.ext (by show r.val + 512 * b.val = 512 * b.val + r.val; omega)
  rw [e]

theorem h_point (b : Fin 8) (r : Fin 512) (j : Fin 1024) :
    k0_pay5 (four m c (pt b)) (fifth m c (pt b)) (iblk m c 5 (pt b)) (iblk m c 11 (pt b)) (ix2 r j) = hOf (arg0 m c) (arg1 m c) (row b r) j := by
  rw [h_apply]
  simp only [s_block0, s_block1, s_block2, s_block3, s_block4, s_block5, w_block0, w_block1, w_block2, w_block3, w_block4, w_block5]
  refine Eq.trans ?_ (split (fun l => arg0 m c (ix3 0 (row b r) l) * arg1 m c (ix2 j l)))
  refine congrArg _ (Finset.sum_congr rfl fun f _ => ?_)
  by_cases h : f.val < 576
  · rw [dif_pos h, dif_pos h, dif_pos h]
  · rw [dif_neg h, dif_neg h, dif_neg h, mul_zero]

theorem acc (j : Fin 1024) : (outsAt0 m c (pt 7).val (pt 7).isLt).2 (ix2 0 j) = gOf (arg0 m c) (arg1 m c) (arg2 m c) j := by
  rw [gOf_blocks]
  refine Sums.accumulate 8 (fun b hb => (outsAt0 m c (pt ⟨b, hb⟩).val (pt ⟨b, hb⟩).isLt).2 (ix2 0 j))
    (fun b hb => ∑ r : Fin 512, part (fun k => arg2 m c (ix3 0 (row ⟨b, hb⟩ r) k)) (hOf (arg0 m c) (arg1 m c) (row ⟨b, hb⟩ r)) j)
    (fun hb => ?_) (fun b hb => ?_) 7 (by decide)
  · rw [first m c (pt ⟨0, hb⟩) rfl, part_apply, start_apply, zero_add]
    simp only [x_block, h_point]
  · rw [next m c (pt ⟨b + 1, hb⟩) (by show ¬ (b + 1) % 8 = 0; omega), part_apply]
    simp only [x_block, h_point]
    rfl

theorem acc' (i : Fin 1) (j : Fin 1024) : (outsAt0 m c (pt 7).val (pt 7).isLt).2 (ix2 i j) = gOf (arg0 m c) (arg1 m c) (arg2 m c) j := by
  obtain rfl : i = 0 := Subsingleton.elim _ _
  exact acc m c j

/-! ## The arrays after the run -/

theorem d_point (b : Fin 8) (r : Fin 512) (j : Fin 1024) : (outsAt0 m c (pt b).val (pt b).isLt).1 (ix2 r j)
    = gradRow (arg4 m c (ix3 0 (row b r) j)) (fun k => arg2 m c (ix3 0 (row b r) k)) (fun k => arg3 m c (ix1 k)) (hOf (arg0 m c) (arg1 m c) (row b r)) j := by
  rw [grad_at, grad_apply]
  simp only [x_block, g_block, d_block, h_point]

theorem final_d : (dats m 0 c).arrAt 15 cfg0.N = (fun i => gradRow (arg4 m c (ix3 0 (i 0) (i 1))) (fun k => arg2 m c (ix3 0 (i 0) k)) (fun k => arg3 m c (ix1 k))
    (hOf (arg0 m c) (arg1 m c) (i 0)) (i 1) : Vec Ideal S4096x1024 .f32) := by
  refine (dats m 0 c).arrAt_eq_of_covers 15 _ (by decide +kernel) fun t hf y => ?_
  obtain ⟨b, rfl⟩ := pt_surj t
  blk_simp
  rw [after0_15]
  refine (congrArg _ (eq_ix2 y)).trans ((d_point m c b (y 0) (y 1)).trans ?_)
  have e : (((cfg0.win 15).blk (pt b)).view.emb y) = (ix2 (row b (y 0)) (y 1) : S4096x1024.Idx) := by
    blk_ext [index15, pt, row]
  blk_simp at e
  rw [e]
  rfl

theorem final_g : (dats m 0 c).arrAt 16 cfg0.N = (fun i => gOf (arg0 m c) (arg1 m c) (arg2 m c) (i 1) : Vec Ideal S1x1024 .f32) := by
  refine (dats m 0 c).arrAt_eq_of_covers 16 _ (by decide +kernel) fun t hf y => ?_
  obtain rfl : t = pt 7 := by
    have h7 : t.val % 8 = 7 := (by decide +kernel : ∀ t : Fin cfg0.N, (cfg0.win 16).flush t = true → t.val % 8 = 7) t hf
    exact Fin.ext (by have := lt_of_lt_of_eq t.isLt N_0; show t.val = 7; omega)
  blk_simp
  rw [after0_16]
  refine (congrArg _ (eq_ix2 y)).trans ((acc' m c (y 0) (y 1)).trans ?_)
  have e : (((cfg0.win 16).blk (pt 7)).view.emb y) = (ix2 (y 0) (y 1) : S1x1024.Idx) := by
    blk_ext [index16, pt]
  blk_simp at e
  rw [e]
  rfl

end kernel

/-! ## The reference -/

section reference

open Cert.Reference8Ideal Cert.Reference8Ideal.Read

variable (p : Vec Ideal S1x4096x3136 .f32) (w : Vec Ideal S1024x3136 .f32) (x : Vec Ideal S1x4096x1024 .f32) (g : Vec Ideal S1024 .f32) (d : Vec Ideal S1x4096x1024 .f32)

theorem ref_h (r : Fin 4096) (j : Fin 1024) : val_main_v17 (F := Ideal) p w (ix3 0 r j) = hOf p w r j := by
  unfold hOf dRow
  pointwise [val_main_v17]

theorem ref_mean (r : Fin 4096) : val_main_v6 (F := Ideal) x (ix3 0 r 0) = (∑ k, x (ix3 0 r k) * x (ix3 0 r k)) * inv1024 + eps := by
  pointwise [val_main_v6, val_main_v5, val_main_v4, val_main_v3, val_main_v2, val_main_v1, val_main_v0, val_main_cst, val_main_cst_0, val_main_cst_1]
  rw [div1024]

theorem ref_scale (r : Fin 4096) : val_main_v7 (F := Ideal) x (ix3 0 r 0) = scale inv1024 (fun k => x (ix3 0 r k)) := by
  unfold scale
  rw [← ref_mean]
  pointwise [val_main_v7]

theorem ref_g (i : Fin 1) (j : Fin 1024) : val_main_v41 (F := Ideal) p w x (ix2 i j) = gOf p w x j := by
  obtain rfl : i = 0 := Subsingleton.elim _ _
  unfold gOf part
  simp only [← ref_h, ← ref_scale]
  refine Eq.trans ?_ (Finset.sum_congr rfl fun r _ =>
    show x (ix3 0 r j) * val_main_v7 (F := Ideal) x (ix3 0 r 0) * val_main_v17 (F := Ideal) p w (ix3 0 r j) = _ from by
      rw [mul_comm, mul_assoc])
  have e : val_main_v41 (F := Ideal) p w x (ix2 0 j) = val_main_v23 (F := Ideal) p w x (ix1 j) := by
    pointwise [val_main_v41]
  rw [e]
  refine (sum_row (val_main_v20 (F := Ideal) p w x) j).trans ?_
  pointwise [val_main_v20, val_main_v19, val_main_v18, val_main_v12, val_main_v11, val_main_cst_3, Fin.sum_univ_one]

theorem ref_chain (r : Fin 4096) : val_main_v32 (F := Ideal) p w x g (ix3 0 r 0) = chain (fun k => x (ix3 0 r k)) (fun k => g (ix1 k)) (hOf p w r) := by
  unfold chain
  simp only [← ref_h, ← ref_scale]
  rw [← div1024]
  pointwise [val_main_v32, val_main_v31, val_main_v30, val_main_v26, val_main_v25, val_main_v24, val_main_v22, val_main_v21,
    val_main_v13, val_main_v10, val_main_v9, val_main_v8, val_main_cst_2, val_main_cst_5, val_main_cst_6]
  rw [ref_mean]

theorem ref_spread (r : Fin 4096) (j : Fin 1024) :
    val_main_v35 (F := Ideal) p w x g (ix3 0 r j) = chain (fun k => x (ix3 0 r k)) (fun k => g (ix1 k)) (hOf p w r) := by
  rw [← ref_chain]
  refine Eq.trans ?_ (sum_column (val_main_v32 (F := Ideal) p w x g) r)
  have e : val_main_v35 (F := Ideal) p w x g (ix3 0 r j) = val_main_v33 (F := Ideal) p w x g (ix1 r) := by
    pointwise [val_main_v35, val_main_v34]
  exact e

theorem ref_d (r : Fin 4096) (j : Fin 1024) : val_main_v40 (F := Ideal) p w x g d (ix2 r j)
    = gradRow (d (ix3 0 r j)) (fun k => x (ix3 0 r k)) (fun k => g (ix1 k)) (hOf p w r) j := by
  rw [← gradRow_chain, ← ref_spread p w x g r j, ← ref_h, ← ref_scale]
  pointwise [val_main_v40, val_main_v39, val_main_v38, val_main_v37, val_main_v36, val_main_v29, val_main_v28, val_main_v27, val_main_v22, val_main_v21,
    val_main_v13]

end reference

/-! ## The claims -/

theorem algebraic : @Cert.algebraic_Kernel8Ideal_Reference8Ideal Cert.Kernel8Ideal.Gen.facts Cert.Reference8Ideal.Gen.facts := by
  intro m g m' g' _ hagree
  refine ⟨fun c => (Cert.Kernel8Ideal.Gen.dats m 0 c).arrAt 15 Cert.Kernel8Ideal.cfg0.N,
    fun c => (Cert.Kernel8Ideal.Gen.dats m 0 c).arrAt 16 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨r0, r1, rest⟩ := h c
  obtain ⟨a0, a1, a2, a3, a4⟩ := hagree c
  refine ⟨r0.trans ?_, r1.trans ?_, rest⟩
  · refine Eq.trans ?_ (final_d m c).symm
    rw [Cert.Reference8Ideal.Read.val_main_v40_eq, a0, a1, a2, a3, a4]
    funext i
    idx_vars i
    exact ref_d _ _ _ _ _ _ _
  · refine Eq.trans ?_ (final_g m c).symm
    rw [Cert.Reference8Ideal.Read.val_main_v41_eq, a0, a1, a2]
    funext i
    idx_vars i
    exact ref_g _ _ _ _ _

theorem frame_reference : @Cert.quiescent_Reference8Ideal Cert.Reference8Ideal.Gen.facts := fun m g _ =>
  (θ_run Cert.Reference8Ideal.defs _ _).mono (fun r h => ⟨fun c => (h c).2.2, sem_eq_zero_of_no_sems (by decide) r.2⟩)
    (Cert.Reference8Ideal.Value.run (F := Ideal) m g)

end Cert.Proof.MixIn

end
-- ==== Proof.FwdIn.lean ====
/-
  The mixer's in-projection: the root mean square norm of the input, and the product of the normed rows with the
  projection's weights, whose columns come in the order of the six pieces, filled up with zeros. The call goes over eight
  blocks of 512 rows.
-/
module

public import proofs.«01_k».proof.Defs
public import proofs.«01_k».proof.Proof.MixIn
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueIdx
public import Idealize.ShloMosaic.PureOps.Ideal.Laws

@[expose] public section

noncomputable section

namespace Cert.Proof.FwdIn

open Idealize.ShloMosaic
open Cert.Proof.Norm
open Cert.Proof.FfnIn (normRow x_rows g_row)
open Cert.Proof.MixIn (wRow ordered read_w)
open scoped BigOperators

/-- The product of a normed row with one column of the ordered weights. -/
def zRow (x g : Fin 1024 → EReal) (w : Fin 1024 → Fin 3136 → EReal) (l : Fin 3200) : EReal := ∑ k, normRow x g k * wRow (w k) l

section kernel

open Cert.Kernel9Ideal Cert.Kernel9Ideal.Gen

/-! ## The values in the body -/

theorem norm_apply (X : Vec Ideal S512x1024 .f32) (G : Vec Ideal S1x1024 .f32) (r : Fin 512) (j : Fin 1024) :
    k0_pay1 X G (ix2 r j) = normRow (fun j => X (ix2 r j)) (fun j => G (ix2 0 j)) j := by
  unfold normRow scale
  pointwise [k0_pay1]

theorem z_apply (X : Vec Ideal S512x1024 .f32) (G : Vec Ideal S1x1024 .f32) (W : Vec Ideal S3200x1024 .bf16) (r : Fin 512) (l : Fin 3200) :
    k0_pay2 X G W (ix2 r l) = ∑ k, k0_pay1 X G (ix2 r k) * W (ix2 l k) := by
  pointwise [k0_pay2]

variable (m : (ℓ : Loc nD τ sig) → Buf (Elt Ideal) ℓ) (c : Dev nD)

/-! ## What a point leaves -/

theorem h_at (t : Fin cfg0.N) : out0_3 (iblk m c 0 t) (iblk m c 1 t) (iblk m c 2 t) = k0_pay1 (iblk m c 0 t) (iblk m c 1 t) := by
  frame_out

theorem z_at (t : Fin cfg0.N) : out0_4 (iblk m c 0 t) (iblk m c 1 t) (iblk m c 2 t) = k0_pay2 (iblk m c 0 t) (iblk m c 1 t) (iblk m c 2 t) := by
  frame_out

/-! ## The operands as the host makes them -/

/-- The arguments: the rows, the norm's weights, the projection's weights. -/
abbrev arg0 : Vec Ideal S1x4096x1024 .f32 := m ((c.tc : Thread nD τ).loc main_arg0)
abbrev arg1 : Vec Ideal S1024 .f32 := m ((c.tc : Thread nD τ).loc main_arg1)
abbrev arg2 : Vec Ideal S1024x3136 .f32 := m ((c.tc : Thread nD τ).loc main_arg2)

theorem opx : V m c main_v0 = (shapeCast S4096x1024 (arg0 m c) shapeCasts_S1x4096x1024_S4096x1024 : Vec Ideal S4096x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem opg : V m c main_v1 = (shapeCast S1x1024 (arg1 m c) shapeCasts_S1024_S1x1024 : Vec Ideal S1x1024 .f32) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

theorem opw : V m c main_v8 = (ordered (arg2 m c) : Vec Ideal S3200x1024 .bf16) := by
  unfold_abbrev_sides
  simp only [StableHlo.TRef.binary, StableHlo.TRef.unary, StableHlo.TRef.toBuf, StableHlo.TRef.ofBuf, cast_eq, List.flatten_cons, List.flatten_nil, List.cons_append, List.nil_append, List.append_nil]
  after_results_simp
  rfl

/-! ## The blocks of the operands -/

/-- The grid point of row block `b`, and its row `r`. -/
def pt (b : Fin 8) : Fin cfg0.N := ⟨b.val, lt_of_lt_of_eq b.isLt N_0.symm⟩
def row (b : Fin 8) (r : Fin 512) : Fin 4096 := ⟨512 * b.val + r.val, by omega⟩

theorem pt_surj (t : Fin cfg0.N) : ∃ b : Fin 8, t = pt b := ⟨⟨t.val, lt_of_lt_of_eq t.isLt N_0⟩, rfl⟩

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])

theorem x_block (b : Fin 8) (r : Fin 512) (j : Fin 1024) : (iblk m c 0 (pt b) : Vec Ideal S512x1024 .f32) (ix2 r j) = arg0 m c (ix3 0 (row b r) j) := by
  refine Eq.trans ?_ ((congrFun (opx m c) (ix2 (row b r) j)).trans (x_rows _ _ _))
  blk_simp [iblk]
  congr 1
  blk_ext [index0, pt, row]

theorem g_block (b : Fin 8) (j : Fin 1024) : (iblk m c 1 (pt b) : Vec Ideal S1x1024 .f32) (ix2 0 j) = arg1 m c (ix1 j) := by
  refine Eq.trans ?_ ((congrFun (opg m c) (ix2 0 j)).trans (g_row _ _))
  blk_simp [iblk]
  congr 1
  blk_ext [index1]

theorem w_block (b : Fin 8) (l : Fin 3200) (k : Fin 1024) :
    (iblk m c 2 (pt b) : Vec Ideal S3200x1024 .bf16) (ix2 l k) = wRow (fun l => arg2 m c (ix2 k l)) l := by
  refine Eq.trans ?_ ((congrFun (opw m c) (ix2 l k)).trans (read_w _ _ _))
  blk_simp [iblk]
  congr 1
  blk_ext [index2]

/-! ## The arrays after the run -/

/-- The normed row `r` of the arguments, and its product. -/
def hOf (X : Vec Ideal S1x4096x1024 .f32) (G : Vec Ideal S1024 .f32) (r : Fin 4096) : Fin 1024 → EReal :=
  normRow (fun k => X (ix3 0 r k)) (fun k => G (ix1 k))

def zOf (X : Vec Ideal S1x4096x1024 .f32) (G : Vec Ideal S1024 .f32) (W : Vec Ideal S1024x3136 .f32) (r : Fin 4096) : Fin 3200 → EReal :=
  zRow (fun k => X (ix3 0 r k)) (fun k => G (ix1 k)) (fun k l => W (ix2 k l))

theorem h_point (b : Fin 8) (r : Fin 512) (j : Fin 1024) :
    out0_3 (iblk m c 0 (pt b)) (iblk m c 1 (pt b)) (iblk m c 2 (pt b)) (ix2 r j) = hOf (arg0 m c) (arg1 m c) (row b r) j := by
  rw [h_at, norm_apply]
  simp only [x_block, g_block]
  rfl

theorem z_point (b : Fin 8) (r : Fin 512) (l : Fin 3200) :
    out0_4 (iblk m c 0 (pt b)) (iblk m c 1 (pt b)) (iblk m c 2 (pt b)) (ix2 r l) = zOf (arg0 m c) (arg1 m c) (arg2 m c) (row b r) l := by
  rw [z_at, z_apply]
  simp only [norm_apply, x_block, g_block, w_block]
  rfl

theorem final_h : (dats m 0 c).arrAt 3 cfg0.N = (fun i => hOf (arg0 m c) (arg1 m c) (i 0) (i 1) : Vec Ideal S4096x1024 .bf16) := by
  refine (dats m 0 c).arrAt_eq_of_covers 3 _ (by decide +kernel) fun t hf y => ?_
  obtain ⟨b, rfl⟩ := pt_surj t
  blk_simp
  rw [after0_3]
  refine (congrArg _ (eq_ix2 y)).trans ((h_point m c b (y 0) (y 1)).trans ?_)
  have e : (((cfg0.win 3).blk (pt b)).view.emb y) = (ix2 (row b (y 0)) (y 1) : S4096x1024.Idx) := by
    blk_ext [index3, pt, row]
  blk_simp at e
  rw [e]
  rfl

theorem final_z : (dats m 0 c).arrAt 4 cfg0.N = (fun i => zOf (arg0 m c) (arg1 m c) (arg2 m c) (i 0) (i 1) : Vec Ideal S4096x3200 .f32) := by
  refine (dats m 0 c).arrAt_eq_of_covers 4 _ (by decide +kernel) fun t hf y => ?_
  obtain ⟨b, rfl⟩ := pt_surj t
  blk_simp
  rw [after0_4]
  refine (congrArg _ (eq_ix2 y)).trans ((z_point m c b (y 0) (y 1)).trans ?_)
  have e : (((cfg0.win 4).blk (pt b)).view.emb y) = (ix2 (row b (y 0)) (y 1) : S4096x3200.Idx) := by
    blk_ext [index4, pt, row]
  blk_simp at e
  rw [e]
  rfl

end kernel

/-! ## The reference -/

section reference

open Cert.Reference9Ideal Cert.Reference9Ideal.Read

variable (x : Vec Ideal S1x4096x1024 .f32) (g : Vec Ideal S1024 .f32) (w : Vec Ideal S1024x3136 .f32)

theorem ref_norm (r : Fin 4096) (j : Fin 1024) : val_main_v12 (F := Ideal) x g (ix3 0 r j) = hOf x g r j := by
  unfold hOf normRow scale
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rw [div1024]

theorem ref_h (r : Fin 4096) (j : Fin 1024) : val_main_v16 (F := Ideal) x g (ix2 r j) = hOf x g r j := by
  rw [← ref_norm]
  pointwise [val_main_v16, val_main_v15]

theorem ref_z (r : Fin 4096) (l : Fin 3136) : val_main_v14 (F := Ideal) x g w (ix2 r l) = ∑ k, hOf x g r k * w (ix2 k l) := by
  simp only [← ref_norm]
  pointwise [val_main_v14, val_main_v13]

theorem ref_back (r : Fin 4096) (l : Fin 2560) : val_main_v17 (F := Ideal) x g w (ix2 r l) = ∑ k, hOf x g r k * w (ix2 k ⟨576 + l.val, by omega⟩) :=
  (extractStridedSlice_apply _ _ _ _ (ix2 r (⟨576 + l.val, by omega⟩ : Fin 3136)) fun a => by fin_cases a <;> simp).trans (ref_z x g w r _)

theorem ref_front (r : Fin 4096) (l : Fin 576) : val_main_v18 (F := Ideal) x g w (ix2 r l) = ∑ k, hOf x g r k * w (ix2 k ⟨l.val, by omega⟩) :=
  (extractStridedSlice_apply _ _ _ _ (ix2 r (⟨l.val, by omega⟩ : Fin 3136)) fun a => by fin_cases a <;> simp).trans (ref_z x g w r _)

theorem ref_zero (r : Fin 4096) (l : Fin 64) : val_main_v19 (F := Ideal) (ix2 r l) = (0 : EReal) := by
  pointwise [val_main_v19, val_main_cst_2]

theorem read_cat (a : Vec Ideal S4096x2560 .f32) (b : Vec Ideal S4096x576 .f32) (z : Vec Ideal S4096x64 .f32)
    (h : Shape.Concatenates [S4096x2560, S4096x576, S4096x64] S4096x3200 1) (r : Fin 4096) (l : Fin 3200) :
    concatenate S4096x3200 1 [⟨S4096x2560, a⟩, ⟨S4096x576, b⟩, ⟨S4096x64, z⟩] h (ix2 r l)
      = if h : l.val < 2560 then a (ix2 r ⟨l.val, h⟩) else if h : l.val - 2560 < 576 then b (ix2 r ⟨l.val - 2560, h⟩)
        else z (ix2 r ⟨l.val - 2560 - 576, by omega⟩) := by
  pointwise

theorem ref_cat (r : Fin 4096) (l : Fin 3200) : val_main_v20 (F := Ideal) x g w (ix2 r l) = zOf x g w r l := by
  unfold val_main_v20 zOf zRow
  refine (read_cat _ _ _ _ _ _).trans ?_
  by_cases h : l.val < 2560
  · rw [dif_pos h]
    refine (ref_back _ _ _ _ _).trans (Finset.sum_congr rfl fun k _ => congrArg (hOf x g r k * ·) ?_)
    unfold wRow
    rw [dif_pos (by omega), dif_pos h]
  · rw [dif_neg h]
    by_cases h' : l.val - 2560 < 576
    · rw [dif_pos h']
      refine (ref_front _ _ _ _ _).trans (Finset.sum_congr rfl fun k _ => congrArg (hOf x g r k * ·) ?_)
      unfold wRow
      rw [dif_pos (by omega), dif_neg h]
    · rw [dif_neg h']
      refine (ref_zero _ _).trans (Eq.symm (Finset.sum_eq_zero fun k _ => ?_))
      unfold wRow
      rw [dif_neg (by omega), mul_zero]

end reference

/-! ## The claims -/

theorem algebraic : @Cert.algebraic_Kernel9Ideal_Reference9Ideal Cert.Kernel9Ideal.Gen.facts Cert.Reference9Ideal.Gen.facts := by
  intro m g m' g' _ hagree
  refine ⟨fun c => (Cert.Kernel9Ideal.Gen.dats m 0 c).arrAt 3 Cert.Kernel9Ideal.cfg0.N,
    fun c => (Cert.Kernel9Ideal.Gen.dats m 0 c).arrAt 4 Cert.Kernel9Ideal.cfg0.N, Cert.Kernel9Ideal.Value.run_blocks m g, ?_⟩
  refine (θ_run Cert.Reference9Ideal.defs _ _).mono (fun r h c => ?_) (Cert.Reference9Ideal.Value.run (F := Ideal) m' g')
  obtain ⟨r0, r1, rest⟩ := h c
  obtain ⟨a0, a1, a2⟩ := hagree c
  refine ⟨r0.trans ?_, r1.trans ?_, rest⟩
  · refine Eq.trans ?_ (final_h m c).symm
    rw [Cert.Reference9Ideal.Read.val_main_v16_eq, a0, a1]
    funext i
    idx_vars i
    exact ref_h _ _ _ _
  · refine Eq.trans ?_ (final_z m c).symm
    rw [Cert.Reference9Ideal.Read.val_main_v20_eq, a0, a1, a2]
    funext i
    idx_vars i
    exact ref_cat _ _ _ _ _

theorem frame_reference : @Cert.quiescent_Reference9Ideal Cert.Reference9Ideal.Gen.facts := fun m g _ =>
  (θ_run Cert.Reference9Ideal.defs _ _).mono (fun r h => ⟨fun c => (h c).2.2, sem_eq_zero_of_no_sems (by decide) r.2⟩)
    (Cert.Reference9Ideal.Value.run (F := Ideal) m g)

end Cert.Proof.FwdIn

end
-- ==== Proof.lean ====
/-
  The certificate. The first call is the gradient of the attention with respect to its queries, keys and values, and its
  claims are put together here: the values come from `Accum` (the kernel's three results as real expressions of its
  operands), `Host` (what the host code gives it) and `Ref` (the reference's three results as the same real expressions).
  The other calls have a module each, with the claim about values and the reference's frame: `Mix`, `Hidden`, `FfnIn`,
  `Weights`, `Attn`, `InWeights`, `MixIn` and `FwdIn`. The kernels' frames are the generated ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Host
public import proofs.«01_k».proof.Proof.Ref
public import proofs.«01_k».proof.Proof.Finite
public import proofs.«01_k».proof.Proof.Mix
public import proofs.«01_k».proof.Proof.Hidden
public import proofs.«01_k».proof.Proof.FfnIn
public import proofs.«01_k».proof.Proof.Weights
public import proofs.«01_k».proof.Proof.Attn
public import proofs.«01_k».proof.Proof.InWeights
public import proofs.«01_k».proof.Proof.MixIn
public import proofs.«01_k».proof.Proof.FwdIn
public import Idealize.ShloMosaic.Adequacy
public import Idealize.ShloMosaic.Init

@[expose] public section

noncomputable section

namespace Cert.Proof

open Idealize.ShloMosaic Idealize.SL.Sem
open Cert.Proof.Math hiding c
open Cert.Proof.Accum (lane Arrays)

/-! ## The arguments as real numbers -/

section arguments

variable (m : (ℓ : Loc Cert.KernelIdeal.nD Cert.KernelIdeal.τ Cert.KernelIdeal.sig) → Buf (Elt Ideal) ℓ) (c : Dev Cert.KernelIdeal.nD)

/-- The queries, by head, row and feature. -/
def queries (h : Fin 4) (i : Fin 4096) (d : Fin 192) : ℝ :=
  EReal.toReal ((m ((c.tc : Thread Cert.KernelIdeal.nD Cert.KernelIdeal.τ).loc Cert.KernelIdeal.main_arg0) :
    Vec Ideal Cert.KernelIdeal.S1x4096x4x192 .f32) (ix4 0 i h d))
/-- The keys. -/
def keys (h : Fin 4) (i : Fin 4096) (d : Fin 192) : ℝ :=
  EReal.toReal ((m ((c.tc : Thread Cert.KernelIdeal.nD Cert.KernelIdeal.τ).loc Cert.KernelIdeal.main_arg1) :
    Vec Ideal Cert.KernelIdeal.S1x4096x4x192 .f32) (ix4 0 i h d))
/-- The values. -/
def values (h : Fin 4) (i : Fin 4096) (d : Fin 128) : ℝ :=
  EReal.toReal ((m ((c.tc : Thread Cert.KernelIdeal.nD Cert.KernelIdeal.τ).loc Cert.KernelIdeal.main_arg2) :
    Vec Ideal Cert.KernelIdeal.S1x4096x4x128 .f32) (ix4 0 i h d))
/-- The gradient with respect to the attention's output. -/
def grads (h : Fin 4) (i : Fin 4096) (d : Fin 128) : ℝ :=
  EReal.toReal ((m ((c.tc : Thread Cert.KernelIdeal.nD Cert.KernelIdeal.τ).loc Cert.KernelIdeal.main_arg3) :
    Vec Ideal Cert.KernelIdeal.S1x4096x512 .f32) (ix3 0 i (lane h d)))

/-- Under the precondition the arguments hold these real numbers. -/
structure Real : Prop where
  query : ∀ h i d, (m ((c.tc : Thread Cert.KernelIdeal.nD Cert.KernelIdeal.τ).loc Cert.KernelIdeal.main_arg0) :
    Vec Ideal Cert.KernelIdeal.S1x4096x4x192 .f32) (ix4 0 i h d) = (queries m c h i d : EReal)
  key : ∀ h i d, (m ((c.tc : Thread Cert.KernelIdeal.nD Cert.KernelIdeal.τ).loc Cert.KernelIdeal.main_arg1) :
    Vec Ideal Cert.KernelIdeal.S1x4096x4x192 .f32) (ix4 0 i h d) = (keys m c h i d : EReal)
  value : ∀ h i d, (m ((c.tc : Thread Cert.KernelIdeal.nD Cert.KernelIdeal.τ).loc Cert.KernelIdeal.main_arg2) :
    Vec Ideal Cert.KernelIdeal.S1x4096x4x128 .f32) (ix4 0 i h d) = (values m c h i d : EReal)
  grad : ∀ h i d, (m ((c.tc : Thread Cert.KernelIdeal.nD Cert.KernelIdeal.τ).loc Cert.KernelIdeal.main_arg3) :
    Vec Ideal Cert.KernelIdeal.S1x4096x512 .f32) (ix3 0 i (lane h d)) = (grads m c h i d : EReal)

theorem real_of_pre (hpre : @Cert.Pre_KernelIdeal_finite Finite.facts m) : Real m c := by
  obtain ⟨h0, h1, h2, h3⟩ := hpre c
  exact ⟨fun h i d => (Finite.real _ _ _ _ (congrFun h0 (ix4 0 i h d))).symm,
    fun h i d => (Finite.real _ _ _ _ (congrFun h1 (ix4 0 i h d))).symm,
    fun h i d => (Finite.real _ _ _ _ (congrFun h2 (ix4 0 i h d))).symm,
    fun h i d => (Finite.real _ _ _ _ (congrFun h3 (ix3 0 i (lane h d)))).symm⟩

end arguments

/-! ## The claims -/

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

theorem preserves : Cert.preserves_Kernel_KernelIdeal :=
  ⟨IdealRules.named_const.statement Cert.KernelIdeal.κ "scale2" .f32 _ _ rfl,
    IdealRules.named_const.statement Cert.KernelIdeal.κ "scale" .f32 _ _ rfl⟩

theorem algebraic : @Cert.algebraic_KernelIdeal_ReferenceIdeal_pre_finite Cert.KernelIdeal.Gen.facts Cert.ReferenceIdeal.Gen.facts Finite.facts := by
  intro m g m' g' hpre hagree
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨r0, r1, r2, rest⟩ := h c
  obtain ⟨a0, a1, a2, a3⟩ := hagree c
  have R := real_of_pre m c hpre
  have A := Host.arrays m c _ _ _ _ R.query R.key R.value R.grad
  refine ⟨r0.trans ?_, r1.trans ?_, r2.trans ?_, rest⟩
  · refine Eq.trans ?_ A.final_query.symm
    rw [Cert.ReferenceIdeal.Read.val_main_v62_eq, a0, a1, a2, a3]
    funext i
    idx_vars i
    refine (Ref.query_apply _ _ _ _ _ _ _ _ R.query R.key R.value R.grad _ _ _).trans ?_
    exact congrArg _ (gq_fill _ _ _ _ _ _).symm
  · refine Eq.trans ?_ A.final_key.symm
    rw [Cert.ReferenceIdeal.Read.val_main_v65_eq, a0, a1, a2, a3]
    funext i
    idx_vars i
    refine (Ref.key_apply _ _ _ _ _ _ _ _ R.query R.key R.value R.grad _ _ _).trans ?_
    exact congrArg _ (gk_fill _ _ _ _ _ _).symm
  · refine Eq.trans ?_ A.final_value.symm
    rw [a0, a1, a3, Cert.ReferenceIdeal.Read.val_main_v67_eq]
    funext i
    idx_vars i
    refine (Ref.gv_apply _ _ _ _ _ _ R.query R.key R.grad _ _ _).trans ?_
    rw [gv_fill]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Finite.facts, Hidden.facts, Attn.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, Mix.frame_reference,
    fun m g _ => Cert.Kernel3.Gen.frame m g, fun m g _ => Cert.Kernel3Ideal.Gen.frame m g, fun m g _ => Cert.Kernel3Ideal.Gen.frame m g,
    Hidden.frame_reference, fun m g _ => Hidden.frame_reference m g trivial,
    fun m g _ => Cert.Kernel4.Gen.frame m g, fun m g _ => Cert.Kernel4Ideal.Gen.frame m g, FfnIn.frame_reference,
    fun m g _ => Cert.Kernel5.Gen.frame m g, fun m g _ => Cert.Kernel5Ideal.Gen.frame m g, Weights.frame_reference,
    fun m g _ => Cert.Kernel6.Gen.frame m g, fun m g _ => Cert.Kernel6Ideal.Gen.frame m g, fun m g _ => Cert.Kernel6Ideal.Gen.frame m g,
    Attn.frame_reference, fun m g _ => Attn.frame_reference m g trivial,
    fun m g _ => Cert.Kernel7.Gen.frame m g, fun m g _ => Cert.Kernel7Ideal.Gen.frame m g, InWeights.frame_reference,
    fun m g _ => Cert.Kernel8.Gen.frame m g, fun m g _ => Cert.Kernel8Ideal.Gen.frame m g, MixIn.frame_reference,
    fun m g _ => Cert.Kernel9.Gen.frame m g, fun m g _ => Cert.Kernel9Ideal.Gen.frame m g, FwdIn.frame_reference,
    preserves, algebraic, trivial, Mix.algebraic, trivial, Hidden.algebraic, trivial, FfnIn.algebraic, trivial, Weights.algebraic,
    Attn.preserves, Attn.algebraic, trivial, InWeights.algebraic, trivial, MixIn.algebraic, trivial, FwdIn.algebraic⟩

end Cert.Proof

end
